-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ones [hPre_finite_and_ones : Cert.Pre_finite_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ones [hPre_finite_and_ones : Cert.Pre_finite_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts_in_range : Cert.Pre_experts_in_range.Facts] (m : (ℓ : Loc Cert.Kernel4.nD Cert.Kernel4.τ Cert.Kernel4.sig) → Buf (Elt Bits) ℓ) : Prop :=
  ∀ c : Dev Cert.Kernel4.nD,
    (Cert.Pre_experts_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_experts_in_range : Cert.Pre_experts_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts_in_range [hPre_experts_in_range : Cert.Pre_experts_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_heads [hPre_finite_heads : Cert.Pre_finite_heads.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_heads.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_heads [hPre_finite_heads : Cert.Pre_finite_heads.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_heads.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_keys [hPre_finite_keys : Cert.Pre_finite_keys.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_keys.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_keys [hPre_finite_keys : Cert.Pre_finite_keys.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_keys.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_ones [hKernelIdeal : Cert.KernelIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_ones [hReferenceIdeal : Cert.ReferenceIdeal.Facts] [hPre_finite_and_ones : Cert.Pre_finite_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] [hPre_experts_in_range : Cert.Pre_experts_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_experts_in_range : Cert.Pre_experts_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_experts_in_range [hReference4Ideal : Cert.Reference4Ideal.Facts] [hPre_experts_in_range : Cert.Pre_experts_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts_in_range m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Kernel5Ideal_pre_finite_heads [hKernel5Ideal : Cert.Kernel5Ideal.Facts] [hPre_finite_heads : Cert.Pre_finite_heads.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_heads m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Reference5Ideal_pre_finite_heads [hReference5Ideal : Cert.Reference5Ideal.Facts] [hPre_finite_heads : Cert.Pre_finite_heads.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_heads m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_keys [hKernel6Ideal : Cert.Kernel6Ideal.Facts] [hPre_finite_keys : Cert.Pre_finite_keys.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_keys m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_keys [hReference6Ideal : Cert.Reference6Ideal.Facts] [hPre_finite_keys : Cert.Pre_finite_keys.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_keys m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_pre_finite_and_ones [hKernelIdeal : Cert.KernelIdeal.Facts] [hReferenceIdeal : Cert.ReferenceIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] [hPre_experts_in_range : Cert.Pre_experts_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite_heads [hKernel5Ideal : Cert.Kernel5Ideal.Facts] [hReference5Ideal : Cert.Reference5Ideal.Facts] [hPre_finite_heads : Cert.Pre_finite_heads.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_heads m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal_pre_finite_keys [hKernel6Ideal : Cert.Kernel6Ideal.Facts] [hReference6Ideal : Cert.Reference6Ideal.Facts] [hPre_finite_keys : Cert.Pre_finite_keys.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_keys m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v9_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v13)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v13) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v22) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_and_ones : Cert.Pre_finite_and_ones.Facts) (hPre_experts_in_range : Cert.Pre_experts_in_range.Facts) (hPre_finite_heads : Cert.Pre_finite_heads.Facts) (hPre_finite_keys : Cert.Pre_finite_keys.Facts),
    quiescent_Kernel (hKernel := hKernel)
    ∧ quiescent_KernelIdeal (hKernelIdeal := hKernelIdeal)
    ∧ quiescent_KernelIdeal_pre_finite_and_ones (hKernelIdeal := hKernelIdeal) (hPre_finite_and_ones := hPre_finite_and_ones)
    ∧ quiescent_ReferenceIdeal (hReferenceIdeal := hReferenceIdeal)
    ∧ quiescent_ReferenceIdeal_pre_finite_and_ones (hReferenceIdeal := hReferenceIdeal) (hPre_finite_and_ones := hPre_finite_and_ones)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts_in_range := hPre_experts_in_range)
    ∧ quiescent_Kernel4Ideal (hKernel4Ideal := hKernel4Ideal) (hPre_experts_in_range := hPre_experts_in_range)
    ∧ quiescent_Reference4Ideal (hReference4Ideal := hReference4Ideal)
    ∧ quiescent_Reference4Ideal_pre_experts_in_range (hReference4Ideal := hReference4Ideal) (hPre_experts_in_range := hPre_experts_in_range)
    ∧ quiescent_Kernel5 (hKernel5 := hKernel5)
    ∧ quiescent_Kernel5Ideal (hKernel5Ideal := hKernel5Ideal)
    ∧ quiescent_Kernel5Ideal_pre_finite_heads (hKernel5Ideal := hKernel5Ideal) (hPre_finite_heads := hPre_finite_heads)
    ∧ quiescent_Reference5Ideal (hReference5Ideal := hReference5Ideal)
    ∧ quiescent_Reference5Ideal_pre_finite_heads (hReference5Ideal := hReference5Ideal) (hPre_finite_heads := hPre_finite_heads)
    ∧ quiescent_Kernel6 (hKernel6 := hKernel6)
    ∧ quiescent_Kernel6Ideal (hKernel6Ideal := hKernel6Ideal)
    ∧ quiescent_Kernel6Ideal_pre_finite_keys (hKernel6Ideal := hKernel6Ideal) (hPre_finite_keys := hPre_finite_keys)
    ∧ quiescent_Reference6Ideal (hReference6Ideal := hReference6Ideal)
    ∧ quiescent_Reference6Ideal_pre_finite_keys (hReference6Ideal := hReference6Ideal) (hPre_finite_keys := hPre_finite_keys)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_and_ones (hKernelIdeal := hKernelIdeal) (hReferenceIdeal := hReferenceIdeal) (hPre_finite_and_ones := hPre_finite_and_ones)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_experts_in_range := hPre_experts_in_range)
    ∧ preserves_Kernel5_Kernel5Ideal
    ∧ algebraic_Kernel5Ideal_Reference5Ideal_pre_finite_heads (hKernel5Ideal := hKernel5Ideal) (hReference5Ideal := hReference5Ideal) (hPre_finite_heads := hPre_finite_heads)
    ∧ preserves_Kernel6_Kernel6Ideal
    ∧ algebraic_Kernel6Ideal_Reference6Ideal_pre_finite_keys (hKernel6Ideal := hKernel6Ideal) (hReference6Ideal := hReference6Ideal) (hPre_finite_keys := hPre_finite_keys)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_experts_in_range.lean ====
abbrev S140 : Shape := ⟨1, ![140]⟩
abbrev S1 : Shape := ⟨1, ![1]⟩
abbrev S8x71680x128 : Shape := ⟨3, ![8, 71680, 128]⟩
abbrev S8x1024x1408 : Shape := ⟨3, ![8, 1024, 1408]⟩
abbrev S8x1408x1024 : Shape := ⟨3, ![8, 1408, 1024]⟩
abbrev S_ : Shape := ⟨0, ![]⟩

class Facts : Prop where
  bcast_S_S140 : S_.BroadcastsInDim S140 (![] : Fin 0 → Fin S140.rank)
  reducesTo_S140_S_d0 : S140.ReducesTo [0] S_
  h_S_ : 0 < S_.numel

variable [Facts]

def fn {F : FTy → Type} [FloatOps F] (main_arg0 : IVec S140 32) (main_arg1 : IVec S1 32) (main_arg2 : FVec F S8x71680x128 .f32) (main_arg3 : FVec F S8x1024x1408 .bf16) (main_arg4 : FVec F S8x1024x1408 .bf16) (main_arg5 : FVec F S8x1408x1024 .bf16) : IVec S_ 1 :=
  let main_c : IVec S_ 32 := constantI S_ 32 0#32
  let main_v0 : IVec S140 32 := broadcastInDim S140 ![] bcast_S_S140 main_c
  let main_v1 : IVec S140 1 := cmpi .sge main_arg0 main_v0
  let main_c_0 : IVec S_ 32 := constantI S_ 32 8#32
  let main_v2 : IVec S140 32 := broadcastInDim S140 ![] bcast_S_S140 main_c_0
  let main_v3 : IVec S140 1 := cmpi .slt main_arg0 main_v2
  let main_v4 : IVec S140 1 := andi main_v1 main_v3
  let main_c_1 : IVec S_ 1 := constantI S_ 1 1#1
  let main_v5 : IVec S_ 1 := (fun x v => Host.reduce IntOp.andi x v reducesTo_S140_S_d0 h_S_) main_v4 main_c_1
  main_v5
-- ==== Pre_finite_and_ones.lean ====
abbrev S8x4x2x4096x64 : Shape := ⟨5, ![8, 4, 2, 4096, 64]⟩
abbrev S8x4x64x4608 : Shape := ⟨4, ![8, 4, 64, 4608]⟩
abbrev S8x4x4608x128 : Shape := ⟨4, ![8, 4, 4608, 128]⟩
abbrev S4x32 : Shape := ⟨2, ![4, 32]⟩
abbrev S64 : Shape := ⟨1, ![64]⟩
abbrev S8x4x4608x1 : Shape := ⟨4, ![8, 4, 4608, 1]⟩
abbrev S8x4x4608 : Shape := ⟨3, ![8, 4, 4608]⟩
abbrev S_ : Shape := ⟨0, ![]⟩

class Facts : Prop where
  slices_S8x4x4608x128_S8x4x4608x1_0_0_0_64 : S8x4x4608x128.Slices ![0, 0, 0, 64] S8x4x4608x1
  shapeCasts_S8x4x4608x1_S8x4x4608 : S8x4x4608x1.ShapeCasts S8x4x4608
  bitsLt_bf16_f32 : FTy.bits .bf16 < FTy.bits .f32
  bcast_S_S8x4x4608 : S_.BroadcastsInDim S8x4x4608 (![] : Fin 0 → Fin S8x4x4608.rank)
  reducesTo_S8x4x4608_S_d0_1_2 : S8x4x4608.ReducesTo [0, 1, 2] S_
  h_S_ : 0 < S_.numel
  bcast_S_S8x4x2x4096x64 : S_.BroadcastsInDim S8x4x2x4096x64 (![] : Fin 0 → Fin S8x4x2x4096x64.rank)
  reducesTo_S8x4x2x4096x64_S_d0_1_2_3_4 : S8x4x2x4096x64.ReducesTo [0, 1, 2, 3, 4] S_
  bcast_S_S8x4x64x4608 : S_.BroadcastsInDim S8x4x64x4608 (![] : Fin 0 → Fin S8x4x64x4608.rank)
  reducesTo_S8x4x64x4608_S_d0_1_2_3 : S8x4x64x4608.ReducesTo [0, 1, 2, 3] S_
  bcast_S_S8x4x4608x128 : S_.BroadcastsInDim S8x4x4608x128 (![] : Fin 0 → Fin S8x4x4608x128.rank)
  reducesTo_S8x4x4608x128_S_d0_1_2_3 : S8x4x4608x128.ReducesTo [0, 1, 2, 3] S_
  bcast_S_S4x32 : S_.BroadcastsInDim S4x32 (![] : Fin 0 → Fin S4x32.rank)
  reducesTo_S4x32_S_d0_1 : S4x32.ReducesTo [0, 1] S_

variable [Facts]

def fn_part1 {F : FTy → Type} [FloatOps F] (main_arg3 : FVec F S4x32 .f32) (main_v5 : IVec S_ 1) (main_v16 : IVec S_ 1) (main_v17 : FVec F S8x4x4608x128 .f32) : IVec S_ 1 :=
  let main_v18 : FVec F S8x4x4608x128 .f32 := Host.absf main_v17
  let main_cst_4 : FVec F S_ .f32 := constant S_ .f32 0x7F800000#32
  let main_v19 : FVec F S8x4x4608x128 .f32 := broadcastInDim S8x4x4608x128 ![] bcast_S_S8x4x4608x128 main_cst_4
  let main_v20 : IVec S8x4x4608x128 1 := cmpf .olt main_v18 main_v19
  let main_c_5 : IVec S_ 1 := constantI S_ 1 1#1
  let main_v21 : IVec S_ 1 := (fun x v => Host.reduce IntOp.andi x v reducesTo_S8x4x4608x128_S_d0_1_2_3 h_S_) main_v20 main_c_5
  let main_v22 : IVec S_ 1 := andi main_v16 main_v21
  let main_v23 : FVec F S4x32 .f32 := Host.absf main_arg3
  let main_cst_6 : FVec F S_ .f32 := constant S_ .f32 0x7F800000#32
  let main_v24 : FVec F S4x32 .f32 := broadcastInDim S4x32 ![] bcast_S_S4x32 main_cst_6
  let main_v25 : IVec S4x32 1 := cmpf .olt main_v23 main_v24
  let main_c_7 : IVec S_ 1 := constantI S_ 1 1#1
  let main_v26 : IVec S_ 1 := (fun x v => Host.reduce IntOp.andi x v reducesTo_S4x32_S_d0_1 h_S_) main_v25 main_c_7
  let main_v27 : IVec S_ 1 := andi main_v22 main_v26
  let main_v28 : IVec S_ 1 := andi main_v27 main_v5
  main_v28

def fn {F : FTy → Type} [FloatOps F] (main_arg0 : FVec F S8x4x2x4096x64 .bf16) (main_arg1 : FVec F S8x4x64x4608 .bf16) (main_arg2 : FVec F S8x4x4608x128 .bf16) (main_arg3 : FVec F S4x32 .f32) (main_arg4 : FVec F S64 .f32) : IVec S_ 1 :=
  let main_v0 : FVec F S8x4x4608x1 .bf16 := (extractStridedSlice S8x4x4608x1 ![0, 0, 0, 64] · slices_S8x4x4608x128_S8x4x4608x1_0_0_0_64) main_arg2
  let main_v1 : FVec F S8x4x4608 .bf16 := shapeCast S8x4x4608 main_v0 shapeCasts_S8x4x4608x1_S8x4x4608
  let main_v2 : FVec F S8x4x4608 .f32 := (extf .f32 · bitsLt_bf16_f32) main_v1
  let main_cst : FVec F S_ .f32 := constant S_ .f32 0x3F800000#32
  let main_v3 : FVec F S8x4x4608 .f32 := broadcastInDim S8x4x4608 ![] bcast_S_S8x4x4608 main_cst
  let main_v4 : IVec S8x4x4608 1 := cmpf .oeq main_v2 main_v3
  let main_c : IVec S_ 1 := constantI S_ 1 1#1
  let main_v5 : IVec S_ 1 := (fun x v => Host.reduce IntOp.andi x v reducesTo_S8x4x4608_S_d0_1_2 h_S_) main_v4 main_c
  let main_v6 : FVec F S8x4x2x4096x64 .f32 := (extf .f32 · bitsLt_bf16_f32) main_arg0
  let main_v7 : FVec F S8x4x2x4096x64 .f32 := Host.absf main_v6
  let main_cst_0 : FVec F S_ .f32 := constant S_ .f32 0x7F800000#32
  let main_v8 : FVec F S8x4x2x4096x64 .f32 := broadcastInDim S8x4x2x4096x64 ![] bcast_S_S8x4x2x4096x64 main_cst_0
  let main_v9 : IVec S8x4x2x4096x64 1 := cmpf .olt main_v7 main_v8
  let main_c_1 : IVec S_ 1 := constantI S_ 1 1#1
  let main_v10 : IVec S_ 1 := (fun x v => Host.reduce IntOp.andi x v reducesTo_S8x4x2x4096x64_S_d0_1_2_3_4 h_S_) main_v9 main_c_1
  let main_v11 : FVec F S8x4x64x4608 .f32 := (extf .f32 · bitsLt_bf16_f32) main_arg1
  let main_v12 : FVec F S8x4x64x4608 .f32 := Host.absf main_v11
  let main_cst_2 : FVec F S_ .f32 := constant S_ .f32 0x7F800000#32
  let main_v13 : FVec F S8x4x64x4608 .f32 := broadcastInDim S8x4x64x4608 ![] bcast_S_S8x4x64x4608 main_cst_2
  let main_v14 : IVec S8x4x64x4608 1 := cmpf .olt main_v12 main_v13
  let main_c_3 : IVec S_ 1 := constantI S_ 1 1#1
  let main_v15 : IVec S_ 1 := (fun x v => Host.reduce IntOp.andi x v reducesTo_S8x4x64x4608_S_d0_1_2_3 h_S_) main_v14 main_c_3
  let main_v16 : IVec S_ 1 := andi main_v10 main_v15
  let main_v17 : FVec F S8x4x4608x128 .f32 := (extf .f32 · bitsLt_bf16_f32) main_arg2
  fn_part1 (F := F) main_arg3 main_v5 main_v16 main_v17
-- ==== Pre_finite_heads.lean ====
abbrev S8x4096x256 : Shape := ⟨3, ![8, 4096, 256]⟩
abbrev S8x4096x3712 : Shape := ⟨3, ![8, 4096, 3712]⟩
abbrev S8x4x4096x64 : Shape := ⟨4, ![8, 4, 4096, 64]⟩
abbrev S8x4096x1024 : Shape := ⟨3, ![8, 4096, 1024]⟩
abbrev S8x6x1024 : Shape := ⟨3, ![8, 6, 1024]⟩
abbrev S64 : Shape := ⟨1, ![64]⟩
abbrev S1024x1024 : Shape := ⟨2, ![1024, 1024]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel

variable [Facts]

def fn_part1 {F : FTy → Type} [FloatOps F] (main_v13 : IVec S_ 1) (main_v16 : IVec S8x4096x256 1) : IVec S_ 1 :=
  let main_c_5 : IVec S_ 1 := constantI S_ 1 1#1
  let main_v17 : IVec S_ 1 := (fun x v => Host.reduce IntOp.andi x v reducesTo_S8x4096x256_S_d0_1_2 h_S_) main_v16 main_c_5
  let main_v18 : IVec S_ 1 := andi main_v13 main_v17
  main_v18

def fn {F : FTy → Type} [FloatOps F] (main_arg0 : FVec F S8x4096x256 .f32) (main_arg1 : FVec F S8x4096x256 .f32) (main_arg2 : FVec F S8x4096x3712 .f32) (main_arg3 : FVec F S8x4x4096x64 .f32) (main_arg4 : FVec F S8x4096x256 .f32) (main_arg5 : FVec F S8x4096x256 .f32) (main_arg6 : FVec F S8x4096x256 .f32) (main_arg7 : FVec F S8x4096x1024 .f32) (main_arg8 : FVec F S8x6x1024 .f32) (main_arg9 : FVec F S64 .f32) (main_arg10 : FVec F S64 .f32) (main_arg11 : FVec F S1024x1024 .bf16) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  let main_v9 : FVec F S8x4096x256 .f32 := Host.absf main_arg5
  let main_cst_2 : FVec F S_ .f32 := constant S_ .f32 0x7F800000#32
  let main_v10 : FVec F S8x4096x256 .f32 := broadcastInDim S8x4096x256 ![] bcast_S_S8x4096x256 main_cst_2
  let main_v11 : IVec S8x4096x256 1 := cmpf .olt main_v9 main_v10
  let main_c_3 : IVec S_ 1 := constantI S_ 1 1#1
  let main_v12 : IVec S_ 1 := (fun x v => Host.reduce IntOp.andi x v reducesTo_S8x4096x256_S_d0_1_2 h_S_) main_v11 main_c_3
  let main_v13 : IVec S_ 1 := andi main_v8 main_v12
  let main_v14 : FVec F S8x4096x256 .f32 := Host.absf main_arg6
  let main_cst_4 : FVec F S_ .f32 := constant S_ .f32 0x7F800000#32
  let main_v15 : FVec F S8x4096x256 .f32 := broadcastInDim S8x4096x256 ![] bcast_S_S8x4096x256 main_cst_4
  let main_v16 : IVec S8x4096x256 1 := cmpf .olt main_v14 main_v15
  fn_part1 (F := F) main_v13 main_v16
-- ==== Pre_finite_keys.lean ====
abbrev S32x256x3712 : Shape := ⟨3, ![32, 256, 3712]⟩
abbrev S32 : Shape := ⟨1, ![32]⟩
abbrev S32x256x256 : Shape := ⟨3, ![32, 256, 256]⟩
abbrev S_ : Shape := ⟨0, ![]⟩

class Facts : Prop where
  slices_S32x256x3712_S32x256x256_0_0_2560 : S32x256x3712.Slices ![0, 0, 2560] S32x256x256
  bcast_S_S32x256x256 : S_.BroadcastsInDim S32x256x256 (![] : Fin 0 → Fin S32x256x256.rank)
  reducesTo_S32x256x256_S_d0_1_2 : S32x256x256.ReducesTo [0, 1, 2] S_
  h_S_ : 0 < S_.numel

variable [Facts]

def fn {F : FTy → Type} [FloatOps F] (main_arg0 : FVec F S32x256x3712 .f32) (main_arg1 : FVec F S32 .f32) (main_arg2 : FVec F S32 .f32) : IVec S_ 1 :=
  let main_v0 : FVec F S32x256x256 .f32 := (extractStridedSlice S32x256x256 ![0, 0, 2560] · slices_S32x256x3712_S32x256x256_0_0_2560) main_arg0
  let main_v1 : FVec F S32x256x256 .f32 := Host.absf main_v0
  let main_cst : FVec F S_ .f32 := constant S_ .f32 0x7F800000#32
  let main_v2 : FVec F S32x256x256 .f32 := broadcastInDim S32x256x256 ![] bcast_S_S32x256x256 main_cst
  let main_v3 : IVec S32x256x256 1 := cmpf .olt main_v1 main_v2
  let main_c : IVec S_ 1 := constantI S_ 1 1#1
  let main_v4 : IVec S_ 1 := (fun x v => Host.reduce IntOp.andi x v reducesTo_S32x256x256_S_d0_1_2 h_S_) main_v3 main_c
  main_v4
-- ==== Kernel.lean ====
abbrev S8x4x2x4096x64 : Shape := ⟨5, ![8, 4, 2, 4096, 64]⟩
abbrev S8x4x64x4608 : Shape := ⟨4, ![8, 4, 64, 4608]⟩
abbrev S8x4x4608x128 : Shape := ⟨4, ![8, 4, 4608, 128]⟩
abbrev S4x32 : Shape := ⟨2, ![4, 32]⟩
abbrev S64 : Shape := ⟨1, ![64]⟩
abbrev S1x64 : Shape := ⟨2, ![1, 64]⟩
abbrev S8x4x4096x64 : Shape := ⟨4, ![8, 4, 4096, 64]⟩
abbrev S1x2x2x512x64 : Shape := ⟨5, ![1, 2, 2, 512, 64]⟩
abbrev S1x2x64x2304 : Shape := ⟨4, ![1, 2, 64, 2304]⟩
abbrev S1x2x2304x128 : Shape := ⟨4, ![1, 2, 2304, 128]⟩
abbrev S1x2x512x64 : Shape := ⟨4, ![1, 2, 512, 64]⟩
abbrev S2x2x512x128 : Shape := ⟨4, ![2, 2, 512, 128]⟩
abbrev S1x1x1x512x64 : Shape := ⟨5, ![1, 1, 1, 512, 64]⟩
abbrev S512x64 : Shape := ⟨2, ![512, 64]⟩
abbrev S1x1x64x2304 : Shape := ⟨4, ![1, 1, 64, 2304]⟩
abbrev S64x2304 : Shape := ⟨2, ![64, 2304]⟩
abbrev S512x2304 : Shape := ⟨2, ![512, 2304]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩
abbrev S1x1x2304x128 : Shape := ⟨4, ![1, 1, 2304, 128]⟩
abbrev S2304x128 : Shape := ⟨2, ![2304, 128]⟩
abbrev S1x32 : Shape := ⟨2, ![1, 32]⟩
abbrev S1 : Shape := ⟨1, ![1]⟩
abbrev S1x1 : Shape := ⟨2, ![1, 1]⟩
abbrev S1x1x512x64 : Shape := ⟨4, ![1, 1, 512, 64]⟩

abbrev nBuf : Space → Nat
  | .hbm => 7
  | .vmem => 12
  | .smem => 0
  | _ => 0

abbrev bufTy : (tb : Table) → Fin (tcTables nBuf tb) → BufTy
  | .hbm, ⟨0, _⟩ => ⟨S8x4x2x4096x64, .bf16⟩
  | .hbm, ⟨1, _⟩ => ⟨S8x4x64x4608, .bf16⟩
  | .hbm, ⟨2, _⟩ => ⟨S8x4x4608x128, .bf16⟩
  | .hbm, ⟨3, _⟩ => ⟨S4x32, .f32⟩
  | .hbm, ⟨4, _⟩ => ⟨S64, .f32⟩
  | .hbm, ⟨5, _⟩ => ⟨S1x64, .f32⟩
  | .hbm, ⟨6, _⟩ => ⟨S8x4x4096x64, .f32⟩
  | .local _ .vmem, ⟨0, _⟩ => ⟨S1x2x2x512x64, .bf16⟩
  | .local _ .vmem, ⟨1, _⟩ => ⟨S1x2x2x512x64, .bf16⟩
  | .local _ .vmem, ⟨2, _⟩ => ⟨S1x2x64x2304, .bf16⟩
  | .local _ .vmem, ⟨3, _⟩ => ⟨S1x2x64x2304, .bf16⟩
  | .local _ .vmem, ⟨4, _⟩ => ⟨S1x2x2304x128, .bf16⟩
  | .local _ .vmem, ⟨5, _⟩ => ⟨S1x2x2304x128, .bf16⟩
  | .local _ .vmem, ⟨6, _⟩ => ⟨S4x32, .f32⟩
  | .local _ .vmem, ⟨7, _⟩ => ⟨S1x64, .f32⟩
  | .local _ .vmem, ⟨8, _⟩ => ⟨S1x2x512x64, .f32⟩
  | .local _ .vmem, ⟨9, _⟩ => ⟨S1x2x512x64, .f32⟩
  | .local _ .vmem, ⟨10, _⟩ => ⟨S2x2x512x128, .f32⟩
  | .local _ .vmem, ⟨11, _⟩ => ⟨S2x2x512x128, .f32⟩
  | _, _ => ⟨S8x4x2x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![8, 2, 8, 2], ![false, false, false, false]⟩

def k0_cond2 (i : grid0.Coords) : BitVec 1 :=
  let arg3 : BitVec 32 := BitVec.ofNat 32 (i 3).val
  let c1_i32 : BitVec 32 := 1#32
  let v127 : BitVec 1 := Scalar.cmpi .eq arg3 c1_i32
  let v128 : BitVec 32 := Scalar.extui v127
  let c0_i32_126 : BitVec 32 := 0#32
  let v129 : BitVec 1 := Scalar.cmpi .ne v128 c0_i32_126
  v129

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat, arg3.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

abbrev stage0_0 : Fin 2 → Memref sig .tc .vmem S1x2x2x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x2x64x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x2x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S1x2x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== ReferenceIdeal.lean ====
abbrev S8x4x2x4096x64 : Shape := ⟨5, ![8, 4, 2, 4096, 64]⟩
abbrev S8x4x64x4608 : Shape := ⟨4, ![8, 4, 64, 4608]⟩
abbrev S8x4x4608x128 : Shape := ⟨4, ![8, 4, 4608, 128]⟩
abbrev S4x32 : Shape := ⟨2, ![4, 32]⟩
abbrev S64 : Shape := ⟨1, ![64]⟩
abbrev S8x4x2x4096x4608 : Shape := ⟨5, ![8, 4, 2, 4096, 4608]⟩
abbrev S_ : Shape := ⟨0, ![]⟩
abbrev S8x4x2x4096 : Shape := ⟨4, ![8, 4, 2, 4096]⟩
abbrev S8x4x2x4096x1 : Shape := ⟨5, ![8, 4, 2, 4096, 1]⟩
abbrev S1x32 : Shape := ⟨2, ![1, 32]⟩
abbrev S32 : Shape := ⟨1, ![32]⟩
abbrev S8x4x1x4096x4608 : Shape := ⟨5, ![8, 4, 1, 4096, 4608]⟩
abbrev S8x4x4096x4608 : Shape := ⟨4, ![8, 4, 4096, 4608]⟩
abbrev S8x4x4608x64 : Shape := ⟨4, ![8, 4, 4608, 64]⟩
abbrev S8x4x4096x64 : Shape := ⟨4, ![8, 4, 4096, 64]⟩
abbrev S8x4x4096 : Shape := ⟨3, ![8, 4, 4096]⟩
abbrev S8x4x4096x1 : Shape := ⟨4, ![8, 4, 4096, 1]⟩
abbrev S1x1x1x64 : Shape := ⟨4, ![1, 1, 1, 64]⟩

abbrev nBuf : Space → Nat
  | .hbm => 70
  | .vmem => 0
  | .smem => 0
  | _ => 0

abbrev bufTy : (tb : Table) → Fin (tcTables nBuf tb) → BufTy
  | .hbm, ⟨0, _⟩ => ⟨S8x4x2x4096x64, .bf16⟩
  | .hbm, ⟨1, _⟩ => ⟨S8x4x64x4608, .bf16⟩
  | .hbm, ⟨2, _⟩ => ⟨S8x4x4608x128, .bf16⟩
  | .hbm, ⟨3, _⟩ => ⟨S4x32, .f32⟩
  | .hbm, ⟨4, _⟩ => ⟨S64, .f32⟩
  | .hbm, ⟨5, _⟩ => ⟨S8x4x2x4096x64, .f32⟩
  | .hbm, ⟨6, _⟩ => ⟨S8x4x64x4608, .f32⟩
  | .hbm, ⟨7, _⟩ => ⟨S8x4x4608x128, .f32⟩
  | .hbm, ⟨8, _⟩ => ⟨S8x4x2x4096x4608, .f32⟩
  | .hbm, ⟨9, _⟩ => ⟨S_, .f32⟩
  | .hbm, ⟨10, _⟩ => ⟨S8x4x2x4096, .f32⟩
  | .hbm, ⟨11, _⟩ => ⟨S_, .f32⟩
  | .hbm, ⟨12, _⟩ => ⟨S8x4x2x4096, .f32⟩
  | .hbm, ⟨13, _⟩ => ⟨S8x4x2x4096, .f32⟩
  | .hbm, ⟨14, _⟩ => ⟨S8x4x2x4096x1, .f32⟩
  | .hbm, ⟨15, _⟩ => ⟨S8x4x2x4096x4608, .f32⟩
  | .hbm, ⟨16, _⟩ => ⟨S8x4x2x4096x4608, .f32⟩
  | .hbm, ⟨17, _⟩ => ⟨S8x4x2x4096x4608, .f32⟩
  | .hbm, ⟨18, _⟩ => ⟨S_, .f32⟩
  | .hbm, ⟨19, _⟩ => ⟨S8x4x2x4096, .f32⟩
  | .hbm, ⟨20, _⟩ => ⟨S8x4x2x4096x1, .f32⟩
  | .hbm, ⟨21, _⟩ => ⟨S8x4x2x4096x4608, .f32⟩
  | .hbm, ⟨22, _⟩ => ⟨S8x4x2x4096x4608, .f32⟩
  | .hbm, ⟨23, _⟩ => ⟨S1x32, .f32⟩
  | .hbm, ⟨24, _⟩ => ⟨S32, .f32⟩
  | .hbm, ⟨25, _⟩ => ⟨S1x32, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1x32, .f32⟩
  | .hbm, ⟨32, _⟩ => ⟨S32, .f32⟩
  | .hbm, ⟨33, _⟩ => ⟨S1x32, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8x4x1x4096x4608, .f32⟩
  | .hbm, ⟨43, _⟩ => ⟨S8x4x4096x4608, .f32⟩
  | .hbm, ⟨44, _⟩ => ⟨S8x4x1x4096x4608, .f32⟩
  | .hbm, ⟨45, _⟩ => ⟨S8x4x4096x4608, .f32⟩
  | .hbm, ⟨46, _⟩ => ⟨S8x4x4096x4608, .f32⟩
  | .hbm, ⟨47, _⟩ => ⟨S8x4x4096x4608, .f32⟩
  | .hbm, ⟨48, _⟩ => ⟨S8x4x4096x4608, .f32⟩
  | .hbm, ⟨49, _⟩ => ⟨S8x4x4608x64, .f32⟩
  | .hbm, ⟨50, _⟩ => ⟨S8x4x4096x64, .f32⟩
  | .hbm, ⟨51, _⟩ => ⟨S8x4x4096x64, .f32⟩
  | .hbm, ⟨52, _⟩ => ⟨S_, .f32⟩
  | .hbm, ⟨53, _⟩ => ⟨S8x4x4096, .f32⟩
  | .hbm, ⟨54, _⟩ => ⟨S8x4x4096x1, .f32⟩
  | .hbm, ⟨55, _⟩ => ⟨S_, .f32⟩
  | .hbm, ⟨56, _⟩ => ⟨S8x4x4096x1, .f32⟩
  | .hbm, ⟨57, _⟩ => ⟨S8x4x4096x1, .f32⟩
  | .hbm, ⟨58, _⟩ => ⟨S_, .f32⟩
  | .hbm, ⟨59, _⟩ => ⟨S8x4x4096x1, .f32⟩
  | .hbm, ⟨60, _⟩ => ⟨S8x4x4096x1, .f32⟩
  | .hbm, ⟨61, _⟩ => ⟨S8x4x4096x1, .f32⟩
  | .hbm, ⟨62, _⟩ => ⟨S8x4x4096x64, .f32⟩
  | .hbm, ⟨63, _⟩ => ⟨S8x4x4096x64, .f32⟩
  | .hbm, ⟨64, _⟩ => ⟨S1x1x1x64, .f32⟩
  | .hbm, ⟨65, _⟩ => ⟨S8x4x4096x64, .f32⟩
  | .hbm, ⟨66, _⟩ => ⟨S8x4x4096x64, .f32⟩
  | .hbm, ⟨67, _⟩ => ⟨S_, .f32⟩
  | .hbm, ⟨68, _⟩ => ⟨S8x4x4096x64, .f32⟩
  | .hbm, ⟨69, _⟩ => ⟨S8x4x4096x64, .f32⟩
  | _, _ => ⟨S8x4x2x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x6x1024 : Shape := ⟨3, ![8, 6, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x1024x1024 : Shape := ⟨3, ![1, 1024, 1024]⟩
abbrev S1x6x1024 : Shape := ⟨3, ![1, 6, 1024]⟩
abbrev S1024x256 : Shape := ⟨2, ![1024, 256]⟩
abbrev S256x1024 : Shape := ⟨2, ![256, 1024]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1x1024, .f32⟩
  | .hbm, ⟨7, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S256x1024, .bf16⟩
  | .local _ .vmem, ⟨10, _⟩ => ⟨S256x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S1024x1024, .bf16⟩
  | .local _ .vmem, ⟨14, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 4, 11], ![false, false, false]⟩

def k0_cond2 (i : grid0.Coords) : BitVec 1 :=
  let arg2 : BitVec 32 := BitVec.ofNat 32 (i 2).val
  let c10_i32 : BitVec 32 := 10#32
  let v25 : BitVec 1 := Scalar.cmpi .eq arg2 c10_i32
  let v26 : BitVec 32 := Scalar.extui v25
  let c0_i32_17 : BitVec 32 := 0#32
  let v27 : BitVec 1 := Scalar.cmpi .ne v26 c0_i32_17
  v27

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S8x4096x1024 : Shape := ⟨3, ![8, 4096, 1024]⟩
abbrev S8x6x1024 : Shape := ⟨3, ![8, 6, 1024]⟩
abbrev S1024 : Shape := ⟨1, ![1024]⟩
abbrev S1024x2816 : Shape := ⟨2, ![1024, 2816]⟩
abbrev S2816x1024 : Shape := ⟨2, ![2816, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S_, .f32⟩
  | .hbm, ⟨39, _⟩ => ⟨S8x4096x2816, .f32⟩
  | .hbm, ⟨40, _⟩ => ⟨S8x4096x2816, .f32⟩
  | .hbm, ⟨41, _⟩ => ⟨S_, .f32⟩
  | .hbm, ⟨42, _⟩ => ⟨S8x4096x2816, .f32⟩
  | .hbm, ⟨43, _⟩ => ⟨S8x4096x2816, .f32⟩
  | .hbm, ⟨44, _⟩ => ⟨S8x4096x2816, .f32⟩
  | .hbm, ⟨45, _⟩ => ⟨S8x4096x2816, .f32⟩
  | .hbm, ⟨46, _⟩ => ⟨S8x4096x2816, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6x1024 : Shape := ⟨3, ![8, 6, 1024]⟩
abbrev S1024 : Shape := ⟨1, ![1024]⟩
abbrev S1024x3712 : Shape := ⟨2, ![1024, 3712]⟩
abbrev S1x1024 : Shape := ⟨2, ![1, 1024]⟩
abbrev S8x4096x3712 : Shape := ⟨3, ![8, 4096, 3712]⟩
abbrev S1x512x1024 : Shape := ⟨3, ![1, 512, 1024]⟩
abbrev S1x6x1024 : Shape := ⟨3, ![1, 6, 1024]⟩
abbrev S1x512x3712 : Shape := ⟨3, ![1, 512, 3712]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x3712 : Shape := ⟨2, ![512, 3712]⟩

abbrev nBuf : Space → Nat
  | .hbm => 6
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x3712, .bf16⟩
  | .hbm, ⟨4, _⟩ => ⟨S1x1024, .f32⟩
  | .hbm, ⟨5, _⟩ => ⟨S8x4096x3712, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3712, .bf16⟩
  | .local _ .vmem, ⟨6, _⟩ => ⟨S1x512x3712, .f32⟩
  | .local _ .vmem, ⟨7, _⟩ => ⟨S1x512x3712, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x3712 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8x4096x1024 : Shape := ⟨3, ![8, 4096, 1024]⟩
abbrev S8x6x1024 : Shape := ⟨3, ![8, 6, 1024]⟩
abbrev S1024 : Shape := ⟨1, ![1024]⟩
abbrev S1024x3712 : Shape := ⟨2, ![1024, 3712]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3712 : Shape := ⟨3, ![8, 4096, 3712]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x3712, .bf16⟩
  | .hbm, ⟨4, _⟩ => ⟨S8x1x1024, .f32⟩
  | .hbm, ⟨5, _⟩ => ⟨S8x1x1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S1024x3712, .f32⟩
  | .hbm, ⟨30, _⟩ => ⟨S8x4096x3712, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel4.lean ====
abbrev S140 : Shape := ⟨1, ![140]⟩
abbrev S1 : Shape := ⟨1, ![1]⟩
abbrev S8x71680x128 : Shape := ⟨3, ![8, 71680, 128]⟩
abbrev S8x1024x1408 : Shape := ⟨3, ![8, 1024, 1408]⟩
abbrev S8x1408x1024 : Shape := ⟨3, ![8, 1408, 1024]⟩
abbrev S8x512x128 : Shape := ⟨3, ![8, 512, 128]⟩
abbrev S1x1024x1408 : Shape := ⟨3, ![1, 1024, 1408]⟩
abbrev S1x1408x1024 : Shape := ⟨3, ![1, 1408, 1024]⟩
abbrev S1x512x128 : Shape := ⟨3, ![1, 512, 128]⟩
abbrev S512x128 : Shape := ⟨2, ![512, 128]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 5
  | .vmem => 10
  | .smem => 2
  | _ => 0

abbrev bufTy : (tb : Table) → Fin (tcTables nBuf tb) → BufTy
  | .hbm, ⟨0, _⟩ => ⟨S8x71680x128, .f32⟩
  | .hbm, ⟨1, _⟩ => ⟨S8x1024x1408, .bf16⟩
  | .hbm, ⟨2, _⟩ => ⟨S8x1024x1408, .bf16⟩
  | .hbm, ⟨3, _⟩ => ⟨S8x1408x1024, .bf16⟩
  | .hbm, ⟨4, _⟩ => ⟨S8x71680x128, .f32⟩
  | .local _ .vmem, ⟨0, _⟩ => ⟨S8x512x128, .f32⟩
  | .local _ .vmem, ⟨1, _⟩ => ⟨S8x512x128, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S8x512x128, .f32⟩
  | .local _ .vmem, ⟨9, _⟩ => ⟨S8x512x128, .f32⟩
  | .local _ .smem, ⟨0, _⟩ => ⟨S140, .i32⟩
  | .local _ .smem, ⟨1, _⟩ => ⟨S1, .i32⟩
  | _, _ => ⟨S8x71680x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![140], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S140.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S140.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S140.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S140 : Shape := ⟨1, ![140]⟩
abbrev S1 : Shape := ⟨1, ![1]⟩
abbrev S8x71680x128 : Shape := ⟨3, ![8, 71680, 128]⟩
abbrev S8x1024x1408 : Shape := ⟨3, ![8, 1024, 1408]⟩
abbrev S8x1408x1024 : Shape := ⟨3, ![8, 1408, 1024]⟩
abbrev S71680x8x128 : Shape := ⟨3, ![71680, 8, 128]⟩
abbrev S140x512x1024 : Shape := ⟨3, ![140, 512, 1024]⟩
abbrev S8x1408x140x512 : Shape := ⟨4, ![8, 1408, 140, 512]⟩
abbrev S8x140x512x1408 : Shape := ⟨4, ![8, 140, 512, 1408]⟩
abbrev S_ : Shape := ⟨0, ![]⟩
abbrev S8x140x512x1024 : Shape := ⟨4, ![8, 140, 512, 1024]⟩
abbrev S1x140 : Shape := ⟨2, ![1, 140]⟩
abbrev S8 : Shape := ⟨1, ![8]⟩
abbrev S8x1 : Shape := ⟨2, ![8, 1]⟩
abbrev S8x140 : Shape := ⟨2, ![8, 140]⟩
abbrev S8x140x1x1 : Shape := ⟨4, ![8, 140, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S140, .i32⟩
  | .hbm, ⟨1, _⟩ => ⟨S1, .i32⟩
  | .hbm, ⟨2, _⟩ => ⟨S8x71680x128, .f32⟩
  | .hbm, ⟨3, _⟩ => ⟨S8x1024x1408, .bf16⟩
  | .hbm, ⟨4, _⟩ => ⟨S8x1024x1408, .bf16⟩
  | .hbm, ⟨5, _⟩ => ⟨S8x1408x1024, .bf16⟩
  | .hbm, ⟨6, _⟩ => ⟨S8x1024x1408, .f32⟩
  | .hbm, ⟨7, _⟩ => ⟨S8x1024x1408, .f32⟩
  | .hbm, ⟨8, _⟩ => ⟨S8x1408x1024, .f32⟩
  | .hbm, ⟨9, _⟩ => ⟨S71680x8x128, .f32⟩
  | .hbm, ⟨10, _⟩ => ⟨S140x512x1024, .f32⟩
  | .hbm, ⟨11, _⟩ => ⟨S8x1408x140x512, .f32⟩
  | .hbm, ⟨12, _⟩ => ⟨S8x140x512x1408, .f32⟩
  | .hbm, ⟨13, _⟩ => ⟨S8x1408x140x512, .f32⟩
  | .hbm, ⟨14, _⟩ => ⟨S8x140x512x1408, .f32⟩
  | .hbm, ⟨15, _⟩ => ⟨S8x140x512x1408, .f32⟩
  | .hbm, ⟨16, _⟩ => ⟨S8x140x512x1408, .f32⟩
  | .hbm, ⟨17, _⟩ => ⟨S_, .f32⟩
  | .hbm, ⟨18, _⟩ => ⟨S8x140x512x1408, .f32⟩
  | .hbm, ⟨19, _⟩ => ⟨S8x140x512x1408, .f32⟩
  | .hbm, ⟨20, _⟩ => ⟨S_, .f32⟩
  | .hbm, ⟨21, _⟩ => ⟨S8x140x512x1408, .f32⟩
  | .hbm, ⟨22, _⟩ => ⟨S8x140x512x1408, .f32⟩
  | .hbm, ⟨23, _⟩ => ⟨S8x140x512x1408, .f32⟩
  | .hbm, ⟨24, _⟩ => ⟨S8x140x512x1408, .f32⟩
  | .hbm, ⟨25, _⟩ => ⟨S8x140x512x1024, .f32⟩
  | .hbm, ⟨26, _⟩ => ⟨S1x140, .i32⟩
  | .hbm, ⟨27, _⟩ => ⟨S8, .i32⟩
  | .hbm, ⟨28, _⟩ => ⟨S8x1, .i32⟩
  | .hbm, ⟨29, _⟩ => ⟨S8x140, .i32⟩
  | .hbm, ⟨30, _⟩ => ⟨S8x140, .i32⟩
  | .hbm, ⟨31, _⟩ => ⟨S8x140, .i1⟩
  | .hbm, ⟨32, _⟩ => ⟨S140, .i32⟩
  | .hbm, ⟨33, _⟩ => ⟨S_, .i32⟩
  | .hbm, ⟨34, _⟩ => ⟨S140, .i32⟩
  | .hbm, ⟨35, _⟩ => ⟨S140, .i1⟩
  | .hbm, ⟨36, _⟩ => ⟨S1x140, .i1⟩
  | .hbm, ⟨37, _⟩ => ⟨S8x140, .i1⟩
  | .hbm, ⟨38, _⟩ => ⟨S8x140, .i1⟩
  | .hbm, ⟨39, _⟩ => ⟨S8x140x1x1, .i1⟩
  | .hbm, ⟨40, _⟩ => ⟨S_, .f32⟩
  | .hbm, ⟨41, _⟩ => ⟨S_, .f32⟩
  | .hbm, ⟨42, _⟩ => ⟨S8x140x512x1024, .i1⟩
  | .hbm, ⟨43, _⟩ => ⟨S8x140x512x1024, .f32⟩
  | .hbm, ⟨44, _⟩ => ⟨S8x140x512x1024, .f32⟩
  | .hbm, ⟨45, _⟩ => ⟨S_, .f32⟩
  | .hbm, ⟨46, _⟩ => ⟨S140x512x1024, .f32⟩
  | .hbm, ⟨47, _⟩ => ⟨S71680x8x128, .f32⟩
  | .hbm, ⟨48, _⟩ => ⟨S8x71680x128, .f32⟩
  | _, _ => ⟨S140, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_cst_0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Kernel5.lean ====
abbrev S8x4096x256 : Shape := ⟨3, ![8, 4096, 256]⟩
abbrev S8x4096x3712 : Shape := ⟨3, ![8, 4096, 3712]⟩
abbrev S8x4x4096x64 : Shape := ⟨4, ![8, 4, 4096, 64]⟩
abbrev S8x4096x1024 : Shape := ⟨3, ![8, 4096, 1024]⟩
abbrev S8x6x1024 : Shape := ⟨3, ![8, 6, 1024]⟩
abbrev S64 : Shape := ⟨1, ![64]⟩
abbrev S1024x1024 : Shape := ⟨2, ![1024, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S1x512x256 : Shape := ⟨3, ![1, 512, 256]⟩
abbrev S1x4x512x64 : Shape := ⟨4, ![1, 4, 512, 64]⟩
abbrev S1x512x1024 : Shape := ⟨3, ![1, 512, 1024]⟩
abbrev S1x6x1024 : Shape := ⟨3, ![1, 6, 1024]⟩
abbrev S512x256 : Shape := ⟨2, ![512, 256]⟩
abbrev S256x256 : Shape := ⟨2, ![256, 256]⟩
abbrev S256x1024 : Shape := ⟨2, ![256, 1024]⟩
abbrev S512x1024 : Shape := ⟨2, ![512, 1024]⟩
abbrev S1x1x512x64 : Shape := ⟨4, ![1, 1, 512, 64]⟩
abbrev S512x64 : Shape := ⟨2, ![512, 64]⟩
abbrev S64x1024 : Shape := ⟨2, ![64, 1024]⟩
abbrev S1x1x1024 : Shape := ⟨3, ![1, 1, 1024]⟩
abbrev S1x1024 : Shape := ⟨2, ![1, 1024]⟩

abbrev nBuf : Space → Nat
  | .hbm => 21
  | .vmem => 25
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x3712, .f32⟩
  | .hbm, ⟨3, _⟩ => ⟨S8x4x4096x64, .f32⟩
  | .hbm, ⟨4, _⟩ => ⟨S8x4096x256, .f32⟩
  | .hbm, ⟨5, _⟩ => ⟨S8x4096x256, .f32⟩
  | .hbm, ⟨6, _⟩ => ⟨S8x4096x256, .f32⟩
  | .hbm, ⟨7, _⟩ => ⟨S8x4096x1024, .f32⟩
  | .hbm, ⟨8, _⟩ => ⟨S8x6x1024, .f32⟩
  | .hbm, ⟨9, _⟩ => ⟨S64, .f32⟩
  | .hbm, ⟨10, _⟩ => ⟨S64, .f32⟩
  | .hbm, ⟨11, _⟩ => ⟨S1024x1024, .bf16⟩
  | .hbm, ⟨12, _⟩ => ⟨S1x64, .f32⟩
  | .hbm, ⟨13, _⟩ => ⟨S4x64, .f32⟩
  | .hbm, ⟨14, _⟩ => ⟨S256, .f32⟩
  | .hbm, ⟨15, _⟩ => ⟨S1x256, .f32⟩
  | .hbm, ⟨16, _⟩ => ⟨S1x64, .f32⟩
  | .hbm, ⟨17, _⟩ => ⟨S4x64, .f32⟩
  | .hbm, ⟨18, _⟩ => ⟨S256, .f32⟩
  | .hbm, ⟨19, _⟩ => ⟨S1x256, .f32⟩
  | .hbm, ⟨20, _⟩ => ⟨S8x4096x1024, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x4x512x64, .f32⟩
  | .local _ .vmem, ⟨7, _⟩ => ⟨S1x4x512x64, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x1024, .f32⟩
  | .local _ .vmem, ⟨17, _⟩ => ⟨S1x512x1024, .f32⟩
  | .local _ .vmem, ⟨18, _⟩ => ⟨S1x6x1024, .f32⟩
  | .local _ .vmem, ⟨19, _⟩ => ⟨S1x6x1024, .f32⟩
  | .local _ .vmem, ⟨20, _⟩ => ⟨S1x256, .f32⟩
  | .local _ .vmem, ⟨21, _⟩ => ⟨S1x256, .f32⟩
  | .local _ .vmem, ⟨22, _⟩ => ⟨S1024x1024, .bf16⟩
  | .local _ .vmem, ⟨23, _⟩ => ⟨S1x512x1024, .f32⟩
  | .local _ .vmem, ⟨24, _⟩ => ⟨S1x512x1024, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S8x4096x256 : Shape := ⟨3, ![8, 4096, 256]⟩
abbrev S8x4096x3712 : Shape := ⟨3, ![8, 4096, 3712]⟩
abbrev S8x4x4096x64 : Shape := ⟨4, ![8, 4, 4096, 64]⟩
abbrev S8x4096x1024 : Shape := ⟨3, ![8, 4096, 1024]⟩
abbrev S8x6x1024 : Shape := ⟨3, ![8, 6, 1024]⟩
abbrev S64 : Shape := ⟨1, ![64]⟩
abbrev S1024x1024 : Shape := ⟨2, ![1024, 1024]⟩
abbrev S8x4096x4x64 : Shape := ⟨4, ![8, 4096, 4, 64]⟩
abbrev S_ : Shape := ⟨0, ![]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S8x1x1024 : Shape := ⟨3, ![8, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x3712, .f32⟩
  | .hbm, ⟨3, _⟩ => ⟨S8x4x4096x64, .f32⟩
  | .hbm, ⟨4, _⟩ => ⟨S8x4096x256, .f32⟩
  | .hbm, ⟨5, _⟩ => ⟨S8x4096x256, .f32⟩
  | .hbm, ⟨6, _⟩ => ⟨S8x4096x256, .f32⟩
  | .hbm, ⟨7, _⟩ => ⟨S8x4096x1024, .f32⟩
  | .hbm, ⟨8, _⟩ => ⟨S8x6x1024, .f32⟩
  | .hbm, ⟨9, _⟩ => ⟨S64, .f32⟩
  | .hbm, ⟨10, _⟩ => ⟨S64, .f32⟩
  | .hbm, ⟨11, _⟩ => ⟨S1024x1024, .bf16⟩
  | .hbm, ⟨12, _⟩ => ⟨S8x4096x256, .f32⟩
  | .hbm, ⟨13, _⟩ => ⟨S8x4096x4x64, .f32⟩
  | .hbm, ⟨14, _⟩ => ⟨S8x4096x4x64, .f32⟩
  | .hbm, ⟨15, _⟩ => ⟨S_, .f32⟩
  | .hbm, ⟨16, _⟩ => ⟨S8x4096x4, .f32⟩
  | .hbm, ⟨17, _⟩ => ⟨S8x4096x4x1, .f32⟩
  | .hbm, ⟨18, _⟩ => ⟨S_, .f32⟩
  | .hbm, ⟨19, _⟩ => ⟨S8x4096x4x1, .f32⟩
  | .hbm, ⟨20, _⟩ => ⟨S8x4096x4x1, .f32⟩
  | .hbm, ⟨21, _⟩ => ⟨S_, .f32⟩
  | .hbm, ⟨22, _⟩ => ⟨S8x4096x4x1, .f32⟩
  | .hbm, ⟨23, _⟩ => ⟨S8x4096x4x1, .f32⟩
  | .hbm, ⟨24, _⟩ => ⟨S8x4096x4x1, .f32⟩
  | .hbm, ⟨25, _⟩ => ⟨S8x4096x4x64, .f32⟩
  | .hbm, ⟨26, _⟩ => ⟨S8x4096x4x64, .f32⟩
  | .hbm, ⟨27, _⟩ => ⟨S1x1x1x64, .f32⟩
  | .hbm, ⟨28, _⟩ => ⟨S8x4096x4x64, .f32⟩
  | .hbm, ⟨29, _⟩ => ⟨S8x4096x4x64, .f32⟩
  | .hbm, ⟨30, _⟩ => ⟨S8x4096x256, .f32⟩
  | .hbm, ⟨31, _⟩ => ⟨S8x4096x4x64, .f32⟩
  | .hbm, ⟨32, _⟩ => ⟨S8x4096x4x64, .f32⟩
  | .hbm, ⟨33, _⟩ => ⟨S8x4096x4x64, .f32⟩
  | .hbm, ⟨34, _⟩ => ⟨S_, .f32⟩
  | .hbm, ⟨35, _⟩ => ⟨S8x4096x4x64, .f32⟩
  | .hbm, ⟨36, _⟩ => ⟨S8x4096x4x64, .f32⟩
  | .hbm, ⟨37, _⟩ => ⟨S_, .f32⟩
  | .hbm, ⟨38, _⟩ => ⟨S8x4096x4x64, .f32⟩
  | .hbm, ⟨39, _⟩ => ⟨S8x4096x4x64, .f32⟩
  | .hbm, ⟨40, _⟩ => ⟨S8x4096x4x64, .f32⟩
  | .hbm, ⟨41, _⟩ => ⟨S8x4096x4x64, .f32⟩
  | .hbm, ⟨42, _⟩ => ⟨S8x4096x256, .f32⟩
  | .hbm, ⟨43, _⟩ => ⟨S8x4096x4x64, .f32⟩
  | .hbm, ⟨44, _⟩ => ⟨S8x4096x4x64, .f32⟩
  | .hbm, ⟨45, _⟩ => ⟨S_, .f32⟩
  | .hbm, ⟨46, _⟩ => ⟨S8x4096x4, .f32⟩
  | .hbm, ⟨47, _⟩ => ⟨S8x4096x4x1, .f32⟩
  | .hbm, ⟨48, _⟩ => ⟨S_, .f32⟩
  | .hbm, ⟨49, _⟩ => ⟨S8x4096x4x1, .f32⟩
  | .hbm, ⟨50, _⟩ => ⟨S8x4096x4x1, .f32⟩
  | .hbm, ⟨51, _⟩ => ⟨S_, .f32⟩
  | .hbm, ⟨52, _⟩ => ⟨S8x4096x4x1, .f32⟩
  | .hbm, ⟨53, _⟩ => ⟨S8x4096x4x1, .f32⟩
  | .hbm, ⟨54, _⟩ => ⟨S8x4096x4x1, .f32⟩
  | .hbm, ⟨55, _⟩ => ⟨S8x4096x4x64, .f32⟩
  | .hbm, ⟨56, _⟩ => ⟨S8x4096x4x64, .f32⟩
  | .hbm, ⟨57, _⟩ => ⟨S1x1x1x64, .f32⟩
  | .hbm, ⟨58, _⟩ => ⟨S8x4096x4x64, .f32⟩
  | .hbm, ⟨59, _⟩ => ⟨S8x4096x4x64, .f32⟩
  | .hbm, ⟨60, _⟩ => ⟨S8x4096x256, .f32⟩
  | .hbm, ⟨61, _⟩ => ⟨S8x4096x4x64, .f32⟩
  | .hbm, ⟨62, _⟩ => ⟨S8x4096x4x64, .f32⟩
  | .hbm, ⟨63, _⟩ => ⟨S8x4096x4x64, .f32⟩
  | .hbm, ⟨64, _⟩ => ⟨S_, .f32⟩
  | .hbm, ⟨65, _⟩ => ⟨S8x4096x4x64, .f32⟩
  | .hbm, ⟨66, _⟩ => ⟨S8x4096x4x64, .f32⟩
  | .hbm, ⟨67, _⟩ => ⟨S_, .f32⟩
  | .hbm, ⟨68, _⟩ => ⟨S8x4096x4x64, .f32⟩
  | .hbm, ⟨69, _⟩ => ⟨S8x4096x4x64, .f32⟩
  | .hbm, ⟨70, _⟩ => ⟨S8x4096x4x64, .f32⟩
  | .hbm, ⟨71, _⟩ => ⟨S8x4096x4x64, .f32⟩
  | .hbm, ⟨72, _⟩ => ⟨S8x4096x256, .f32⟩
  | .hbm, ⟨73, _⟩ => ⟨S8x4096x256, .f32⟩
  | .hbm, ⟨74, _⟩ => ⟨S8x4096x256, .f32⟩
  | .hbm, ⟨75, _⟩ => ⟨S8x4096x1024, .f32⟩
  | .hbm, ⟨76, _⟩ => ⟨S1024x1024, .f32⟩
  | .hbm, ⟨77, _⟩ => ⟨S8x4096x1024, .f32⟩
  | .hbm, ⟨78, _⟩ => ⟨S8x1x1024, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_cst_4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]
-- ==== Kernel6.lean ====
abbrev S32x256x3712 : Shape := ⟨3, ![32, 256, 3712]⟩
abbrev S32 : Shape := ⟨1, ![32]⟩
abbrev S_ : Shape := ⟨0, ![]⟩
abbrev S256x256 : Shape := ⟨2, ![256, 256]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S32x4x2x256x64 : Shape := ⟨5, ![32, 4, 2, 256, 64]⟩
abbrev S32x4x64x256 : Shape := ⟨4, ![32, 4, 64, 256]⟩
abbrev S32x4x256x128 : Shape := ⟨4, ![32, 4, 256, 128]⟩
abbrev S32x256x256 : Shape := ⟨3, ![32, 256, 256]⟩
abbrev S1x256x768 : Shape := ⟨3, ![1, 256, 768]⟩
abbrev S1x4x2x256x64 : Shape := ⟨5, ![1, 4, 2, 256, 64]⟩
abbrev S1x4x64x256 : Shape := ⟨4, ![1, 4, 64, 256]⟩
abbrev S1x4x256x128 : Shape := ⟨4, ![1, 4, 256, 128]⟩
abbrev S1x256x256 : Shape := ⟨3, ![1, 256, 256]⟩
abbrev S256x768 : Shape := ⟨2, ![256, 768]⟩
abbrev S256x64 : Shape := ⟨2, ![256, 64]⟩
abbrev S1x1x1x256x64 : Shape := ⟨5, ![1, 1, 1, 256, 64]⟩
abbrev S256x128 : Shape := ⟨2, ![256, 128]⟩
abbrev S1x1x256x128 : Shape := ⟨4, ![1, 1, 256, 128]⟩
abbrev S64x256 : Shape := ⟨2, ![64, 256]⟩
abbrev S1x1x64x256 : Shape := ⟨4, ![1, 1, 64, 256]⟩

abbrev nBuf : Space → Nat
  | .hbm => 17
  | .vmem => 14
  | .smem => 0
  | _ => 0

abbrev bufTy : (tb : Table) → Fin (tcTables nBuf tb) → BufTy
  | .hbm, ⟨0, _⟩ => ⟨S32x256x3712, .f32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S256x256, .f32⟩
  | .hbm, ⟨5, _⟩ => ⟨S1x32, .f32⟩
  | .hbm, ⟨6, _⟩ => ⟨S8x32, .f32⟩
  | .hbm, ⟨7, _⟩ => ⟨S256, .f32⟩
  | .hbm, ⟨8, _⟩ => ⟨S1x256, .f32⟩
  | .hbm, ⟨9, _⟩ => ⟨S1x32, .f32⟩
  | .hbm, ⟨10, _⟩ => ⟨S8x32, .f32⟩
  | .hbm, ⟨11, _⟩ => ⟨S256, .f32⟩
  | .hbm, ⟨12, _⟩ => ⟨S1x256, .f32⟩
  | .hbm, ⟨13, _⟩ => ⟨S32x4x2x256x64, .bf16⟩
  | .hbm, ⟨14, _⟩ => ⟨S32x4x64x256, .bf16⟩
  | .hbm, ⟨15, _⟩ => ⟨S32x4x256x128, .bf16⟩
  | .hbm, ⟨16, _⟩ => ⟨S32x256x256, .f32⟩
  | .local _ .vmem, ⟨0, _⟩ => ⟨S1x256x768, .f32⟩
  | .local _ .vmem, ⟨1, _⟩ => ⟨S1x256x768, .f32⟩
  | .local _ .vmem, ⟨2, _⟩ => ⟨S1x256, .f32⟩
  | .local _ .vmem, ⟨3, _⟩ => ⟨S1x256, .f32⟩
  | .local _ .vmem, ⟨4, _⟩ => ⟨S256x256, .f32⟩
  | .local _ .vmem, ⟨5, _⟩ => ⟨S256x256, .f32⟩
  | .local _ .vmem, ⟨6, _⟩ => ⟨S1x4x2x256x64, .bf16⟩
  | .local _ .vmem, ⟨7, _⟩ => ⟨S1x4x2x256x64, .bf16⟩
  | .local _ .vmem, ⟨8, _⟩ => ⟨S1x4x64x256, .bf16⟩
  | .local _ .vmem, ⟨9, _⟩ => ⟨S1x4x64x256, .bf16⟩
  | .local _ .vmem, ⟨10, _⟩ => ⟨S1x4x256x128, .bf16⟩
  | .local _ .vmem, ⟨11, _⟩ => ⟨S1x4x256x128, .bf16⟩
  | .local _ .vmem, ⟨12, _⟩ => ⟨S1x256x256, .f32⟩
  | .local _ .vmem, ⟨13, _⟩ => ⟨S1x256x256, .f32⟩
  | _, _ => ⟨S32x256x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x4x2x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S32x256x3712 : Shape := ⟨3, ![32, 256, 3712]⟩
abbrev S32 : Shape := ⟨1, ![32]⟩
abbrev S32x256x256 : Shape := ⟨3, ![32, 256, 256]⟩
abbrev S32x256x4x2x32 : Shape := ⟨5, ![32, 256, 4, 2, 32]⟩
abbrev S_ : Shape := ⟨0, ![]⟩
abbrev S32x256x4x2 : Shape := ⟨4, ![32, 256, 4, 2]⟩
abbrev S32x256x4x2x1 : Shape := ⟨5, ![32, 256, 4, 2, 1]⟩
abbrev S1x1x1x1x32 : Shape := ⟨5, ![1, 1, 1, 1, 32]⟩

abbrev nBuf : Space → Nat
  | .hbm => 22
  | .vmem => 0
  | .smem => 0
  | _ => 0

abbrev bufTy : (tb : Table) → Fin (tcTables nBuf tb) → BufTy
  | .hbm, ⟨0, _⟩ => ⟨S32x256x3712, .f32⟩
  | .hbm, ⟨1, _⟩ => ⟨S32, .f32⟩
  | .hbm, ⟨2, _⟩ => ⟨S32, .f32⟩
  | .hbm, ⟨3, _⟩ => ⟨S32x256x256, .f32⟩
  | .hbm, ⟨4, _⟩ => ⟨S32x256x4x2x32, .f32⟩
  | .hbm, ⟨5, _⟩ => ⟨S32x256x4x2x32, .f32⟩
  | .hbm, ⟨6, _⟩ => ⟨S_, .f32⟩
  | .hbm, ⟨7, _⟩ => ⟨S32x256x4x2, .f32⟩
  | .hbm, ⟨8, _⟩ => ⟨S32x256x4x2x1, .f32⟩
  | .hbm, ⟨9, _⟩ => ⟨S_, .f32⟩
  | .hbm, ⟨10, _⟩ => ⟨S32x256x4x2x1, .f32⟩
  | .hbm, ⟨11, _⟩ => ⟨S32x256x4x2x1, .f32⟩
  | .hbm, ⟨12, _⟩ => ⟨S_, .f32⟩
  | .hbm, ⟨13, _⟩ => ⟨S32x256x4x2x1, .f32⟩
  | .hbm, ⟨14, _⟩ => ⟨S32x256x4x2x1, .f32⟩
  | .hbm, ⟨15, _⟩ => ⟨S32x256x4x2x1, .f32⟩
  | .hbm, ⟨16, _⟩ => ⟨S32x256x4x2x32, .f32⟩
  | .hbm, ⟨17, _⟩ => ⟨S32x256x4x2x32, .f32⟩
  | .hbm, ⟨18, _⟩ => ⟨S1x1x1x1x32, .f32⟩
  | .hbm, ⟨19, _⟩ => ⟨S32x256x4x2x32, .f32⟩
  | .hbm, ⟨20, _⟩ => ⟨S32x256x4x2x32, .f32⟩
  | .hbm, ⟨21, _⟩ => ⟨S32x256x256, .f32⟩
  | _, _ => ⟨S32x256x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel8.lean ====
abbrev S8x4096x3712 : Shape := ⟨3, ![8, 4096, 3712]⟩
abbrev S3x768 : Shape := ⟨2, ![3, 768]⟩
abbrev S8x4096x768 : Shape := ⟨3, ![8, 4096, 768]⟩
abbrev S8x4096x256 : Shape := ⟨3, ![8, 4096, 256]⟩
abbrev S1x1024x768 : Shape := ⟨3, ![1, 1024, 768]⟩
abbrev S1x8x768 : Shape := ⟨3, ![1, 8, 768]⟩
abbrev S1x1024x256 : Shape := ⟨3, ![1, 1024, 256]⟩
abbrev S1024x768 : Shape := ⟨2, ![1024, 768]⟩
abbrev S1x1x768 : Shape := ⟨3, ![1, 1, 768]⟩
abbrev S1x768 : Shape := ⟨2, ![1, 768]⟩
abbrev S1024x256 : Shape := ⟨2, ![1024, 256]⟩

abbrev nBuf : Space → Nat
  | .hbm => 4
  | .vmem => 11
  | .smem => 0
  | _ => 0

abbrev bufTy : (tb : Table) → Fin (tcTables nBuf tb) → BufTy
  | .hbm, ⟨0, _⟩ => ⟨S8x4096x3712, .f32⟩
  | .hbm, ⟨1, _⟩ => ⟨S3x768, .f32⟩
  | .hbm, ⟨2, _⟩ => ⟨S8x4096x768, .f32⟩
  | .hbm, ⟨3, _⟩ => ⟨S8x4096x256, .bf16⟩
  | .local _ .vmem, ⟨0, _⟩ => ⟨S1x1024x768, .f32⟩
  | .local _ .vmem, ⟨1, _⟩ => ⟨S1x1024x768, .f32⟩
  | .local _ .vmem, ⟨2, _⟩ => ⟨S1x8x768, .f32⟩
  | .local _ .vmem, ⟨3, _⟩ => ⟨S1x8x768, .f32⟩
  | .local _ .vmem, ⟨4, _⟩ => ⟨S1x8x768, .f32⟩
  | .local _ .vmem, ⟨5, _⟩ => ⟨S1x8x768, .f32⟩
  | .local _ .vmem, ⟨6, _⟩ => ⟨S3x768, .f32⟩
  | .local _ .vmem, ⟨7, _⟩ => ⟨S1x1024x768, .f32⟩
  | .local _ .vmem, ⟨8, _⟩ => ⟨S1x1024x768, .f32⟩
  | .local _ .vmem, ⟨9, _⟩ => ⟨S1x1024x256, .bf16⟩
  | .local _ .vmem, ⟨10, _⟩ => ⟨S1x1024x256, .bf16⟩
  | _, _ => ⟨S8x4096x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c1_i32_0 : BitVec 32 := 1#32
  let c0_i32 : BitVec 32 := 0#32
  ![arg0.toNat, v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8x4096x3712 : Shape := ⟨3, ![8, 4096, 3712]⟩
abbrev S3x768 : Shape := ⟨2, ![3, 768]⟩
abbrev S8x4096x768 : Shape := ⟨3, ![8, 4096, 768]⟩
abbrev S_ : Shape := ⟨0, ![]⟩
abbrev S8x4098x768 : Shape := ⟨3, ![8, 4098, 768]⟩
abbrev S1x768 : Shape := ⟨2, ![1, 768]⟩
abbrev S768 : Shape := ⟨1, ![768]⟩
abbrev S1x1x768 : Shape := ⟨3, ![1, 1, 768]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x3712, .f32⟩
  | .hbm, ⟨1, _⟩ => ⟨S3x768, .f32⟩
  | .hbm, ⟨2, _⟩ => ⟨S8x4096x768, .f32⟩
  | .hbm, ⟨3, _⟩ => ⟨S_, .i32⟩
  | .hbm, ⟨4, _⟩ => ⟨S_, .f32⟩
  | .hbm, ⟨5, _⟩ => ⟨S8x4098x768, .f32⟩
  | .hbm, ⟨6, _⟩ => ⟨S8x4096x768, .f32⟩
  | .hbm, ⟨7, _⟩ => ⟨S1x768, .f32⟩
  | .hbm, ⟨8, _⟩ => ⟨S768, .f32⟩
  | .hbm, ⟨9, _⟩ => ⟨S1x1x768, .f32⟩
  | .hbm, ⟨10, _⟩ => ⟨S8x4096x768, .f32⟩
  | .hbm, ⟨11, _⟩ => ⟨S8x4096x768, .f32⟩
  | .hbm, ⟨12, _⟩ => ⟨S8x4096x768, .f32⟩
  | .hbm, ⟨13, _⟩ => ⟨S1x768, .f32⟩
  | .hbm, ⟨14, _⟩ => ⟨S768, .f32⟩
  | .hbm, ⟨15, _⟩ => ⟨S1x1x768, .f32⟩
  | .hbm, ⟨16, _⟩ => ⟨S8x4096x768, .f32⟩
  | .hbm, ⟨17, _⟩ => ⟨S8x4096x768, .f32⟩
  | .hbm, ⟨18, _⟩ => ⟨S8x4096x768, .f32⟩
  | .hbm, ⟨19, _⟩ => ⟨S8x4096x768, .f32⟩
  | .hbm, ⟨20, _⟩ => ⟨S1x768, .f32⟩
  | .hbm, ⟨21, _⟩ => ⟨S768, .f32⟩
  | .hbm, ⟨22, _⟩ => ⟨S1x1x768, .f32⟩
  | .hbm, ⟨23, _⟩ => ⟨S8x4096x768, .f32⟩
  | .hbm, ⟨24, _⟩ => ⟨S8x4096x768, .f32⟩
  | .hbm, ⟨25, _⟩ => ⟨S8x4096x768, .f32⟩
  | _, _ => ⟨S8x4096x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Kernel9.lean ====
abbrev S32x256x1024 : Shape := ⟨3, ![32, 256, 1024]⟩
abbrev S1x6x1024 : Shape := ⟨3, ![1, 6, 1024]⟩
abbrev S1024 : Shape := ⟨1, ![1024]⟩
abbrev S1024x3616 : Shape := ⟨2, ![1024, 3616]⟩
abbrev S1024x768 : Shape := ⟨2, ![1024, 768]⟩
abbrev S1024x256 : Shape := ⟨2, ![1024, 256]⟩
abbrev S1024x16 : Shape := ⟨2, ![1024, 16]⟩
abbrev S_ : Shape := ⟨0, ![]⟩
abbrev S1024x96 : Shape := ⟨2, ![1024, 96]⟩
abbrev S1024x3712 : Shape := ⟨2, ![1024, 3712]⟩
abbrev S1x1024 : Shape := ⟨2, ![1, 1024]⟩
abbrev S32x256x3712 : Shape := ⟨3, ![32, 256, 3712]⟩
abbrev S1x256x1024 : Shape := ⟨3, ![1, 256, 1024]⟩
abbrev S1x256x3712 : Shape := ⟨3, ![1, 256, 3712]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x3712 : Shape := ⟨2, ![256, 3712]⟩
abbrev S32x256x256 : Shape := ⟨3, ![32, 256, 256]⟩

abbrev nBuf : Space → Nat
  | .hbm => 19
  | .vmem => 7
  | .smem => 0
  | _ => 0

abbrev bufTy : (tb : Table) → Fin (tcTables nBuf tb) → BufTy
  | .hbm, ⟨0, _⟩ => ⟨S32x256x1024, .f32⟩
  | .hbm, ⟨1, _⟩ => ⟨S1x6x1024, .f32⟩
  | .hbm, ⟨2, _⟩ => ⟨S1024, .f32⟩
  | .hbm, ⟨3, _⟩ => ⟨S1024x3616, .f32⟩
  | .hbm, ⟨4, _⟩ => ⟨S1024x768, .f32⟩
  | .hbm, ⟨5, _⟩ => ⟨S1024x256, .f32⟩
  | .hbm, ⟨6, _⟩ => ⟨S1024x16, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x256, .f32⟩
  | .hbm, ⟨11, _⟩ => ⟨S1024x16, .f32⟩
  | .hbm, ⟨12, _⟩ => ⟨S_, .f32⟩
  | .hbm, ⟨13, _⟩ => ⟨S1024x96, .f32⟩
  | .hbm, ⟨14, _⟩ => ⟨S1024x3712, .f32⟩
  | .hbm, ⟨15, _⟩ => ⟨S1024x3712, .bf16⟩
  | .hbm, ⟨16, _⟩ => ⟨S1x1024, .f32⟩
  | .hbm, ⟨17, _⟩ => ⟨S32x256x3712, .f32⟩
  | .hbm, ⟨18, _⟩ => ⟨S32x256x256, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x1024, .f32⟩
  | .local _ .vmem, ⟨4, _⟩ => ⟨S1024x3712, .bf16⟩
  | .local _ .vmem, ⟨5, _⟩ => ⟨S1x256x3712, .f32⟩
  | .local _ .vmem, ⟨6, _⟩ => ⟨S1x256x3712, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x3712 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S32x256x1024 : Shape := ⟨3, ![32, 256, 1024]⟩
abbrev S1x6x1024 : Shape := ⟨3, ![1, 6, 1024]⟩
abbrev S1024 : Shape := ⟨1, ![1024]⟩
abbrev S1024x3616 : Shape := ⟨2, ![1024, 3616]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x3616 : Shape := ⟨3, ![32, 256, 3616]⟩
abbrev S32x256x256 : Shape := ⟨3, ![32, 256, 256]⟩

abbrev nBuf : Space → Nat
  | .hbm => 31
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x6x1024, .f32⟩
  | .hbm, ⟨2, _⟩ => ⟨S1024, .f32⟩
  | .hbm, ⟨3, _⟩ => ⟨S1024x3616, .f32⟩
  | .hbm, ⟨4, _⟩ => ⟨S1x1x1024, .f32⟩
  | .hbm, ⟨5, _⟩ => ⟨S1x1x1024, .f32⟩
  | .hbm, ⟨6, _⟩ => ⟨S32x256x1024, .f32⟩
  | .hbm, ⟨7, _⟩ => ⟨S_, .f32⟩
  | .hbm, ⟨8, _⟩ => ⟨S32x256, .f32⟩
  | .hbm, ⟨9, _⟩ => ⟨S32x256x1, .f32⟩
  | .hbm, ⟨10, _⟩ => ⟨S_, .f32⟩
  | .hbm, ⟨11, _⟩ => ⟨S32x256x1, .f32⟩
  | .hbm, ⟨12, _⟩ => ⟨S32x256x1, .f32⟩
  | .hbm, ⟨13, _⟩ => ⟨S_, .f32⟩
  | .hbm, ⟨14, _⟩ => ⟨S32x256x1, .f32⟩
  | .hbm, ⟨15, _⟩ => ⟨S32x256x1, .f32⟩
  | .hbm, ⟨16, _⟩ => ⟨S32x256x1, .f32⟩
  | .hbm, ⟨17, _⟩ => ⟨S32x256x1024, .f32⟩
  | .hbm, ⟨18, _⟩ => ⟨S32x256x1024, .f32⟩
  | .hbm, ⟨19, _⟩ => ⟨S1x1x1024, .f32⟩
  | .hbm, ⟨20, _⟩ => ⟨S32x256x1024, .f32⟩
  | .hbm, ⟨21, _⟩ => ⟨S32x256x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S32x256x1024, .f32⟩
  | .hbm, ⟨26, _⟩ => ⟨S32x256x1024, .f32⟩
  | .hbm, ⟨27, _⟩ => ⟨S32x256x1024, .f32⟩
  | .hbm, ⟨28, _⟩ => ⟨S32x256x1024, .f32⟩
  | .hbm, ⟨29, _⟩ => ⟨S32x256x3616, .f32⟩
  | .hbm, ⟨30, _⟩ => ⟨S32x256x256, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Softmax.lean ====
module

public import Idealize.ShloMosaic.PureOps.Ideal
public import Idealize.ShloMosaic.Lib.Tactic

@[expose] public section

set_option maxRecDepth 16384
noncomputable section
open Idealize.ShloMosaic
namespace Cert.Soft

/-- The word of minus infinity. -/
theorem ninf : (Ideal.ofBits .f32 0xFF800000#32 : EReal) = ⊥ := by
  simp [Ideal.ofBits, Ideal.ieee]

/-- The word of plus infinity. -/
theorem pinf : (Ideal.ofBits .f32 0x7F800000#32 : EReal) = ⊤ := by
  simp [Ideal.ofBits, Ideal.ieee]

/-- The start value of the running maximum is a real number. -/
theorem start_real : ∃ x : ℝ, (Ideal.ofBits .f32 0xF149F2CA#32 : EReal) = (x : EReal) := by
  refine ⟨EReal.toReal (Ideal.ofBits .f32 0xF149F2CA#32), (EReal.coe_toReal ?_ ?_).symm⟩ <;> simp [Ideal.ofBits, Ideal.ieee] <;> norm_cast <;> simp

/-- The constant part of the lambda is a real number. -/
theorem lam_real : ∃ x : ℝ, (Ideal.ofBits .f32 0x3EB60549#32 : EReal) = (x : EReal) := by
  refine ⟨EReal.toReal (Ideal.ofBits .f32 0x3EB60549#32), (EReal.coe_toReal ?_ ?_).symm⟩ <;> simp [Ideal.ofBits, Ideal.ieee] <;> norm_cast <;> simp

/-- A sum of real numbers in the extended reals is the real sum. -/
theorem sum_real {ι : Type} (A : Finset ι) (f : ι → ℝ) : ∑ k ∈ A, (f k : EReal) = ((∑ k ∈ A, f k : ℝ) : EReal) := by
  classical
  induction A using Finset.induction_on with
  | empty => simp
  | insert a A ha ih => rw [Finset.sum_insert ha, Finset.sum_insert ha, ih, EReal.coe_add]

/-- The maximum of finitely many reals, at least one, is a real. -/
theorem fold_real {n : ℕ} (hn : 0 < n) (f : Fin n → ℝ) :
    ∃ M : ℝ, Finset.fold max (Ideal.ofBits .f32 0xFF800000#32) (fun k => (f k : EReal)) Finset.univ = (M : EReal) := by
  rw [ninf]
  obtain ⟨i, -, hi⟩ := Finset.exists_mem_eq_sup (Finset.univ : Finset (Fin n)) ⟨⟨0, hn⟩, Finset.mem_univ _⟩ (fun k => (f k : EReal))
  exact ⟨f i, hi⟩

/-- Division of reals by a nonzero real. -/
theorem div_real (x y : ℝ) (h : y ≠ 0) : Ideal.div (x : EReal) (y : EReal) = ((x / y : ℝ) : EReal) := by
  rw [Ideal.div_coe h, ← EReal.coe_mul]; congr 1; ring

/-- The maximum of two reals in the extended reals. -/
theorem coe_max (x y : ℝ) : ((max x y : ℝ) : EReal) = max (x : EReal) (y : EReal) := EReal.coe_strictMono.monotone.map_max

/-- The exponential of a difference of reals. -/
theorem exp_sub_real (x y : ℝ) : Ideal.exp ((x : EReal) - (y : EReal)) = ((Real.exp (x - y) : ℝ) : EReal) := by
  rw [← EReal.coe_sub, Ideal.exp_coe]

/-- The running maximum of one row after one more block. -/
def mx (m : EReal) (s : Fin 2304 → EReal) : EReal :=
  max m (Finset.fold max (Ideal.ofBits .f32 0xFF800000#32) s Finset.univ)

/-- The accumulator of one row and lane after one more block. -/
def ac (m a : EReal) (s v : Fin 2304 → EReal) : EReal :=
  Ideal.exp (m - mx m s) * a + ∑ k, Ideal.exp (s k - mx m s) * v k

/-- The first block of keys. -/
def lo (k : Fin 2304) : Fin 4608 := ⟨k.val, by omega⟩
/-- The second block of keys. -/
def hi (k : Fin 2304) : Fin 4608 := ⟨2304 + k.val, by omega⟩

/-- A sum over all keys is the sum over the two blocks. -/
theorem sum_two (f : Fin 4608 → ℝ) : ∑ k, f k = ∑ k, f (lo k) + ∑ k, f (hi k) :=
  Fin.sum_univ_add (a := 2304) (b := 2304) f

/-- ONLINE SOFTMAX: after the two blocks the accumulator is, for some shift that does not depend on the lane, the sum over
    all keys of the shifted exponential times the value. -/
theorem online (s : Fin 4608 → ℝ) : ∃ M : ℝ, ∀ v : Fin 4608 → ℝ,
    ac (mx (Ideal.ofBits .f32 0xF149F2CA#32) fun k => (s (lo k) : EReal))
      (ac (Ideal.ofBits .f32 0xF149F2CA#32) 0 (fun k => (s (lo k) : EReal)) fun k => (v (lo k) : EReal))
      (fun k => (s (hi k) : EReal)) (fun k => (v (hi k) : EReal))
      = ((∑ k, Real.exp (s k - M) * v k : ℝ) : EReal) := by
  obtain ⟨N, hN⟩ := start_real
  obtain ⟨f1, h1⟩ := fold_real (n := 2304) (by omega) fun k => s (lo k)
  obtain ⟨f2, h2⟩ := fold_real (n := 2304) (by omega) fun k => s (hi k)
  have e1 : mx (Ideal.ofBits .f32 0xF149F2CA#32) (fun k => (s (lo k) : EReal)) = ((max N f1 : ℝ) : EReal) := by
    unfold mx; rw [h1, hN]; exact (coe_max N f1).symm
  have e2 : mx ((max N f1 : ℝ) : EReal) (fun k => (s (hi k) : EReal)) = ((max (max N f1) f2 : ℝ) : EReal) := by
    unfold mx; rw [h2]; exact (coe_max _ f2).symm
  generalize max N f1 = M1 at *
  generalize max M1 f2 = M2 at *
  refine ⟨M2, fun v => ?_⟩
  unfold ac
  rw [e1, e2]
  simp only [mul_zero, zero_add, exp_sub_real, ← EReal.coe_mul, sum_real, ← EReal.coe_add]
  refine congrArg (fun x : ℝ => (x : EReal)) ?_
  rw [sum_two, Finset.mul_sum]
  refine congrArg₂ (fun x y : ℝ => x + y) ?_ rfl
  refine Finset.sum_congr rfl fun k _ => ?_
  rw [← mul_assoc, ← Real.exp_add]
  rw [show M1 - M2 + (s (lo k) - M1) = s (lo k) - M2 by ring]

/-- The reference's weight of a key is the exponential over the sum of all exponentials. -/
theorem weight (s : Fin 4608 → ℝ) (S : EReal) (hS : S = Finset.fold max (Ideal.ofBits .f32 0xFF800000#32) (fun k => (s k : EReal)) Finset.univ) (k : Fin 4608) :
    Ideal.div (Ideal.exp ((s k : EReal) - max (Ideal.ofBits .f32 0xFF800000#32) S)) (∑ y, Ideal.exp ((s y : EReal) - max (Ideal.ofBits .f32 0xFF800000#32) S))
      = ((Real.exp (s k) / ∑ y, Real.exp (s y) : ℝ) : EReal) := by
  obtain ⟨M, hM⟩ := fold_real (n := 4608) (by omega) s
  rw [hM] at hS
  subst hS
  rw [ninf, max_eq_right bot_le]
  simp only [exp_sub_real, sum_real]
  have hp : ∀ t : ℝ, 0 < ∑ y, Real.exp (s y - t) := fun t => Finset.sum_pos (fun y _ => Real.exp_pos _) ⟨0, Finset.mem_univ _⟩
  rw [div_real _ _ (hp M).ne']
  refine congrArg (fun x : ℝ => (x : EReal)) ?_
  simp only [Real.exp_sub, ← Finset.sum_div]
  have := (hp 0).ne'
  simp only [sub_zero] at this
  field_simp

/-- A quotient of two shifted sums is the softmax's weighted sum. -/
theorem quot (s v : Fin 4608 → ℝ) (M : ℝ) :
    Ideal.div ((∑ k, Real.exp (s k - M) * v k : ℝ) : EReal) ((∑ k, Real.exp (s k - M) * 1 : ℝ) : EReal)
      = ((∑ k, Real.exp (s k) / (∑ y, Real.exp (s y)) * v k : ℝ) : EReal) := by
  have hp : ∀ t : ℝ, 0 < ∑ y, Real.exp (s y - t) := fun t => Finset.sum_pos (fun y _ => Real.exp_pos _) ⟨0, Finset.mem_univ _⟩
  have h0 := (hp 0).ne'
  simp only [sub_zero] at h0
  rw [div_real _ _ (by simpa using (hp M).ne')]
  refine congrArg (fun x : ℝ => (x : EReal)) ?_
  simp only [mul_one, Real.exp_sub, ← Finset.sum_div, div_mul_eq_mul_div]
  have := (Real.exp_pos M).ne'
  field_simp

end Cert.Soft
-- ==== Proof.PreRead.lean ====
module

public import proofs.«01_k».proof.Proof.Gen.Pre_finite_and_ones
public import Idealize.ShloMosaic.Lib.ReduceAll
public import Idealize.ShloMosaic.Lib.Pointwise
public import proofs.«01_k».proof.Proof.Softmax

@[expose] public section

set_option maxRecDepth 16384
noncomputable section
open Idealize.ShloMosaic
namespace Cert.PreRead
open Cert.Pre_finite_and_ones

/-- A word below plus infinity in absolute value is a real number. -/
theorem real_of_lt (x : EReal) (h : Ideal.cmp .olt (max x (-x)) (Ideal.ofBits .f32 0x7F800000#32) = 1#1) : ∃ r : ℝ, x = (r : EReal) := by
  rw [Soft.pinf] at h
  induction x using EReal.rec with
  | bot => simp [Ideal.cmp] at h
  | top => simp [Ideal.cmp] at h
  | coe r => exact ⟨r, rfl⟩

/-- A word equal to one. -/
theorem one_of_eq (x : EReal) (h : Ideal.cmp .oeq x (Ideal.ofBits .f32 0x3F800000#32) = 1#1) : x = 1 := by
  rw [Ideal.ofBits_one_f32] at h
  by_contra hn
  simp [Ideal.cmp, hn] at h

instance : Subsingleton S_.Idx := ⟨fun a b => funext fun k => k.elim0⟩

/-- The precondition read: every query, key, value and lambda parameter is a real number and lane 64 of every value row is one. -/
theorem read (q : FVec Ideal S8x4x2x4096x64 .bf16) (kt : FVec Ideal S8x4x64x4608 .bf16) (v : FVec Ideal S8x4x4608x128 .bf16)
    (p : FVec Ideal S4x32 .f32) (g : FVec Ideal S64 .f32) (h : fn (F := Ideal) q kt v p g ix0 = 1#1) :
    (∀ j, ∃ r : ℝ, (q j : EReal) = (r : EReal)) ∧ (∀ j, ∃ r : ℝ, (kt j : EReal) = (r : EReal)) ∧ (∀ j, ∃ r : ℝ, (v j : EReal) = (r : EReal))
      ∧ (∀ j, ∃ r : ℝ, (p j : EReal) = (r : EReal)) ∧ ∀ (a : Fin 8) (b : Fin 4) (k : Fin 4608), (v (ix4 a b k 64) : EReal) = 1 := by
  unfold fn fn_part1 at h
  dsimp only at h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  refine ⟨fun j => real_of_lt _ (Host.reduce_andi_all _ _ _ _ _ h1 j), fun j => real_of_lt _ (Host.reduce_andi_all _ _ _ _ _ h2 j),
    fun j => real_of_lt _ (Host.reduce_andi_all _ _ _ _ _ h3 j), fun j => real_of_lt _ (Host.reduce_andi_all _ _ _ _ _ h4 j), fun a b k => ?_⟩
  refine one_of_eq _ (Eq.trans ?_ (Host.reduce_andi_all _ _ _ _ _ h5 (ix3 a b k)))
  refine congrArg (fun x : EReal => Ideal.cmp .oeq x (Ideal.ofBits .f32 0x3F800000#32)) ?_
  pointwise

end Cert.PreRead
-- ==== Proof.MoePre.lean ====
module

public import proofs.«01_k».proof.Proof.Gen.Pre_experts_in_range
public import Idealize.ShloMosaic.Lib.ReduceAll
public import Idealize.ShloMosaic.Lib.Pointwise

@[expose] public section

/-! The range of the experts' table, read. -/

set_option maxRecDepth 16384
noncomputable section
open Idealize.ShloMosaic
namespace Cert.MoePre
open Cert.Pre_experts_in_range

/-- A word from 0 up to 8. -/
theorem small (w : BitVec 32) (h0 : IntOp.cmpi .sge w 0#32 = 1#1) (h8 : IntOp.cmpi .slt w 8#32 = 1#1) : w.toNat < 8 := by
  have a : BitVec.sle 0#32 w = true := by
    unfold IntOp.cmpi at h0
    cases hb : BitVec.sle 0#32 w
    · simp only [hb] at h0; exact absurd h0 (by decide)
    · rfl
  have b : BitVec.slt w 8#32 = true := by
    unfold IntOp.cmpi at h8
    cases hb : BitVec.slt w 8#32
    · simp only [hb] at h8; exact absurd h8 (by decide)
    · rfl
  rw [BitVec.sle_iff_toInt_le] at a
  rw [BitVec.slt_iff_toInt_lt] at b
  have e0 : (0#32).toInt = 0 := by decide
  have e8 : (8#32).toInt = 8 := by decide
  rw [e0] at a
  rw [e8] at b
  rw [BitVec.toInt_eq_toNat_cond] at a b
  have := w.isLt
  split at a <;> omega

instance : Subsingleton S_.Idx := ⟨fun a b => funext fun k => k.elim0⟩

/-- Every entry of the table names one of the eight experts. -/
theorem read {F : FTy → Type} [FloatOps F] (te : IVec S140 32) (n : IVec S1 32) (x : FVec F S8x71680x128 .f32) (wg wu : FVec F S8x1024x1408 .bf16) (wd : FVec F S8x1408x1024 .bf16)
    (h : fn (F := F) te n x wg wu wd = fun _ => 1#1) (t : Fin 140) : (te (ix1 t)).toNat < 8 := by
  have h := congrFun h ix0
  unfold fn at h
  dsimp only at h
  obtain ⟨h0, h8⟩ := IntOp.andi_eq_one.1 (Host.reduce_andi_all _ _ _ _ _ h (ix1 t))
  exact small _ h0 h8

end Cert.MoePre
-- ==== Proof.Norm.lean ====
module

public import Idealize.ShloMosaic.Lib.IdealHost

@[expose] public section

noncomputable section
open Idealize.ShloMosaic
namespace Cert.Norm

/-- One row brought to unit mean square, scaled by the gain and modulated: the place `k` of a row `x` of the stream,
    with gain `g`, modulation scale `sc` and modulation shift `sh`. -/
def nrm (x g sc sh : Fin 1024 → EReal) (k : Fin 1024) : EReal :=
  x k * Ideal.rsqrt (Ideal.div (∑ y, x y * x y) (Ideal.ofBits .f32 0x44800000#32) + Ideal.ofBits .f32 0x358637BD#32)
    * g k * (Ideal.ofBits .f32 0x3F800000#32 + sc k) + sh k

/-- The logistic gate of the feed-forward network, as both sides compute it. -/
def sig (z : EReal) : EReal :=
  Ideal.div (Ideal.ofBits .f32 0x3F800000#32) (Ideal.ofBits .f32 0x3F800000#32 + Ideal.exp (-z))

/-- One hidden unit of the gated network: the row `h` against the gate's column and the up column. -/
def glu (h wg wu : Fin 1024 → EReal) : EReal :=
  (∑ k, h k * wg k) * sig (∑ k, h k * wg k) * ∑ k, h k * wu k

/-- A row's new value: the old one plus the gated output of the network. -/
def into (x g y : EReal) : EReal := x + g * y

/-- The logistic gate with the negation written as a difference from zero. -/
theorem sig_zero_sub (z : EReal) :
    Ideal.div (Ideal.ofBits .f32 0x3F800000#32) (Ideal.ofBits .f32 0x3F800000#32 + Ideal.exp (Ideal.ofBits .f32 0x00000000#32 - z)) = sig z := by
  unfold sig
  rw [Ideal.ofBits_zero_f32, sub_eq_add_neg, zero_add]

/-- A sum over the 2816 hidden units is the sum over eleven blocks of 256. -/
theorem sum_blocks (g : Fin 2816 → EReal) :
    ∑ i ∈ Finset.range 11, ∑ f : Fin 256, g ⟨(i * 256 + f.val) % 2816, Nat.mod_lt _ (by omega)⟩ = ∑ F, g F := by
  rw [Finset.sum_range]
  rw [← Fintype.sum_prod_type' (f := fun (i : Fin 11) (f : Fin 256) => g ⟨(i.val * 256 + f.val) % 2816, Nat.mod_lt _ (by omega)⟩)]
  refine Fintype.sum_equiv (finProdFinEquiv (m := 11) (n := 256)) _ _ fun p => ?_
  refine congrArg g (Fin.ext ?_)
  have h0 := p.1.isLt
  have h1 := p.2.isLt
  show (p.1.val * 256 + p.2.val) % 2816 = p.2.val + 256 * p.1.val
  omega

end Cert.Norm
-- ==== Proof.MoeIdealKit.lean ====
module

public import proofs.«01_k».proof.Proof.Gen.Kernel4Ideal.Launch
public import proofs.«01_k».proof.Proof.Gen.Kernel4Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

/-! The experts' call, set up for its run: the two tables read off the launch memory, the windows' blocks at those tables, and the
body as the pipeline calls it at a tile. -/

set_option maxRecDepth 16384

noncomputable section
namespace Cert.Kernel4Ideal.Moe
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions the run is stated in. -/
abbrev Assn (F : FTy → Type) [FloatOps F] : Type := sProp (MT nD τ sig Unit (Elt F) ℕ (UR sig nD τ) ℕ)

variable (m : (ℓ : Loc nD τ sig) → Buf (Elt F) ℓ)

/-- A buffer as the call finds it: as launched. -/
abbrev V (c : Dev nD) (b : Ref sig .tc) : Buf (Elt F) ((c : Thread nD τ).loc b) := m ((c : Thread nD τ).loc b)

set_option maxHeartbeats 800000 in
/-- The program is the call alone. -/
theorem main_region (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The experts' table and the count of tiles in use, as launched. -/
def tbl : pre0.Contents (Elt F) := fun j => V m (0 : Dev nD) (pre0.ref j)

/-- There is one device, so every device holds those tables. -/
theorem V_tbl (c : Dev nD) (j : Fin 2) : V m c (pre0.ref j) = tbl m j := by
  obtain rfl : c = 0 := Subsingleton.elim _ _
  rfl

/-- The tables name blocks that lie inside the weight arrays. -/
abbrev Ok : Prop := ok0 (F := F) (tbl m)

/-- The tables as contents the pipeline may be run at, and the pipeline at them. -/
abbrev adm (hO : Ok m) : (pcfg0 (F := F)).Adm := ⟨tbl m, hO⟩
abbrev cfgM (hO : Ok m) : Pipeline.Cfg sig Λ₀ := cfg0 (adm m hO)

/-- The tables as the body is handed them. -/
abbrev tE : Memref sig .tc .smem S140 .i32 := Memref.whole main_arg0
abbrev tU : Memref sig .tc .smem S1 .i32 := Memref.whole main_arg1
abbrev htE : tE.IsWhole := Memref.isWhole_whole _
abbrev htU : tU.IsWhole := Memref.isWhole_whole _

/-- What a table holds on core `c`, and half of it held. -/
abbrev TB (F : FTy → Type) (c : Dev nD) {S : Shape} {e : EltTy} (M : Memref sig .tc .smem S e) : Type := Buf (Elt F) (M.view.loc (c : Thread nD τ))
abbrev half (c : Dev nD) {S : Shape} {e : EltTy} (M : Memref sig .tc .smem S e) (f : TB F c M) : Assn F :=
  M.view.loc (c : Thread nD τ) ↦{fullShare.right} f

/-- The halves the body is handed, table by table. -/
theorem halves (c : Dev nD) : (Pipeline.ΦT pre0 (tbl m) c : Assn F) = iprop(half c tE (tbl m 0) ∗ half c tU (tbl m 1)) := by
  unfold Pipeline.ΦT Pipeline.prefHeld
  rw [show (Finset.univ : Finset (Fin 2)) = insert (0 : Fin 2) {(1 : Fin 2)} from by decide, bigSep_insert (by decide), bigSep_singleton]
  rfl

/-- Window `w`'s block at tile `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- Each window's buffer at tile `t`. -/
abbrev mX (hO : Ok m) (t : Fin (cfgM m hO).N) : Memref sig .tc .vmem S8x512x128 .f32 := spec0_0.stage ((cfgM m hO).slots t 0)
abbrev mG (hO : Ok m) (t : Fin (cfgM m hO).N) : Memref sig .tc .vmem S1x1024x1408 .bf16 := spec0_1.stage ((cfgM m hO).slots t 1)
abbrev mU (hO : Ok m) (t : Fin (cfgM m hO).N) : Memref sig .tc .vmem S1x1024x1408 .bf16 := spec0_2.stage ((cfgM m hO).slots t 2)
abbrev mD (hO : Ok m) (t : Fin (cfgM m hO).N) : Memref sig .tc .vmem S1x1408x1024 .bf16 := spec0_3.stage ((cfgM m hO).slots t 3)
abbrev mO (hO : Ok m) (t : Fin (cfgM m hO).N) : Memref sig .tc .vmem S8x512x128 .f32 := spec0_4.stage ((cfgM m hO).slots t 4)
abbrev hX (hO : Ok m) (t : Fin (cfgM m hO).N) : (mX m hO t).IsWhole := hstage0_0 (((cfgM m hO).slots t 0).cast nbuf0_0)
abbrev hG (hO : Ok m) (t : Fin (cfgM m hO).N) : (mG m hO t).IsWhole := hstage0_1 (((cfgM m hO).slots t 1).cast nbuf0_1)
abbrev hU (hO : Ok m) (t : Fin (cfgM m hO).N) : (mU m hO t).IsWhole := hstage0_2 (((cfgM m hO).slots t 2).cast nbuf0_2)
abbrev hD (hO : Ok m) (t : Fin (cfgM m hO).N) : (mD m hO t).IsWhole := hstage0_3 (((cfgM m hO).slots t 3).cast nbuf0_3)
abbrev hM (hO : Ok m) (t : Fin (cfgM m hO).N) : (mO m hO t).IsWhole := hstage0_4 (((cfgM m hO).slots t 4).cast nbuf0_4)

/-- The body as the pipeline calls it at tile `t`. -/
abbrev bodyAt (hO : Ok m) (t : Fin (cfgM m hO).N) : Prog (TpuEff nD τ sig (Elt F) Λ₀ .tc) PUnit :=
  cc0_moe_group (grid0.coords t) tE htE tU htU (mX m hO t) (hX m hO t) (mG m hO t) (hG m hO t) (mU m hO t) (hU m hO t) (mD m hO t) (hD m hO t) (mO m hO t) (hM m hO t)

/-- An input's buffer holds its block at every tile, for proof data over the launch memory whose body leaves the block there. -/
theorem held0 (hO : Ok m) {c : Dev nD} (D : Dat τ (Elt F) Unit ℕ (UR sig nD τ) ℕ (cfgM m hO) c) (hA : D.A 0 = V m c (Pipeline.arrRef spec0 0))
    (ha : ∀ t, D.after 0 t = iblk m hO c 0 t) (t : Fin (cfgM m hO).N) (d) : D.before 0 t d = iblk m hO c 0 t :=
  (D.before_in_eq_fetched 0 rfl (fun _ => rfl) (fun _ _ _ => rfl) (fun t => by rw [ha]; unfold Dat.blockOf iblk; rw [hA]; rfl) t d).trans
    (by unfold Dat.fetched Dat.blockOf iblk; rw [hA]; rfl)
theorem held1 (hO : Ok m) {c : Dev nD} (D : Dat τ (Elt F) Unit ℕ (UR sig nD τ) ℕ (cfgM m hO) c) (hA : D.A 1 = V m c (Pipeline.arrRef spec0 1))
    (ha : ∀ t, D.after 1 t = iblk m hO c 1 t) (t : Fin (cfgM m hO).N) (d) : D.before 1 t d = iblk m hO c 1 t :=
  (D.before_in_eq_fetched 1 rfl (fun _ => rfl) (fun _ _ _ => rfl) (fun t => by rw [ha]; unfold Dat.blockOf iblk; rw [hA]; rfl) t d).trans
    (by unfold Dat.fetched Dat.blockOf iblk; rw [hA]; rfl)
theorem held2 (hO : Ok m) {c : Dev nD} (D : Dat τ (Elt F) Unit ℕ (UR sig nD τ) ℕ (cfgM m hO) c) (hA : D.A 2 = V m c (Pipeline.arrRef spec0 2))
    (ha : ∀ t, D.after 2 t = iblk m hO c 2 t) (t : Fin (cfgM m hO).N) (d) : D.before 2 t d = iblk m hO c 2 t :=
  (D.before_in_eq_fetched 2 rfl (fun _ => rfl) (fun _ _ _ => rfl) (fun t => by rw [ha]; unfold Dat.blockOf iblk; rw [hA]; rfl) t d).trans
    (by unfold Dat.fetched Dat.blockOf iblk; rw [hA]; rfl)
theorem held3 (hO : Ok m) {c : Dev nD} (D : Dat τ (Elt F) Unit ℕ (UR sig nD τ) ℕ (cfgM m hO) c) (hA : D.A 3 = V m c (Pipeline.arrRef spec0 3))
    (ha : ∀ t, D.after 3 t = iblk m hO c 3 t) (t : Fin (cfgM m hO).N) (d) : D.before 3 t d = iblk m hO c 3 t :=
  (D.before_in_eq_fetched 3 rfl (fun _ => rfl) (fun _ _ _ => rfl) (fun t => by rw [ha]; unfold Dat.blockOf iblk; rw [hA]; rfl) t d).trans
    (by unfold Dat.fetched Dat.blockOf iblk; rw [hA]; rfl)

end Cert.Kernel4Ideal.Moe
-- ==== Proof.MoeIdealRun.lean ====
module

public import proofs.«01_k».proof.Proof.MoeIdealKit
public import Idealize.ShloMosaic.Lib.Pointwise

@[expose] public section

/-! The body's two runs: a tile in use, and one past the count. -/

set_option maxRecDepth 16384

noncomputable section
namespace Cert.Kernel4Ideal.Moe
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The count of tiles in use, as the body reads it. -/
def cnt (c : Dev nD) (u : TB F c tU) : BitVec 32 :=
  View.readAt (Elt F) tU.view (Rect.unit (s := S1) ![0] S1.size inb_S1_S1_0).toLoadRect u (Shape.Idx.first (numel1_S1.symm ▸ Nat.one_pos))

/-- The tile is in use. -/
def live (i : grid0.Coords) (n : BitVec 32) : Prop := k0_cond1 i n = 1#1

/-- The second test of the body is the first one's contrary. -/
theorem cond2_iff (i : grid0.Coords) (n : BitVec 32) : k0_cond2 i n = 1#1 ↔ ¬ live i n := by
  unfold live k0_cond2 k0_cond1
  have h : ∀ a : BitVec 1, (Scalar.cmpi .ne (Scalar.extui a : BitVec 32) 0#32 = 1#1) ↔ a = 1#1 := by decide
  simp only [h]
  unfold Scalar.cmpi IntOp.cmpi
  simp only [BitVec.sle_eq_not_slt]
  cases (BitVec.ofNat 32 (i 0).val).slt n <;> decide

set_option maxHeartbeats 600000 in
/-- A tile in use: what the body stores, with the proof that it runs so. -/
def runLive (c : Dev nD) (i : grid0.Coords) (a3 : Memref sig .tc .vmem S8x512x128 .f32) (h3 : a3.IsWhole) (a4 : Memref sig .tc .vmem S1x1024x1408 .bf16) (h4 : a4.IsWhole)
    (a5 : Memref sig .tc .vmem S1x1024x1408 .bf16) (h5 : a5.IsWhole) (a6 : Memref sig .tc .vmem S1x1408x1024 .bf16) (h6 : a6.IsWhole) (a7 : Memref sig .tc .vmem S8x512x128 .f32) (h7 : a7.IsWhole)
    (x : Vec F S8x512x128 .f32) (g : Vec F S1x1024x1408 .bf16) (u : Vec F S1x1024x1408 .bf16) (d : Vec F S1x1408x1024 .bf16) (te : TB F c tE) (tu : TB F c tU)
    (hl : k0_cond1 i (cnt c tu) = 1#1) (hn : ¬ k0_cond2 i (cnt c tu) = 1#1) :
    { L : List (View.Piece (Elt F) S8x512x128 .f32) //
      ∀ (E : Set ℕ) (K : PUnit → Assn F),
        iprop(owns (c : Thread nD τ) a3 fullShare x ∗ owns (c : Thread nD τ) a4 fullShare g ∗ owns (c : Thread nD τ) a5 fullShare u ∗ owns (c : Thread nD τ) a6 fullShare d ∗ (∃ o, owns (c : Thread nD τ) a7 fullShare o) ∗ half c tE te ∗ half c tU tu
            ∗ (iprop(owns (c : Thread nD τ) a3 fullShare x ∗ owns (c : Thread nD τ) a4 fullShare g ∗ owns (c : Thread nD τ) a5 fullShare u ∗ owns (c : Thread nD τ) a6 fullShare d ∗ (∃ f, a7.view.loc (c : Thread nD τ) ↦[a7.view.set]{fullShare} a7.view.writes (Elt F) f L) ∗ half c tE te ∗ half c tU tu) -∗ K ⟨⟩))
          ⊢ wp frame (wpE (defs₀ (F := F)) Variants.none c none) E (cc0_moe_group i tE htE tU htU a3 h3 a4 h4 a5 h5 a6 h6 a7 h7) K } := by
  refine ⟨?_, fun E K => ?run⟩
  case run =>
    simp only [cc0_moe_group_eq_skeleton]; unfold cc0_moe_group_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := h3.eq_unread hf0; obtain rfl := h4.eq_unread hf1; obtain rfl := h5.eq_unread hf2; obtain rfl := h6.eq_unread hf3
    sl_exec (disch := first | exact hl | exact hn)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]; · iexists _; iexact H4
    isplitl [HT0]; · iexact HT0
    iexact HT1

set_option maxHeartbeats 600000 in
/-- A tile past the count: what the body stores, with the proof that it runs so. -/
def runIdle (c : Dev nD) (i : grid0.Coords) (a3 : Memref sig .tc .vmem S8x512x128 .f32) (h3 : a3.IsWhole) (a4 : Memref sig .tc .vmem S1x1024x1408 .bf16) (h4 : a4.IsWhole)
    (a5 : Memref sig .tc .vmem S1x1024x1408 .bf16) (h5 : a5.IsWhole) (a6 : Memref sig .tc .vmem S1x1408x1024 .bf16) (h6 : a6.IsWhole) (a7 : Memref sig .tc .vmem S8x512x128 .f32) (h7 : a7.IsWhole)
    (x : Vec F S8x512x128 .f32) (g : Vec F S1x1024x1408 .bf16) (u : Vec F S1x1024x1408 .bf16) (d : Vec F S1x1408x1024 .bf16) (te : TB F c tE) (tu : TB F c tU)
    (hl : ¬ k0_cond1 i (cnt c tu) = 1#1) (hn : k0_cond2 i (cnt c tu) = 1#1) :
    { L : List (View.Piece (Elt F) S8x512x128 .f32) //
      ∀ (E : Set ℕ) (K : PUnit → Assn F),
        iprop(owns (c : Thread nD τ) a3 fullShare x ∗ owns (c : Thread nD τ) a4 fullShare g ∗ owns (c : Thread nD τ) a5 fullShare u ∗ owns (c : Thread nD τ) a6 fullShare d ∗ (∃ o, owns (c : Thread nD τ) a7 fullShare o) ∗ half c tE te ∗ half c tU tu
            ∗ (iprop(owns (c : Thread nD τ) a3 fullShare x ∗ owns (c : Thread nD τ) a4 fullShare g ∗ owns (c : Thread nD τ) a5 fullShare u ∗ owns (c : Thread nD τ) a6 fullShare d ∗ (∃ f, a7.view.loc (c : Thread nD τ) ↦[a7.view.set]{fullShare} a7.view.writes (Elt F) f L) ∗ half c tE te ∗ half c tU tu) -∗ K ⟨⟩))
          ⊢ wp frame (wpE (defs₀ (F := F)) Variants.none c none) E (cc0_moe_group i tE htE tU htU a3 h3 a4 h4 a5 h5 a6 h6 a7 h7) K } := by
  refine ⟨?_, fun E K => ?run⟩
  case run =>
    simp only [cc0_moe_group_eq_skeleton]; unfold cc0_moe_group_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := h3.eq_unread hf0; obtain rfl := h4.eq_unread hf1; obtain rfl := h5.eq_unread hf2; obtain rfl := h6.eq_unread hf3
    sl_exec (disch := first | exact hl | exact hn)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]; · iexists _; iexact H4
    isplitl [HT0]; · iexact HT0
    iexact HT1

end Cert.Kernel4Ideal.Moe
-- ==== Proof.MoeIdealFrame.lean ====
module

public import proofs.«01_k».proof.Proof.MoeIdealRun
public import Idealize.ShloMosaic.Lib.Claim

@[expose] public section

/-! The experts' call at every tile, its run, and what the run leaves: the arguments as launched, the result named tile by tile. -/

set_option maxRecDepth 16384

noncomputable section
namespace Cert.Kernel4Ideal.Moe
open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- Tile `t`'s place in the grid is in use. -/
abbrev liveAt (hO : Ok m) (c : Dev nD) (t : Fin (cfgM m hO).N) : Prop := k0_cond1 (grid0.coords t) (cnt (F := F) c (tbl m 1)) = 1#1

theorem cond2_of (hO : Ok m) (c : Dev nD) (t : Fin (cfgM m hO).N) (h : ¬ liveAt m hO c t) : k0_cond2 (grid0.coords t) (cnt (F := F) c (tbl m 1)) = 1#1 :=
  (cond2_iff _ _).2 h
theorem not_cond2_of (hO : Ok m) (c : Dev nD) (t : Fin (cfgM m hO).N) (h : liveAt m hO c t) : ¬ k0_cond2 (grid0.coords t) (cnt (F := F) c (tbl m 1)) = 1#1 :=
  fun h2 => (cond2_iff _ _).1 h2 h

/-- The run of tile `t`, in use or not. -/
abbrev liveRun (hO : Ok m) (c : Dev nD) (t : Fin (cfgM m hO).N) (h : liveAt m hO c t) :=
  runLive c (grid0.coords t) (mX m hO t) (hX m hO t) (mG m hO t) (hG m hO t) (mU m hO t) (hU m hO t) (mD m hO t) (hD m hO t) (mO m hO t) (hM m hO t)
    (iblk m hO c 0 t) (iblk m hO c 1 t) (iblk m hO c 2 t) (iblk m hO c 3 t) (tbl m 0) (tbl m 1) h (not_cond2_of m hO c t h)
abbrev idleRun (hO : Ok m) (c : Dev nD) (t : Fin (cfgM m hO).N) (h : ¬ liveAt m hO c t) :=
  runIdle c (grid0.coords t) (mX m hO t) (hX m hO t) (mG m hO t) (hG m hO t) (mU m hO t) (hU m hO t) (mD m hO t) (hD m hO t) (mO m hO t) (hM m hO t)
    (iblk m hO c 0 t) (iblk m hO c 1 t) (iblk m hO c 2 t) (iblk m hO c 3 t) (tbl m 0) (tbl m 1) h (cond2_of m hO c t h)

/-- The stores of a tile in use cover its block: eight pieces of 128 lanes. -/
theorem cover_live (hO : Ok m) (c : Dev nD) (t : Fin (cfgM m hO).N) (h : liveAt m hO c t) (y : S8x512x128.Idx) :
    ∃ pc ∈ (liveRun m hO c t h).1, y ∈ pc.1.set :=
  View.cover_of_tiledL (liveRun m hO c t h).1 S1x512x128.size (by sl_kernel_rfl) y

/-- So does the one store of a tile past the count. -/
theorem cover_idle (hO : Ok m) (c : Dev nD) (t : Fin (cfgM m hO).N) (h : ¬ liveAt m hO c t) (y : S8x512x128.Idx) :
    ∃ pc ∈ (idleRun m hO c t h).1, y ∈ pc.1.set :=
  View.cover_of_tiledL (idleRun m hO c t h).1 S8x512x128.size (by sl_kernel_rfl) y

/-- A buffer of the result's block, to read the stores back through. -/
abbrev VO : View sig .tc .vmem S8x512x128 .f32 := (Memref.whole cc0_stg4_0 : Memref sig .tc .vmem S8x512x128 .f32).view

/-- What a tile in use leaves, and what a tile past the count leaves. -/
def outLive (hO : Ok m) (c : Dev nD) (t : Fin (cfgM m hO).N) (h : liveAt m hO c t) : Vec F S8x512x128 .f32 :=
  VO.read (Elt F) (VO.writes (Elt F) VO.junk (liveRun m hO c t h).1)
def outIdle (hO : Ok m) (c : Dev nD) (t : Fin (cfgM m hO).N) (h : ¬ liveAt m hO c t) : Vec F S8x512x128 .f32 :=
  VO.read (Elt F) (VO.writes (Elt F) VO.junk (idleRun m hO c t h).1)

open Classical in
/-- What tile `t` leaves. -/
def out (hO : Ok m) (c : Dev nD) (t : Fin (cfgM m hO).N) : Vec F S8x512x128 .f32 :=
  if h : liveAt m hO c t then outLive m hO c t h else outIdle m hO c t h

theorem out_live (hO : Ok m) (c : Dev nD) (t : Fin (cfgM m hO).N) (h : liveAt m hO c t) : out m hO c t = outLive m hO c t h := dif_pos h
theorem out_idle (hO : Ok m) (c : Dev nD) (t : Fin (cfgM m hO).N) (h : ¬ liveAt m hO c t) : out m hO c t = outIdle m hO c t h := dif_neg h

/-- The pipeline's proof data: inputs left at their blocks, the result's block at `out`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (out m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = out m hO c t := by dsimp only [dats]; try rfl

theorem before_0 (hO : Ok m) (c : Dev nD) (t : Fin (cfgM m hO).N) (d) : (dats m hO 0 c).before 0 t d = iblk m hO c 0 t :=
  held0 m hO (dats m hO 0 c) (A_eq m hO c 0) (after_0 m hO c) t d
theorem before_1 (hO : Ok m) (c : Dev nD) (t : Fin (cfgM m hO).N) (d) : (dats m hO 0 c).before 1 t d = iblk m hO c 1 t :=
  held1 m hO (dats m hO 0 c) (A_eq m hO c 1) (after_1 m hO c) t d
theorem before_2 (hO : Ok m) (c : Dev nD) (t : Fin (cfgM m hO).N) (d) : (dats m hO 0 c).before 2 t d = iblk m hO c 2 t :=
  held2 m hO (dats m hO 0 c) (A_eq m hO c 2) (after_2 m hO c) t d
theorem before_3 (hO : Ok m) (c : Dev nD) (t : Fin (cfgM m hO).N) (d) : (dats m hO 0 c).before 3 t d = iblk m hO c 3 t :=
  held3 m hO (dats m hO 0 c) (A_eq m hO c 3) (after_3 m hO c) t d

/-- What the body starts from at tile `t`, and what it leaves. -/
def bodyPre (hO : Ok m) (c : Dev nD) (t : Fin (cfgM m hO).N) : Assn F :=
  iprop((dats m hO 0 c).Φ t.castSucc ∗ (dats m hO 0 c).owesAt () t.castSucc
    ∗ (∃ d, owns (c : Thread nD τ) (mX m hO t) fullShare ((dats m hO 0 c).before 0 t d))
    ∗ (∃ d, owns (c : Thread nD τ) (mG m hO t) fullShare ((dats m hO 0 c).before 1 t d))
    ∗ (∃ d, owns (c : Thread nD τ) (mU m hO t) fullShare ((dats m hO 0 c).before 2 t d))
    ∗ (∃ d, owns (c : Thread nD τ) (mD m hO t) fullShare ((dats m hO 0 c).before 3 t d))
    ∗ (∃ d, owns (c : Thread nD τ) (mO m hO t) fullShare ((dats m hO 0 c).before 4 t d)))
def bodyPost (hO : Ok m) (c : Dev nD) (t : Fin (cfgM m hO).N) : Assn F :=
  iprop((dats m hO 0 c).Φ t.succ ∗ (dats m hO 0 c).owesAt () t.succ
    ∗ owns (c : Thread nD τ) (mX m hO t) fullShare ((dats m hO 0 c).after 0 t)
    ∗ owns (c : Thread nD τ) (mG m hO t) fullShare ((dats m hO 0 c).after 1 t)
    ∗ owns (c : Thread nD τ) (mU m hO t) fullShare ((dats m hO 0 c).after 2 t)
    ∗ owns (c : Thread nD τ) (mD m hO t) fullShare ((dats m hO 0 c).after 3 t)
    ∗ owns (c : Thread nD τ) (mO m hO t) fullShare ((dats m hO 0 c).after 4 t))

/-- The body at a tile: in use or past the count, it takes the one to the other. -/
theorem body_sound (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, halves]
  by_cases h : liveAt m hO c t
  · rw [out_live m hO c t h]
    unfold outLive
    iintro ⟨⟨HΦ, ⟨HT0, HT1⟩⟩, Ho, ⟨%d0, H0⟩, ⟨%d1, H1⟩, ⟨%d2, H2⟩, ⟨%d3, H3⟩, ⟨%d4, H4⟩⟩
    iapply ((liveRun m hO c t h).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_live m hO c t h)
  · rw [out_idle m hO c t h]
    unfold outIdle
    iintro ⟨⟨HΦ, ⟨HT0, HT1⟩⟩, Ho, ⟨%d0, H0⟩, ⟨%d1, H1⟩, ⟨%d2, H2⟩, ⟨%d3, H3⟩, ⟨%d4, H4⟩⟩
    iapply ((idleRun m hO c t h).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_idle m hO c t h)

/-- The result's block is written back at every tile. -/
theorem flush4 (hO : Ok m) (t : Fin (cfgM m hO).N) : ((cfgM m hO).win 4).flush t = true :=
  (fun t => (Pipeline.Window.flushOf_reads cc0_transform_4 reads0_4 hreads0_4 0 (by decide) (by decide) (Pipeline.Window.sep_of_coord cc0_transform_4 0 1 (fun _ => rfl) (by decide)) (P := 1) (m := 0) (by decide) rfl t).mpr (Nat.mod_one _) : ∀ t : Fin grid0.N, Pipeline.Window.flushOf grid0 true cc0_transform_4 t = true) t

/-- Where a block is written back, it is left at the named contents whether or not the window is idle. -/
theorem settled {P Q : Assn F} {i f : Bool} (hf : f = true) :
    P ⊢ (match (generalizing := false) i with
      | true => (match (generalizing := false) f with | false => Q | true => P)
      | false => P : Assn F) := by
  subst hf; cases i <;> exact .rfl

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The library's obligation of the body. -/
theorem obligation (hO : Ok m) (c : Dev nD) : BodyObligation (dats (F := F) m hO 0 c) (defs₀ (F := F)) Variants.none () Set.univ := fun t => by
  rw [bigSep_W0, bigSep_W0, body_row m hO]
  refine triple_restated (body_sound m hO c t) rfl .rfl fun _ => ?_
  unfold bodyPost
  exact sep_mono .rfl (sep_mono .rfl (sep_mono .rfl (sep_mono .rfl (sep_mono .rfl (sep_mono .rfl (settled (flush4 m hO t)))))))

set_option backward.isDefEq.respectTransparency.types false in
/-- The launch: the arrays as the proof data says, the counters at zero. -/
theorem launched (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := main_region m Variants.none) (hA := A_eq m hO) (hpf := V_tbl m)
    (hΦ := fun _ _ => rfl)

/-- The run with the result named, the arguments as launched, and the counters at zero. -/
theorem run (hO : Ok m) : θ_run defs (onTc (τ := τ) (main (F := F))) ⟨m, fun _ => 0, ρ⟩ (fun r => (∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩) (launched m ρ hO)

/-- The frame. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run m ρ hO)

end Cert.Kernel4Ideal.Moe
-- ==== Proof.MoeCalc.lean ====
module

public import proofs.«01_k».proof.Proof.Norm
public import proofs.«01_k».proof.Proof.MoeIdealFrame
public import Idealize.ShloMosaic.Lib.IdealHost
public import Idealize.ShloMosaic.Lib.Pointwise
public import Idealize.ShloMosaic.Lib.Tactic
public import Idealize.ShloMosaic.Lib.WholeRead
public import Idealize.ShloMosaic.Lib.Pipeline.ReadBack
public import Idealize.ShloMosaic.Lib.Pipeline.ValueKit.Tiles

@[expose] public section

/-! What the experts' kernel stores at a tile in use, read at one place. -/

set_option maxRecDepth 16384
noncomputable section
open Idealize.ShloMosaic Idealize.ShloMosaic.TcCoe Idealize.SL.Sem
namespace Cert.Kernel4Ideal.Val
open Cert.Kernel4Ideal Cert.Kernel4Ideal.Gen

/-- A piece's entry, named by its place in the row. -/
theorem place (P : Fin 8 → Vec Ideal S1x512x128 .f32) (s : Fin 512) (k : Fin 1024) (j : Fin 8) (l : Fin 128) (h : k.val = j.val * 128 + l.val) :
    (P j (ix3 0 s l) : EReal) = P (⟨k.val / 128, by omega⟩ : Fin 8) (ix3 0 s (⟨k.val % 128, by omega⟩ : Fin 128)) := by
  have hj : j = (⟨k.val / 128, by omega⟩ : Fin 8) := Fin.ext (by show j.val = k.val / 128; omega)
  have hl : l = (⟨k.val % 128, by omega⟩ : Fin 128) := Fin.ext (by show l.val = k.val % 128; omega)
  rw [← hj, ← hl]

/-- Eight pieces of 128 lanes side by side, narrowed: entry `k` is lane `k % 128` of piece `k / 128`. -/
theorem row_apply (P : Fin 8 → Vec Ideal S1x512x128 .f32) (s : Fin 512) (k : Fin 1024) :
    (k0_pay5 (P 0) (P 1) (P 2) (P 3) (P 4) (P 5) (P 6) (P 7) (ix2 s k) : EReal) = P (⟨k.val / 128, by omega⟩ : Fin 8) (ix3 0 s (⟨k.val % 128, by omega⟩ : Fin 128)) := by
  pointwise [k0_pay5]
  by_cases h0 : k.val < 128
  · rw [dif_pos h0]; exact place P s k 0 _ (by show k.val = 0 * 128 + (k.val); omega)
  rw [dif_neg h0]
  by_cases h1 : k.val - 128 < 128
  · rw [dif_pos h1]; exact place P s k 1 _ (by show k.val = 1 * 128 + (k.val - 128); omega)
  rw [dif_neg h1]
  by_cases h2 : k.val - 128 - 128 < 128
  · rw [dif_pos h2]; exact place P s k 2 _ (by show k.val = 2 * 128 + (k.val - 128 - 128); omega)
  rw [dif_neg h2]
  by_cases h3 : k.val - 128 - 128 - 128 < 128
  · rw [dif_pos h3]; exact place P s k 3 _ (by show k.val = 3 * 128 + (k.val - 128 - 128 - 128); omega)
  rw [dif_neg h3]
  by_cases h4 : k.val - 128 - 128 - 128 - 128 < 128
  · rw [dif_pos h4]; exact place P s k 4 _ (by show k.val = 4 * 128 + (k.val - 128 - 128 - 128 - 128); omega)
  rw [dif_neg h4]
  by_cases h5 : k.val - 128 - 128 - 128 - 128 - 128 < 128
  · rw [dif_pos h5]; exact place P s k 5 _ (by show k.val = 5 * 128 + (k.val - 128 - 128 - 128 - 128 - 128); omega)
  rw [dif_neg h5]
  by_cases h6 : k.val - 128 - 128 - 128 - 128 - 128 - 128 < 128
  · rw [dif_pos h6]; exact place P s k 6 _ (by show k.val = 6 * 128 + (k.val - 128 - 128 - 128 - 128 - 128 - 128); omega)
  rw [dif_neg h6]
  exact place P s k 7 _ (by show k.val = 7 * 128 + (k.val - 128 - 128 - 128 - 128 - 128 - 128 - 128); omega)

/-- The gate's product, and the up product. -/
theorem gate_apply (P : Fin 8 → Vec Ideal S1x512x128 .f32) (w : Vec Ideal S1x1024x1408 .bf16) (s : Fin 512) (f : Fin 1408) :
    (k0_pay6 (P 0) (P 1) (P 2) (P 3) (P 4) (P 5) (P 6) (P 7) w (ix2 s f) : EReal)
      = ∑ k : Fin 1024, (k0_pay5 (P 0) (P 1) (P 2) (P 3) (P 4) (P 5) (P 6) (P 7) (ix2 s k) : EReal) * w (ix3 0 k f) := by
  pointwise [k0_pay6]
theorem up_apply (P : Fin 8 → Vec Ideal S1x512x128 .f32) (w : Vec Ideal S1x1024x1408 .bf16) (s : Fin 512) (f : Fin 1408) :
    (k0_pay7 (P 0) (P 1) (P 2) (P 3) (P 4) (P 5) (P 6) (P 7) w (ix2 s f) : EReal)
      = ∑ k : Fin 1024, (k0_pay5 (P 0) (P 1) (P 2) (P 3) (P 4) (P 5) (P 6) (P 7) (ix2 s k) : EReal) * w (ix3 0 k f) := by
  pointwise [k0_pay7]
theorem exp_apply (P : Fin 8 → Vec Ideal S1x512x128 .f32) (w : Vec Ideal S1x1024x1408 .bf16) (s : Fin 512) (f : Fin 1408) :
    (k0_pay8 (P 0) (P 1) (P 2) (P 3) (P 4) (P 5) (P 6) (P 7) w (ix2 s f) : EReal)
      = Ideal.exp (Ideal.ofBits .f32 0x00000000#32 - k0_pay6 (P 0) (P 1) (P 2) (P 3) (P 4) (P 5) (P 6) (P 7) w (ix2 s f)) := by
  pointwise [k0_pay8]

/-- The product back to the model's width. -/
theorem down_apply (g u e : FVec Ideal S512x1408 .f32) (w : Vec Ideal S1x1408x1024 .bf16) (s : Fin 512) (d : Fin 1024) :
    (k0_pay9 g u e w (ix2 s d) : EReal)
      = ∑ f : Fin 1408, g (ix2 s f) * Ideal.div (Ideal.ofBits .f32 0x3F800000#32) (Ideal.ofBits .f32 0x3F800000#32 + e (ix2 s f)) * u (ix2 s f) * w (ix3 0 f d) := by
  pointwise [k0_pay9]

/-- Piece `j` of a block of eight. -/
def piece (x : Vec Ideal S8x512x128 .f32) (j : Fin 8) : Vec Ideal S1x512x128 .f32 := fun y => x (ix3 j (y 1) (y 2))

/-- A load of a piece of the slots' block. -/
theorem load_piece (a : Memref sig .tc .vmem S8x512x128 .f32) (h : a.IsWhole) (x : Vec Ideal S8x512x128 .f32) (o : ℕ) (inb) (ho : o < 8) :
    a.view.readAt (Elt Ideal) (Rect.unit (s := S8x512x128) ![o, 0, 0] S1x512x128.size inb).toLoadRect (h.unread x) = piece x (⟨o, ho⟩ : Fin 8) := by
  funext y
  rw [Memref.IsWhole.readAt_unread]
  show x _ = x _
  refine congrArg x ?_
  funext b; apply Fin.ext
  match b with
  | ⟨0, _⟩ => show o + 1 * (y 0).val = o; have := (y 0).isLt; change (y 0).val < 1 at this; omega
  | ⟨1, _⟩ => show 0 + 1 * (y 1).val = (y 1).val; omega
  | ⟨2, _⟩ => show 0 + 1 * (y 2).val = (y 2).val; omega

/-- A load of a whole block of the gate's or the up weights, and of the down weights. -/
theorem load_up (a : Memref sig .tc .vmem S1x1024x1408 .bf16) (h : a.IsWhole) (w : Vec Ideal S1x1024x1408 .bf16) (inb) :
    a.view.readAt (Elt Ideal) (Rect.unit (s := S1x1024x1408) ![0, 0, 0] S1x1024x1408.size inb).toLoadRect (h.unread w) = w := by
  funext y
  rw [Memref.IsWhole.readAt_unread]
  refine congrArg w ?_
  funext b; apply Fin.ext
  match b with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem load_down (a : Memref sig .tc .vmem S1x1408x1024 .bf16) (h : a.IsWhole) (w : Vec Ideal S1x1408x1024 .bf16) (inb) :
    a.view.readAt (Elt Ideal) (Rect.unit (s := S1x1408x1024) ![0, 0, 0] S1x1408x1024.size inb).toLoadRect (h.unread w) = w := by
  funext y
  rw [Memref.IsWhole.readAt_unread]
  refine congrArg w ?_
  funext b; apply Fin.ext
  match b with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A tile's rows through its expert, as the body computes them. -/
def tileOut (x : Vec Ideal S8x512x128 .f32) (g u : Vec Ideal S1x1024x1408 .bf16) (d : Vec Ideal S1x1408x1024 .bf16) : FVec Ideal S512x1024 .f32 :=
  k0_pay9 (k0_pay6 (piece x 0) (piece x 1) (piece x 2) (piece x 3) (piece x 4) (piece x 5) (piece x 6) (piece x 7) g)
    (k0_pay7 (piece x 0) (piece x 1) (piece x 2) (piece x 3) (piece x 4) (piece x 5) (piece x 6) (piece x 7) u)
    (k0_pay8 (piece x 0) (piece x 1) (piece x 2) (piece x 3) (piece x 4) (piece x 5) (piece x 6) (piece x 7) g) d

/-- That at one place: the gated units of the row against a column of the down weights. -/
theorem tileOut_apply (x : Vec Ideal S8x512x128 .f32) (g u : Vec Ideal S1x1024x1408 .bf16) (d : Vec Ideal S1x1408x1024 .bf16) (s : Fin 512) (n : Fin 1024) :
    (tileOut x g u d (ix2 s n) : EReal)
      = ∑ f : Fin 1408, Norm.glu (fun k => x (ix3 (⟨k.val / 128, by omega⟩ : Fin 8) s (⟨k.val % 128, by omega⟩ : Fin 128)))
          (fun k => g (ix3 0 k f)) (fun k => u (ix3 0 k f)) * d (ix3 0 f n) := by
  unfold tileOut
  rw [down_apply]
  refine Finset.sum_congr rfl fun f _ => ?_
  rw [exp_apply (piece x), Norm.sig_zero_sub, gate_apply (piece x), up_apply (piece x)]
  simp only [row_apply (piece x)]
  rfl

/-- The eight stores, each a slice of those rows. -/
theorem sl0 (g u e : FVec Ideal S512x1408 .f32) (w : Vec Ideal S1x1408x1024 .bf16) (s : Fin 512) (l : Fin 128) :
    k0_pay10 g u e w (ix3 0 s l) = k0_pay9 g u e w (ix2 s (⟨0 * 128 + l.val, by omega⟩ : Fin 1024)) := by
  pointwise [k0_pay10]
theorem sl1 (g u e : FVec Ideal S512x1408 .f32) (w : Vec Ideal S1x1408x1024 .bf16) (s : Fin 512) (l : Fin 128) :
    k0_pay11 g u e w (ix3 0 s l) = k0_pay9 g u e w (ix2 s (⟨1 * 128 + l.val, by omega⟩ : Fin 1024)) := by
  pointwise [k0_pay11]
theorem sl2 (g u e : FVec Ideal S512x1408 .f32) (w : Vec Ideal S1x1408x1024 .bf16) (s : Fin 512) (l : Fin 128) :
    k0_pay12 g u e w (ix3 0 s l) = k0_pay9 g u e w (ix2 s (⟨2 * 128 + l.val, by omega⟩ : Fin 1024)) := by
  pointwise [k0_pay12]
theorem sl3 (g u e : FVec Ideal S512x1408 .f32) (w : Vec Ideal S1x1408x1024 .bf16) (s : Fin 512) (l : Fin 128) :
    k0_pay13 g u e w (ix3 0 s l) = k0_pay9 g u e w (ix2 s (⟨3 * 128 + l.val, by omega⟩ : Fin 1024)) := by
  pointwise [k0_pay13]
theorem sl4 (g u e : FVec Ideal S512x1408 .f32) (w : Vec Ideal S1x1408x1024 .bf16) (s : Fin 512) (l : Fin 128) :
    k0_pay14 g u e w (ix3 0 s l) = k0_pay9 g u e w (ix2 s (⟨4 * 128 + l.val, by omega⟩ : Fin 1024)) := by
  pointwise [k0_pay14]
theorem sl5 (g u e : FVec Ideal S512x1408 .f32) (w : Vec Ideal S1x1408x1024 .bf16) (s : Fin 512) (l : Fin 128) :
    k0_pay1 (k0_pay15 g u e w) (ix3 0 s l) = k0_pay9 g u e w (ix2 s (⟨5 * 128 + l.val, by omega⟩ : Fin 1024)) := by
  pointwise [k0_pay1, k0_pay15]
theorem sl6 (y : FVec Ideal S512x1024 .f32) (s : Fin 512) (l : Fin 128) :
    k0_pay2 y (ix3 0 s l) = y (ix2 s (⟨6 * 128 + l.val, by omega⟩ : Fin 1024)) := by
  pointwise [k0_pay2]
theorem sl7 (y : FVec Ideal S512x1024 .f32) (s : Fin 512) (l : Fin 128) :
    k0_pay3 y (ix3 0 s l) = y (ix2 s (⟨7 * 128 + l.val, by omega⟩ : Fin 1024)) := by
  pointwise [k0_pay3]

/-- A place of a stored piece, named by the block's. -/
theorem at_piece (p : Fin 8) (s : Fin 512) (l : Fin 128) (x : S1x512x128.Idx) (h1 : s.val = (x 1).val) (h2 : l.val = (x 2).val) : x = ix3 0 s l := by
  funext b; apply Fin.ext
  match b with
  | ⟨0, _⟩ => show (x 0).val = 0; have := (x 0).isLt; change (x 0).val < 1 at this; omega
  | ⟨1, _⟩ => exact h1.symm
  | ⟨2, _⟩ => exact h2.symm

variable (m : (ℓ : Loc nD τ sig) → Buf (Elt Ideal) ℓ)

/-- The values the body keeps between its parts. -/
theorem r1_eq (c : Dev nD) (a : Memref sig .tc .vmem S8x512x128 .f32) (ha : a.IsWhole) (b : Memref sig .tc .vmem S1x1024x1408 .bf16) (hb : b.IsWhole)
    (x : Vec Ideal S8x512x128 .f32) (g : Vec Ideal S1x1024x1408 .bf16) :
    Moe.runLive.sl.r_1 c a ha b hb x g = k0_pay6 (piece x 0) (piece x 1) (piece x 2) (piece x 3) (piece x 4) (piece x 5) (piece x 6) (piece x 7) g := by
  unfold Moe.runLive.sl.r_1
  rw [load_up b hb g, load_piece a ha x 0 _ (by omega), load_piece a ha x 1 _ (by omega), load_piece a ha x 2 _ (by omega), load_piece a ha x 3 _ (by omega),
    load_piece a ha x 4 _ (by omega), load_piece a ha x 5 _ (by omega), load_piece a ha x 6 _ (by omega), load_piece a ha x 7 _ (by omega)]
  rfl
theorem r2_eq (c : Dev nD) (a : Memref sig .tc .vmem S8x512x128 .f32) (ha : a.IsWhole) (b : Memref sig .tc .vmem S1x1024x1408 .bf16) (hb : b.IsWhole)
    (x : Vec Ideal S8x512x128 .f32) (g : Vec Ideal S1x1024x1408 .bf16) :
    Moe.runLive.sl.r_2 c a ha b hb x g = k0_pay7 (piece x 0) (piece x 1) (piece x 2) (piece x 3) (piece x 4) (piece x 5) (piece x 6) (piece x 7) g := by
  unfold Moe.runLive.sl.r_2
  rw [load_up b hb g, load_piece a ha x 0 _ (by omega), load_piece a ha x 1 _ (by omega), load_piece a ha x 2 _ (by omega), load_piece a ha x 3 _ (by omega),
    load_piece a ha x 4 _ (by omega), load_piece a ha x 5 _ (by omega), load_piece a ha x 6 _ (by omega), load_piece a ha x 7 _ (by omega)]
  rfl
theorem r3_eq (c : Dev nD) (a : Memref sig .tc .vmem S8x512x128 .f32) (ha : a.IsWhole) (b : Memref sig .tc .vmem S1x1024x1408 .bf16) (hb : b.IsWhole)
    (x : Vec Ideal S8x512x128 .f32) (g : Vec Ideal S1x1024x1408 .bf16) :
    Moe.runLive.sl.r_3 c a ha b hb x g = k0_pay8 (piece x 0) (piece x 1) (piece x 2) (piece x 3) (piece x 4) (piece x 5) (piece x 6) (piece x 7) g := by
  unfold Moe.runLive.sl.r_3
  rw [load_up b hb g, load_piece a ha x 0 _ (by omega), load_piece a ha x 1 _ (by omega), load_piece a ha x 2 _ (by omega), load_piece a ha x 3 _ (by omega),
    load_piece a ha x 4 _ (by omega), load_piece a ha x 5 _ (by omega), load_piece a ha x 6 _ (by omega), load_piece a ha x 7 _ (by omega)]
  rfl

/-- The rows computed from equal parts are equal. -/
theorem pay9_congr {g g' u u' e e' : FVec Ideal S512x1408 .f32} {w w' : Vec Ideal S1x1408x1024 .bf16} (hg : g = g') (hu : u = u') (he : e = e') (hw : w = w') (j : S512x1024.Idx) :
    k0_pay9 g u e w j = k0_pay9 g' u' e' w' j := by
  subst hg hu he hw; rfl

set_option maxHeartbeats 600000 in
/-- The stores of a tile in use, read back: those rows, lane by lane of their pieces. -/
theorem stores_apply (c : Dev nD) (i : grid0.Coords) (a3 : Memref sig .tc .vmem S8x512x128 .f32) (h3 : a3.IsWhole) (a4 : Memref sig .tc .vmem S1x1024x1408 .bf16) (h4 : a4.IsWhole)
    (a5 : Memref sig .tc .vmem S1x1024x1408 .bf16) (h5 : a5.IsWhole) (a6 : Memref sig .tc .vmem S1x1408x1024 .bf16) (h6 : a6.IsWhole) (a7 : Memref sig .tc .vmem S8x512x128 .f32) (h7 : a7.IsWhole)
    (X : Vec Ideal S8x512x128 .f32) (g : Vec Ideal S1x1024x1408 .bf16) (u : Vec Ideal S1x1024x1408 .bf16) (d : Vec Ideal S1x1408x1024 .bf16) (te : Moe.TB Ideal c Moe.tE) (tu : Moe.TB Ideal c Moe.tU)
    (hl : k0_cond1 i (Moe.cnt (F := Ideal) c tu) = 1#1) (hn : ¬ k0_cond2 i (Moe.cnt (F := Ideal) c tu) = 1#1) (p : Fin 8) (s : Fin 512) (l : Fin 128) :
    View.canon (Moe.runLive (F := Ideal) c i a3 h3 a4 h4 a5 h5 a6 h6 a7 h7 X g u d te tu hl hn).1 (ix3 p s l)
      = tileOut X g u d (ix2 s (⟨p.val * 128 + l.val, by omega⟩ : Fin 1024)) := by
  unfold Moe.runLive
  dsimp only
  unfold tileOut
  canon_tiles x hx
  case piece0 =>
    obtain rfl : x = ix3 0 s l := at_piece p s l x hx1 hx2
    obtain rfl : p = 7 := Fin.ext hx0
    refine (sl7 _ s l).trans ?_
    exact pay9_congr (r1_eq ..) (r2_eq ..) (r3_eq ..) (load_down ..) _
  case piece1 =>
    obtain rfl : x = ix3 0 s l := at_piece p s l x hx1 hx2
    obtain rfl : p = 6 := Fin.ext hx0
    refine (sl6 _ s l).trans ?_
    exact pay9_congr (r1_eq ..) (r2_eq ..) (r3_eq ..) (load_down ..) _
  case piece2 =>
    obtain rfl : x = ix3 0 s l := at_piece p s l x hx1 hx2
    obtain rfl : p = 5 := Fin.ext hx0
    refine (sl5 _ _ _ _ s l).trans ?_
    exact pay9_congr (r1_eq ..) (r2_eq ..) (r3_eq ..) (load_down ..) _
  case piece3 =>
    obtain rfl : x = ix3 0 s l := at_piece p s l x hx1 hx2
    obtain rfl : p = 4 := Fin.ext hx0
    refine (sl4 _ _ _ _ s l).trans ?_
    exact pay9_congr (r1_eq ..) (r2_eq ..) (r3_eq ..) (load_down ..) _
  case piece4 =>
    obtain rfl : x = ix3 0 s l := at_piece p s l x hx1 hx2
    obtain rfl : p = 3 := Fin.ext hx0
    refine (sl3 _ _ _ _ s l).trans ?_
    exact pay9_congr (r1_eq ..) (r2_eq ..) (r3_eq ..) (load_down ..) _
  case piece5 =>
    obtain rfl : x = ix3 0 s l := at_piece p s l x hx1 hx2
    obtain rfl : p = 2 := Fin.ext hx0
    refine (sl2 _ _ _ _ s l).trans ?_
    exact pay9_congr (r1_eq ..) (r2_eq ..) (r3_eq ..) (load_down ..) _
  case piece6 =>
    obtain rfl : x = ix3 0 s l := at_piece p s l x hx1 hx2
    obtain rfl : p = 1 := Fin.ext hx0
    refine (sl1 _ _ _ _ s l).trans ?_
    exact pay9_congr (r1_eq ..) (r2_eq ..) (r3_eq ..) (load_down ..) _
  case piece7 =>
    obtain rfl : x = ix3 0 s l := at_piece p s l x hx1 hx2
    obtain rfl : p = 0 := Fin.ext (hx0.trans rfl)
    refine (sl0 _ _ _ _ s l).trans ?_
    exact pay9_congr (r1_eq ..) (r2_eq ..) (r3_eq ..) (load_down ..) _

/-- A tile in use leaves those rows. -/
theorem outLive_apply (hO : Moe.Ok m) (c : Dev nD) (t : Fin (Moe.cfgM m hO).N) (h : Moe.liveAt m hO c t) (p : Fin 8) (s : Fin 512) (l : Fin 128) :
    Moe.outLive m hO c t h (ix3 p s l)
      = tileOut (Moe.iblk m hO c 0 t) (Moe.iblk m hO c 1 t) (Moe.iblk m hO c 2 t) (Moe.iblk m hO c 3 t) (ix2 s (⟨p.val * 128 + l.val, by omega⟩ : Fin 1024)) := by
  unfold Moe.outLive
  rw [View.read_writes_junk_eq_canon]
  exact stores_apply ..

/-- A tile past the count leaves zeros. -/
theorem outIdle_apply (hO : Moe.Ok m) (c : Dev nD) (t : Fin (Moe.cfgM m hO).N) (h : ¬ Moe.liveAt m hO c t) (p : Fin 8) (s : Fin 512) (l : Fin 128) :
    (Moe.outIdle m hO c t h (ix3 p s l) : EReal) = 0 := by
  unfold Moe.outIdle
  rw [View.read_writes_junk_eq_canon]
  unfold Moe.idleRun Moe.runIdle
  dsimp only
  canon_tiles x hx
  show Ideal.ofBits .f32 0x00000000#32 = 0
  exact Ideal.ofBits_zero_f32

end Cert.Kernel4Ideal.Val
-- ==== Proof.MoeIdealOk.lean ====
module

public import proofs.«01_k».proof.Proof.MoeIdealFrame
public import proofs.«01_k».proof.Proof.MoePre
public import Idealize.ShloMosaic.Lib.Pointwise

@[expose] public section

/-! The experts' table in range puts every weight block inside its array. -/

set_option maxRecDepth 16384

noncomputable section
namespace Cert.Kernel4Ideal.Moe
open Cert.Kernel4Ideal Cert.Kernel4Ideal.Gen
open Idealize.ShloMosaic Idealize.ShloMosaic.TcCoe

variable {F : FTy → Type} [FloatOps F]

/-- The table's word for the place `i` of the grid. -/
abbrev word (pf : pre0.Contents (Elt F)) (i : grid0.Coords) : BitVec 32 := (pf 0 : Vec F S140 .i32) (ix1 (⟨(i 0).val, (i 0).isLt⟩ : Fin 140))

/-- What the weights' index maps read. -/
theorem at_eq (pf : pre0.Contents (Elt F)) (i : grid0.Coords) :
    pf.at 0 (Rect.unit (s := S140) ![(Scalar.indexCast (BitVec.ofNat 32 (i 0).val)).toNat] S1.size (k0_off1_inb i)) numel1_S1 = word pf i := by
  refine congrArg (pf 0) ?_
  funext a; apply Fin.ext
  match a with
  | ⟨0, _⟩ =>
    have hi : (i 0).val < 140 := (i 0).isLt
    show (BitVec.ofNat 32 (i 0).val).toNat + 1 * 0 = (i 0).val
    rw [BitVec.toNat_ofNat]
    omega

theorem tr1 (pf : pre0.Contents (Elt F)) (i : grid0.Coords) : cc0_transform_1 k0_off1_inb numel1_S1 pf i = ![(word pf i).toNat, 0, 0] := by
  unfold cc0_transform_1
  dsimp only
  rw [at_eq]
  rfl
theorem tr2 (pf : pre0.Contents (Elt F)) (i : grid0.Coords) : cc0_transform_2 k0_off1_inb numel1_S1 pf i = ![(word pf i).toNat, 0, 0] := by
  unfold cc0_transform_2
  dsimp only
  rw [at_eq]
  rfl
theorem tr3 (pf : pre0.Contents (Elt F)) (i : grid0.Coords) : cc0_transform_3 k0_off1_inb numel1_S1 pf i = ![(word pf i).toNat, 0, 0] := by
  unfold cc0_transform_3
  dsimp only
  rw [at_eq]
  rfl

theorem ok_of (pf : pre0.Contents (Elt F)) (h : ∀ t : Fin 140, ((pf 0 : Vec F S140 .i32) (ix1 t)).toNat < 8) : ok0 pf := by
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · intro a
    rw [tr1]
    have hw : (word pf i).toNat < 8 := h (⟨(i 0).val, (i 0).isLt⟩ : Fin 140)
    match a with
    | ⟨0, _⟩ => show ((word pf i).toNat + 1) * 1 ≤ 8; omega
    | ⟨1, _⟩ => exact of_decide_eq_true rfl
    | ⟨2, _⟩ => exact of_decide_eq_true rfl
  · intro a
    rw [tr2]
    have hw : (word pf i).toNat < 8 := h (⟨(i 0).val, (i 0).isLt⟩ : Fin 140)
    match a with
    | ⟨0, _⟩ => show ((word pf i).toNat + 1) * 1 ≤ 8; omega
    | ⟨1, _⟩ => exact of_decide_eq_true rfl
    | ⟨2, _⟩ => exact of_decide_eq_true rfl
  · intro a
    rw [tr3]
    have hw : (word pf i).toNat < 8 := h (⟨(i 0).val, (i 0).isLt⟩ : Fin 140)
    match a with
    | ⟨0, _⟩ => show ((word pf i).toNat + 1) * 1 ≤ 8; omega
    | ⟨1, _⟩ => exact of_decide_eq_true rfl
    | ⟨2, _⟩ => exact of_decide_eq_true rfl

variable (m : (ℓ : Loc nD τ sig) → Buf (Elt F) ℓ)

/-- The precondition read for the call. -/
theorem range (c : Dev nD) (h : Cert.Pre_experts_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1)
    (t : Fin 140) : ((m ((c.tc : Thread nD τ).loc main_arg0) : Vec F S140 .i32) (ix1 t)).toNat < 8 :=
  Cert.MoePre.read _ _ _ _ _ _ h t

theorem ok_range (h : ∀ c : Dev nD, Cert.Pre_experts_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) : Ok m :=
  ok_of (tbl m) fun t => range m 0 (h 0) t

end Cert.Kernel4Ideal.Moe
-- ==== Proof.MoeVal.lean ====
module

public import proofs.«01_k».proof.Proof.MoeCalc
public import proofs.«01_k».proof.Proof.MoeIdealOk
public import Idealize.ShloMosaic.Lib.Pipeline.Value

@[expose] public section

/-! The experts' result, place by place. -/

set_option maxRecDepth 16384
noncomputable section
open Idealize.ShloMosaic Idealize.ShloMosaic.TcCoe Idealize.SL.Sem
namespace Cert.Kernel4Ideal.Val
open Cert.Kernel4Ideal Cert.Kernel4Ideal.Gen

variable (m : (ℓ : Loc nD τ sig) → Buf (Elt Ideal) ℓ)

/-- The grid has one axis, so a tile's place is its number. -/
theorem coord : ∀ t : Fin grid0.N, (grid0.coords t 0).val = t.val := by decide +kernel

theorem tr0 (t : Fin grid0.N) : cc0_transform_0 (grid0.coords t) = ![0, t.val, 0] := by
  revert t; decide +kernel
theorem tr4 (t : Fin grid0.N) : cc0_transform_4 (grid0.coords t) = ![0, t.val, 0] := by
  revert t; decide +kernel

/-- The slots' block at a tile. -/
theorem xblock (hO : Moe.Ok m) (c : Dev nD) (t : Fin (Moe.cfgM m hO).N) (p : Fin 8) (s : Fin 512) (l : Fin 128) (q : Fin 71680) (hq : q.val = t.val * 512 + s.val) :
    (Moe.iblk m hO c 0 t : Vec Ideal S8x512x128 .f32) (ix3 p s l) = m ((c.tc : Thread nD τ).loc main_arg2) (ix3 p q l) := by
  unfold Moe.iblk
  refine (View.read_apply ..).trans ?_
  show m ((c.tc : Thread nD τ).loc main_arg2) _ = _
  refine congrArg (m ((c.tc : Thread nD τ).loc main_arg2)) ?_
  funext a; apply Fin.ext
  match a with
  | ⟨0, _⟩ => show cc0_transform_0 (grid0.coords t) 0 * 8 + 1 * p.val = p.val; rw [tr0]; show 0 * 8 + 1 * p.val = p.val; omega
  | ⟨1, _⟩ => show cc0_transform_0 (grid0.coords t) 1 * 512 + 1 * s.val = q.val; rw [tr0]; show t.val * 512 + 1 * s.val = q.val; omega
  | ⟨2, _⟩ => show cc0_transform_0 (grid0.coords t) 2 * 128 + 1 * l.val = l.val; rw [tr0]; show 0 * 128 + 1 * l.val = l.val; omega

/-- The gate's, up and down weights' blocks at a tile: those of its expert. -/
theorem gblock (hO : Moe.Ok m) (c : Dev nD) (t : Fin (Moe.cfgM m hO).N) (k : Fin 1024) (f : Fin 1408) (e : Fin 8) (he : (Moe.word (Moe.tbl m) (grid0.coords t)).toNat = e.val) :
    (Moe.iblk m hO c 1 t : Vec Ideal S1x1024x1408 .bf16) (ix3 0 k f) = m ((c.tc : Thread nD τ).loc main_arg3) (ix3 e k f) := by
  unfold Moe.iblk
  refine (View.read_apply ..).trans ?_
  show m ((c.tc : Thread nD τ).loc main_arg3) _ = _
  refine congrArg (m ((c.tc : Thread nD τ).loc main_arg3)) ?_
  funext a; apply Fin.ext
  match a with
  | ⟨0, _⟩ => show cc0_transform_1 k0_off1_inb numel1_S1 (Moe.tbl m) (grid0.coords t) 0 * 1 + 1 * 0 = e.val; rw [Moe.tr1, ← he]; show (Moe.word (Moe.tbl m) (grid0.coords t)).toNat * 1 + 1 * 0 = _; omega
  | ⟨1, _⟩ => show 0 * 1024 + 1 * k.val = k.val; omega
  | ⟨2, _⟩ => show 0 * 1408 + 1 * f.val = f.val; omega
theorem ublock (hO : Moe.Ok m) (c : Dev nD) (t : Fin (Moe.cfgM m hO).N) (k : Fin 1024) (f : Fin 1408) (e : Fin 8) (he : (Moe.word (Moe.tbl m) (grid0.coords t)).toNat = e.val) :
    (Moe.iblk m hO c 2 t : Vec Ideal S1x1024x1408 .bf16) (ix3 0 k f) = m ((c.tc : Thread nD τ).loc main_arg4) (ix3 e k f) := by
  unfold Moe.iblk
  refine (View.read_apply ..).trans ?_
  show m ((c.tc : Thread nD τ).loc main_arg4) _ = _
  refine congrArg (m ((c.tc : Thread nD τ).loc main_arg4)) ?_
  funext a; apply Fin.ext
  match a with
  | ⟨0, _⟩ => show cc0_transform_2 k0_off1_inb numel1_S1 (Moe.tbl m) (grid0.coords t) 0 * 1 + 1 * 0 = e.val; rw [Moe.tr2, ← he]; show (Moe.word (Moe.tbl m) (grid0.coords t)).toNat * 1 + 1 * 0 = _; omega
  | ⟨1, _⟩ => show 0 * 1024 + 1 * k.val = k.val; omega
  | ⟨2, _⟩ => show 0 * 1408 + 1 * f.val = f.val; omega
theorem dblock (hO : Moe.Ok m) (c : Dev nD) (t : Fin (Moe.cfgM m hO).N) (f : Fin 1408) (n : Fin 1024) (e : Fin 8) (he : (Moe.word (Moe.tbl m) (grid0.coords t)).toNat = e.val) :
    (Moe.iblk m hO c 3 t : Vec Ideal S1x1408x1024 .bf16) (ix3 0 f n) = m ((c.tc : Thread nD τ).loc main_arg5) (ix3 e f n) := by
  unfold Moe.iblk
  refine (View.read_apply ..).trans ?_
  show m ((c.tc : Thread nD τ).loc main_arg5) _ = _
  refine congrArg (m ((c.tc : Thread nD τ).loc main_arg5)) ?_
  funext a; apply Fin.ext
  match a with
  | ⟨0, _⟩ => show cc0_transform_3 k0_off1_inb numel1_S1 (Moe.tbl m) (grid0.coords t) 0 * 1 + 1 * 0 = e.val; rw [Moe.tr3, ← he]; show (Moe.word (Moe.tbl m) (grid0.coords t)).toNat * 1 + 1 * 0 = _; omega
  | ⟨1, _⟩ => show 0 * 1408 + 1 * f.val = f.val; omega
  | ⟨2, _⟩ => show 0 * 1024 + 1 * n.val = n.val; omega

/-- Distinct tiles' blocks of the result share no place. -/
theorem disjoint4 (hO : Moe.Ok m) : ∀ t t' : Fin (Moe.cfgM m hO).N, ((Moe.cfgM m hO).win 4).flush t = true → ((Moe.cfgM m hO).win 4).flush t' = true → t ≠ t' →
    Disjoint (((Moe.cfgM m hO).win 4).blk t).view.set (((Moe.cfgM m hO).win 4).blk t').view.set :=
  fun t t' _ _ hne => ((Moe.cfgM m hO).win 4).disjoint_blk fun h => hne (by
    have h1 : cc0_transform_4 (grid0.coords t) = cc0_transform_4 (grid0.coords t') := h
    rw [tr4, tr4] at h1
    exact Fin.ext (congrFun h1 1))

/-- A tile's block of an array laid out as the result. -/
theorem oblock (hO : Moe.Ok m) (t : Fin (Moe.cfgM m hO).N) (A : Vec Ideal S8x71680x128 .f32) (p : Fin 8) (s : Fin 512) (l : Fin 128) (q : Fin 71680) (hq : q.val = t.val * 512 + s.val) :
    (((Moe.cfgM m hO).win 4).blk t).view.read (Elt Ideal) A (ix3 p s l) = A (ix3 p q l) := by
  refine (View.read_apply ..).trans ?_
  show A _ = A _
  refine congrArg A ?_
  funext a; apply Fin.ext
  match a with
  | ⟨0, _⟩ => show cc0_transform_4 (grid0.coords t) 0 * 8 + 1 * p.val = p.val; rw [tr4]; show 0 * 8 + 1 * p.val = p.val; omega
  | ⟨1, _⟩ => show cc0_transform_4 (grid0.coords t) 1 * 512 + 1 * s.val = q.val; rw [tr4]; show t.val * 512 + 1 * s.val = q.val; omega
  | ⟨2, _⟩ => show cc0_transform_4 (grid0.coords t) 2 * 128 + 1 * l.val = l.val; rw [tr4]; show 0 * 128 + 1 * l.val = l.val; omega

/-- What a tile writes back is what it left. -/
theorem written (hO : Moe.Ok m) (c : Dev nD) (t : Fin (Moe.cfgM m hO).N) :
    (Moe.dats m hO 0 c).flushed 4 t = ((Moe.cfgM m hO).win 4).cut (grid0.coords t) (Moe.out m hO c t) := by
  show ((Moe.cfgM m hO).win 4).cut (grid0.coords t) ((Moe.dats m hO 0 c).after 4 t) = _
  rw [Moe.after_4]

/-- The result at one place is what its tile left there. -/
theorem res_tile (hO : Moe.Ok m) (c : Dev nD) (t : Fin (Moe.cfgM m hO).N) (p : Fin 8) (s : Fin 512) (l : Fin 128) (q : Fin 71680) (hq : q.val = t.val * 512 + s.val) :
    ((Moe.dats m hO 0 c).arrAt 4 (Moe.cfgM m hO).N : Vec Ideal S8x71680x128 .f32) (ix3 p q l) = Moe.out m hO c t (ix3 p s l) := by
  have h := (Moe.dats m hO 0 c).read_blk_arrAt_eq_flushed 4 (disjoint4 m hO) (Moe.cfgM m hO).N t t.isLt (Moe.flush4 m hO t)
  have h3 := congrFun (h.trans (written m hO c t)) (ix3 p s l)
  exact (oblock m hO t _ p s l q hq).symm.trans h3

/-- Whether a tile is in use, in words. -/
theorem cond_iff (i : grid0.Coords) (n : BitVec 32) : k0_cond1 i n = 1#1 ↔ IntOp.cmpi .slt (BitVec.ofNat 32 (i 0).val) n = 1#1 := by
  unfold k0_cond1
  dsimp only
  show IntOp.cmpi .ne (Scalar.extui (IntOp.cmpi .slt (BitVec.ofNat 32 (i 0).val) n)) 0#32 = 1#1 ↔ _
  generalize IntOp.cmpi .slt (BitVec.ofNat 32 (i 0).val) n = b
  revert b
  decide

/-- The count the body loads. -/
theorem cnt_eq (c : Dev nD) (u : Moe.TB Ideal c Moe.tU) : Moe.cnt (F := Ideal) c u = (u : Vec Ideal S1 .i32) (ix1 (0 : Fin 1)) := by
  unfold Moe.cnt
  refine (View.readAt_apply ..).trans ?_
  show (u : Vec Ideal S1 .i32) _ = _
  refine congrArg (u : Vec Ideal S1 .i32) ?_
  funext a
  obtain rfl : a = (0 : Fin 1) := Subsingleton.elim (α := Fin 1) _ _
  exact Subsingleton.elim (α := Fin 1) _ _

end Cert.Kernel4Ideal.Val
-- ==== Proof.MoeRef.lean ====
module

public import proofs.«01_k».proof.Proof.Norm
public import proofs.«01_k».proof.Proof.Gen.Reference4Ideal.Run
public import Idealize.ShloMosaic.Lib.IdealHost
public import Idealize.ShloMosaic.Lib.Pointwise
public import Idealize.ShloMosaic.Lib.Tactic

@[expose] public section

/-! The experts' reference read at one place. -/

set_option maxRecDepth 16384
noncomputable section
open Idealize.ShloMosaic Idealize.ShloMosaic.TcCoe Idealize.SL.Sem
namespace Cert.Reference4Ideal.Read
open Cert.Reference4Ideal Cert.Reference4Ideal.Gen Cert.Reference4Ideal.Value

/-- The slots' rows, tile by tile. -/
def rows (x : FVec Ideal S8x71680x128 .f32) : FVec Ideal S140x512x1024 .f32 :=
  shapeCast S140x512x1024 (transpose S71680x8x128 [1, 0, 2] x transposes_S8x71680x128_S71680x8x128_1_0_2) shapeCasts_S71680x8x128_S140x512x1024

/-- Every expert's projection of every row to its hidden units. -/
def up (x : FVec Ideal S140x512x1024 .f32) (w : FVec Ideal S8x1024x1408 .bf16) : FVec Ideal S8x140x512x1408 .f32 :=
  transpose S8x140x512x1408 [0, 2, 3, 1] (Host.dotGeneral dot_S8x1024x1408_S140x512x1024_S8x1408x140x512_1_2_02_01_n_n none (extf .f32 w bitsLt_bf16_f32) x) transposes_S8x1408x140x512_S8x140x512x1408_0_2_3_1

/-- The gated units. -/
def act (z u : FVec Ideal S8x140x512x1408 .f32) : FVec Ideal S8x140x512x1408 .f32 :=
  mulf (mulf z (Host.divf (broadcastInDim S8x140x512x1408 ![] bcast_S_S8x140x512x1408 (constant S_ .f32 0x3F800000#32)) (addf (broadcastInDim S8x140x512x1408 ![] bcast_S_S8x140x512x1408 (constant S_ .f32 0x3F800000#32)) (Host.exp (Host.negf z))))) u

/-- Every expert's projection of its units back. -/
def down (a : FVec Ideal S8x140x512x1408 .f32) (w : FVec Ideal S8x1408x1024 .bf16) : FVec Ideal S8x140x512x1024 .f32 :=
  Host.dotGeneral dot_S8x140x512x1408_S8x1408x1024_S8x140x512x1024_3_1_12_2_0_0 none a (extf .f32 w bitsLt_bf16_f32)

/-- Which expert's output a tile takes: its own, if the tile is in use. -/
def mask (te : Vec Ideal S140 .i32) (n : Vec Ideal S1 .i32) : Vec Ideal S8x140 .i1 :=
  andi (cmpi .eq (broadcastInDim S8x140 ![0, 1] bcast_S1x140_S8x140_0_1 (broadcastInDim S1x140 ![1] bcast_S140_S1x140_1 te)) (broadcastInDim S8x140 ![0, 1] bcast_S8x1_S8x140_0_1 (broadcastInDim S8x1 ![0] bcast_S8_S8x1_0 (iotaInDim S8 32 0)))) (broadcastInDim S8x140 ![0, 1] bcast_S1x140_S8x140_0_1 (broadcastInDim S1x140 ![1] bcast_S140_S1x140_1 (cmpi .slt (iotaInDim S140 32 0) (broadcastInDim S140 ![] bcast_S_S140 (shapeCast S_ n shapeCasts_S1_S_)))))

/-- The outputs taken, summed over the experts. -/
def pick (k : Vec Ideal S8x140 .i1) (y : FVec Ideal S8x140x512x1024 .f32) : FVec Ideal S140x512x1024 .f32 :=
  Host.reduceAdd (select (broadcastInDim S8x140x512x1024 ![0, 1, 2, 3] bcast_S8x140x1x1_S8x140x512x1024_0_1_2_3 (broadcastInDim S8x140x1x1 ![0, 1] bcast_S8x140_S8x140x1x1_0_1 k)) y (broadcastInDim S8x140x512x1024 ![] bcast_S_S8x140x512x1024 (id (constant S_ .f32 0x00000000#32)))) (constant S_ .f32 0x00000000#32) reducesTo_S8x140x512x1024_S140x512x1024_d0 h_S_

/-- Back to the slots' layout. -/
def lay (y : FVec Ideal S140x512x1024 .f32) : FVec Ideal S8x71680x128 .f32 :=
  transpose S8x71680x128 [1, 0, 2] (shapeCast S71680x8x128 y shapeCasts_S140x512x1024_S71680x8x128) transposes_S71680x8x128_S8x71680x128_1_0_2

/-- The whole reference. -/
def all (te : Vec Ideal S140 .i32) (n : Vec Ideal S1 .i32) (x : FVec Ideal S8x71680x128 .f32) (wg wu : FVec Ideal S8x1024x1408 .bf16) (wd : FVec Ideal S8x1408x1024 .bf16) :
    FVec Ideal S8x71680x128 .f32 :=
  lay (pick (mask te n) (down (act (up (rows x) wg) (up (rows x) wu)) wd))

/-- Slot `q`'s row: tile `q / 512`, row `q % 512`; model entry `k` in piece `k / 128`, lane `k % 128`. -/
theorem rows_apply (x : FVec Ideal S8x71680x128 .f32) (t : Fin 140) (s : Fin 512) (k : Fin 1024) :
    rows x (ix3 t s k) = x (ix3 (⟨k.val / 128, by omega⟩ : Fin 8) (⟨t.val * 512 + s.val, by omega⟩ : Fin 71680) (⟨k.val % 128, by omega⟩ : Fin 128)) := by
  pointwise [rows]

theorem up_apply (x : FVec Ideal S140x512x1024 .f32) (w : FVec Ideal S8x1024x1408 .bf16) (e : Fin 8) (t : Fin 140) (s : Fin 512) (f : Fin 1408) :
    (up x w (ix4 e t s f) : EReal) = ∑ k : Fin 1024, (w (ix3 e k f) : EReal) * x (ix3 t s k) := by
  pointwise [up]

theorem act_apply (z u : FVec Ideal S8x140x512x1408 .f32) (e : Fin 8) (t : Fin 140) (s : Fin 512) (f : Fin 1408) :
    (act z u (ix4 e t s f) : EReal) = z (ix4 e t s f) * Norm.sig (z (ix4 e t s f)) * u (ix4 e t s f) := by
  unfold Norm.sig
  pointwise [act]

theorem down_apply (a : FVec Ideal S8x140x512x1408 .f32) (w : FVec Ideal S8x1408x1024 .bf16) (e : Fin 8) (t : Fin 140) (s : Fin 512) (d : Fin 1024) :
    (down a w (ix4 e t s d) : EReal) = ∑ f : Fin 1408, (a (ix4 e t s f) : EReal) * w (ix3 e f d) := by
  pointwise [down]

theorem mask_apply (te : Vec Ideal S140 .i32) (n : Vec Ideal S1 .i32) (e : Fin 8) (t : Fin 140) :
    mask te n (ix2 e t) = IntOp.andi (IntOp.cmpi .eq (te (ix1 t)) (BitVec.ofNat 32 e.val)) (IntOp.cmpi .slt (BitVec.ofNat 32 t.val) (n (ix1 (0 : Fin 1)))) := by
  pointwise [mask]

theorem pick_apply (k : Vec Ideal S8x140 .i1) (y : FVec Ideal S8x140x512x1024 .f32) (t : Fin 140) (s : Fin 512) (d : Fin 1024) :
    (pick k y (ix3 t s d) : EReal) = ∑ e : Fin 8, if k (ix2 e t) = 1#1 then (y (ix4 e t s d) : EReal) else 0 := by
  pointwise [pick]
  refine Finset.sum_congr rfl fun e _ => ?_
  rw [show (id (constant (F := Ideal) S_ .f32 0x00000000#32) ix0 : EReal) = 0 from Ideal.ofBits_zero_f32]
  rfl

theorem lay_apply (y : FVec Ideal S140x512x1024 .f32) (p : Fin 8) (t : Fin 140) (s : Fin 512) (l : Fin 128) :
    lay y (ix3 p (⟨t.val * 512 + s.val, by omega⟩ : Fin 71680) l) = y (ix3 t s (⟨p.val * 128 + l.val, by omega⟩ : Fin 1024)) := by
  pointwise [lay]

/-- Whether a tile takes an expert's output, in words. -/
theorem mask_iff (te : Vec Ideal S140 .i32) (n : Vec Ideal S1 .i32) (e a : Fin 8) (t : Fin 140) (he : te (ix1 t) = BitVec.ofNat 32 a.val) :
    mask te n (ix2 e t) = 1#1 ↔ e = a ∧ IntOp.cmpi .slt (BitVec.ofNat 32 t.val) (n (ix1 (0 : Fin 1))) = 1#1 := by
  rw [mask_apply, IntOp.andi_eq_one, he]
  refine and_congr ?_ Iff.rfl
  exact (by decide : ∀ e a : Fin 8, IntOp.cmpi .eq (BitVec.ofNat 32 a.val) (BitVec.ofNat 32 e.val) = 1#1 ↔ e = a) e a

/-- The reference at one place, its tile's expert being `a`. -/
theorem all_apply (te : Vec Ideal S140 .i32) (n : Vec Ideal S1 .i32) (x : FVec Ideal S8x71680x128 .f32) (wg wu : FVec Ideal S8x1024x1408 .bf16) (wd : FVec Ideal S8x1408x1024 .bf16)
    (p : Fin 8) (t : Fin 140) (s : Fin 512) (l : Fin 128) (a : Fin 8) (he : te (ix1 t) = BitVec.ofNat 32 a.val) :
    (all te n x wg wu wd (ix3 p (⟨t.val * 512 + s.val, by omega⟩ : Fin 71680) l) : EReal)
      = if IntOp.cmpi .slt (BitVec.ofNat 32 t.val) (n (ix1 (0 : Fin 1))) = 1#1 then
          ∑ f : Fin 1408, Norm.glu (fun k => x (ix3 (⟨k.val / 128, by omega⟩ : Fin 8) (⟨t.val * 512 + s.val, by omega⟩ : Fin 71680) (⟨k.val % 128, by omega⟩ : Fin 128)))
            (fun k => wg (ix3 a k f)) (fun k => wu (ix3 a k f)) * wd (ix3 a f (⟨p.val * 128 + l.val, by omega⟩ : Fin 1024))
        else 0 := by
  unfold all
  rw [lay_apply, pick_apply]
  simp only [mask_iff te n _ a t he]
  by_cases h : IntOp.cmpi .slt (BitVec.ofNat 32 t.val) (n (ix1 (0 : Fin 1))) = 1#1
  · rw [if_pos h]
    simp only [h, and_true]
    rw [Finset.sum_ite_eq' Finset.univ a, if_pos (Finset.mem_univ a), down_apply]
    refine Finset.sum_congr rfl fun f _ => ?_
    rw [act_apply, up_apply, up_apply]
    unfold Norm.glu
    simp only [rows_apply, mul_comm]
  · rw [if_neg h]
    simp only [h, and_false, if_false]
    exact Finset.sum_const_zero

open Idealize.ShloMosaic.StableHlo in
/-- The reference's run, its result in these parts. -/
theorem run_all (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = all (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run m ρ

end Cert.Reference4Ideal.Read
-- ==== Proof.MoeTie.lean ====
module

public import proofs.«01_k».proof.Proof.MoeVal
public import proofs.«01_k».proof.Proof.MoeRef

@[expose] public section

/-! The experts' kernel leaves what its reference computes. -/

set_option maxRecDepth 16384
noncomputable section
open Idealize.ShloMosaic Idealize.ShloMosaic.TcCoe Idealize.SL.Sem
namespace Cert.Kernel4Ideal.Val
open Cert.Kernel4Ideal Cert.Kernel4Ideal.Gen

variable (m : (ℓ : Loc nD τ sig) → Buf (Elt Ideal) ℓ)

/-- A tile is in use when its number is below the count of used tiles. -/
theorem live_iff (hO : Moe.Ok m) (c : Dev nD) (t : Fin (Moe.cfgM m hO).N) :
    Moe.liveAt m hO c t ↔ IntOp.cmpi .slt (BitVec.ofNat 32 t.val) ((m ((c.tc : Thread nD τ).loc main_arg1) : Vec Ideal S1 .i32) (ix1 (0 : Fin 1))) = 1#1 := by
  obtain rfl : c = 0 := Subsingleton.elim _ _
  have h1 : Moe.cnt (F := Ideal) 0 (Moe.tbl m 1) = (m (((0 : Dev nD).tc : Thread nD τ).loc main_arg1) : Vec Ideal S1 .i32) (ix1 (0 : Fin 1)) := cnt_eq 0 _
  show k0_cond1 (grid0.coords t) (Moe.cnt (F := Ideal) 0 (Moe.tbl m 1)) = 1#1 ↔ _
  rw [cond_iff, h1, coord]

/-- The kernel's result at slot `t * 512 + s`. -/
theorem res_apply (hO : Moe.Ok m) (c : Dev nD) (t : Fin (Moe.cfgM m hO).N) (p : Fin 8) (s : Fin 512) (l : Fin 128) (q : Fin 71680) (hq : q.val = t.val * 512 + s.val)
    (e : Fin 8) (he : (Moe.word (Moe.tbl m) (grid0.coords t)).toNat = e.val) :
    (((Moe.dats m hO 0 c).arrAt 4 (Moe.cfgM m hO).N : Vec Ideal S8x71680x128 .f32) (ix3 p q l) : EReal)
      = if IntOp.cmpi .slt (BitVec.ofNat 32 t.val) ((m ((c.tc : Thread nD τ).loc main_arg1) : Vec Ideal S1 .i32) (ix1 (0 : Fin 1))) = 1#1 then
          ∑ f : Fin 1408, Norm.glu (fun k => (m ((c.tc : Thread nD τ).loc main_arg2) : Vec Ideal S8x71680x128 .f32) (ix3 (⟨k.val / 128, by omega⟩ : Fin 8) q (⟨k.val % 128, by omega⟩ : Fin 128)))
            (fun k => (m ((c.tc : Thread nD τ).loc main_arg3) : Vec Ideal S8x1024x1408 .bf16) (ix3 e k f)) (fun k => (m ((c.tc : Thread nD τ).loc main_arg4) : Vec Ideal S8x1024x1408 .bf16) (ix3 e k f))
            * (m ((c.tc : Thread nD τ).loc main_arg5) : Vec Ideal S8x1408x1024 .bf16) (ix3 e f (⟨p.val * 128 + l.val, by omega⟩ : Fin 1024))
        else 0 := by
  refine (res_tile m hO c t p s l q hq).trans ?_
  by_cases h : Moe.liveAt m hO c t
  · rw [if_pos ((live_iff m hO c t).1 h), Moe.out_live m hO c t h]
    refine (outLive_apply m hO c t h p s l).trans ?_
    refine (tileOut_apply _ _ _ _ s _).trans ?_
    refine Finset.sum_congr rfl fun f _ => ?_
    refine congrArg₂ (fun a b : EReal => a * b) ?_ (dblock m hO c t f _ e he)
    have hx : (fun k : Fin 1024 => ((Moe.iblk m hO c 0 t : Vec Ideal S8x512x128 .f32) (ix3 (⟨k.val / 128, by omega⟩ : Fin 8) s (⟨k.val % 128, by omega⟩ : Fin 128)) : EReal))
        = fun k => (m ((c.tc : Thread nD τ).loc main_arg2) : Vec Ideal S8x71680x128 .f32) (ix3 (⟨k.val / 128, by omega⟩ : Fin 8) q (⟨k.val % 128, by omega⟩ : Fin 128)) :=
      funext fun k => xblock m hO c t _ s _ q hq
    have hg : (fun k : Fin 1024 => ((Moe.iblk m hO c 1 t : Vec Ideal S1x1024x1408 .bf16) (ix3 0 k f) : EReal)) = fun k => (m ((c.tc : Thread nD τ).loc main_arg3) : Vec Ideal S8x1024x1408 .bf16) (ix3 e k f) :=
      funext fun k => gblock m hO c t k f e he
    have hu : (fun k : Fin 1024 => ((Moe.iblk m hO c 2 t : Vec Ideal S1x1024x1408 .bf16) (ix3 0 k f) : EReal)) = fun k => (m ((c.tc : Thread nD τ).loc main_arg4) : Vec Ideal S8x1024x1408 .bf16) (ix3 e k f) :=
      funext fun k => ublock m hO c t k f e he
    exact (congrArg (fun z => Norm.glu z _ _) hx).trans ((congrArg (fun z => Norm.glu _ z _) hg).trans (congrArg (fun z => Norm.glu _ _ z) hu))
  · rw [if_neg fun h' => h ((live_iff m hO c t).2 h'), Moe.out_idle m hO c t h]
    exact outIdle_apply m hO c t h p s l

/-- The kernel's result is the reference's, on a table in range. -/
theorem tie (hr : ∀ t : Fin 140, ((m (((0 : Dev nD).tc : Thread nD τ).loc main_arg0) : Vec Ideal S140 .i32) (ix1 t)).toNat < 8) (hO : Moe.Ok m) (c : Dev nD) :
    Cert.Reference4Ideal.Read.all (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      = ((Moe.dats m hO 0 c).arrAt 4 (Moe.cfgM m hO).N : Vec Ideal S8x71680x128 .f32) := by
  obtain rfl : c = 0 := Subsingleton.elim _ _
  funext j
  obtain ⟨p, q, l, rfl⟩ : ∃ (p : Fin 8) (q : Fin 71680) (l : Fin 128), j = ix3 p q l := ⟨j 0, j 1, j 2, by
    funext a
    match a with
    | ⟨0, _⟩ => rfl
    | ⟨1, _⟩ => rfl
    | ⟨2, _⟩ => rfl⟩
  have hN : grid0.N = 140 := by decide +kernel
  have hql := q.isLt
  obtain ⟨t, ht⟩ : ∃ t : Fin 140, t.val = q.val / 512 := ⟨⟨q.val / 512, by omega⟩, rfl⟩
  obtain ⟨s, hs⟩ : ∃ s : Fin 512, s.val = q.val % 512 := ⟨⟨q.val % 512, by omega⟩, rfl⟩
  have hq : q.val = t.val * 512 + s.val := by omega
  have hE : q = (⟨t.val * 512 + s.val, by omega⟩ : Fin 71680) := Fin.ext hq
  rw [hE]
  have ht' : t.val < grid0.N := t.isLt.trans_eq hN.symm
  have hw : Moe.word (Moe.tbl m) (grid0.coords (⟨t.val, ht'⟩ : Fin grid0.N)) = (m (((0 : Dev nD).tc : Thread nD τ).loc main_arg0) : Vec Ideal S140 .i32) (ix1 t) :=
    congrArg (fun z : Fin 140 => (m (((0 : Dev nD).tc : Thread nD τ).loc main_arg0) : Vec Ideal S140 .i32) (ix1 z)) (Fin.ext (coord ⟨t.val, ht'⟩))
  have h1 := Cert.Reference4Ideal.Read.all_apply (m (((0 : Dev nD).tc : Thread nD τ).loc main_arg0)) (m (((0 : Dev nD).tc : Thread nD τ).loc main_arg1)) (m (((0 : Dev nD).tc : Thread nD τ).loc main_arg2))
    (m (((0 : Dev nD).tc : Thread nD τ).loc main_arg3)) (m (((0 : Dev nD).tc : Thread nD τ).loc main_arg4)) (m (((0 : Dev nD).tc : Thread nD τ).loc main_arg5)) p t s l
    ⟨_, hr t⟩ (by rw [BitVec.ofNat_toNat, BitVec.setWidth_eq])
  have h2 := res_apply m hO 0 (⟨t.val, ht'⟩ : Fin grid0.N) p s l (⟨t.val * 512 + s.val, by omega⟩ : Fin 71680) rfl ⟨_, hr t⟩ (congrArg BitVec.toNat hw)
  exact h1.trans h2.symm

end Cert.Kernel4Ideal.Val
-- ==== Proof.PoutPre.lean ====
module

public import proofs.«01_k».proof.Proof.Gen.Pre_finite_heads
public import proofs.«01_k».proof.Proof.PreRead

@[expose] public section

set_option maxRecDepth 16384
noncomputable section
open Idealize.ShloMosaic
namespace Cert.Pout
open Cert.Pre_finite_heads

/-- The precondition read: every recurrence output is a real number. -/
theorem pre_read (a0 a1 : FVec Ideal S8x4096x256 .f32) (a2 : FVec Ideal S8x4096x3712 .f32) (a3 : FVec Ideal S8x4x4096x64 .f32) (a4 a5 a6 : FVec Ideal S8x4096x256 .f32)
    (a7 : FVec Ideal S8x4096x1024 .f32) (a8 : FVec Ideal S8x6x1024 .f32) (a9 a10 : FVec Ideal S64 .f32) (a11 : FVec Ideal S1024x1024 .bf16)
    (h : fn (F := Ideal) a0 a1 a2 a3 a4 a5 a6 a7 a8 a9 a10 a11 ix0 = 1#1) :
    (∀ j, ∃ r : ℝ, (a0 j : EReal) = (r : EReal)) ∧ (∀ j, ∃ r : ℝ, (a1 j : EReal) = (r : EReal)) ∧ (∀ j, ∃ r : ℝ, (a5 j : EReal) = (r : EReal))
      ∧ (∀ j, ∃ r : ℝ, (a6 j : EReal) = (r : EReal)) := by
  unfold fn fn_part1 at h
  dsimp only at h
  obtain ⟨h, h4⟩ := IntOp.andi_eq_one.1 h
  obtain ⟨h, h3⟩ := IntOp.andi_eq_one.1 h
  obtain ⟨h1, h2⟩ := IntOp.andi_eq_one.1 h
  exact ⟨fun j => Cert.PreRead.real_of_lt _ (Host.reduce_andi_all _ _ _ _ _ h1 j), fun j => Cert.PreRead.real_of_lt _ (Host.reduce_andi_all _ _ _ _ _ h2 j),
    fun j => Cert.PreRead.real_of_lt _ (Host.reduce_andi_all _ _ _ _ _ h3 j), fun j => Cert.PreRead.real_of_lt _ (Host.reduce_andi_all _ _ _ _ _ h4 j)⟩

end Cert.Pout
-- ==== Proof.PrepPre.lean ====
module

public import proofs.«01_k».proof.Proof.Gen.Pre_finite_keys
public import proofs.«01_k».proof.Proof.PreRead

@[expose] public section

set_option maxRecDepth 16384
noncomputable section
open Idealize.ShloMosaic
namespace Cert.Prep
open Cert.Pre_finite_keys

/-- The precondition read: every key of the projection is a real number. -/
theorem pre_read (z : FVec Ideal S32x256x3712 .f32) (gq gk : FVec Ideal S32 .f32) (h : fn (F := Ideal) z gq gk ix0 = 1#1) (p : Fin 32) (r k : Fin 256) :
    ∃ q : ℝ, (z (ix3 p r ⟨2560 + k.val, by omega⟩) : EReal) = (q : EReal) := by
  unfold fn at h
  dsimp only at h
  obtain ⟨q, hq⟩ := Cert.PreRead.real_of_lt _ (Host.reduce_andi_all _ _ _ _ _ h (ix3 p r k))
  refine ⟨q, Eq.trans ?_ hq⟩
  pointwise

end Cert.Prep
-- ==== Proof.PrepNorm.lean ====
module

public import proofs.«01_k».proof.Proof.Norm
public import Idealize.ShloMosaic.Lib.WordCmp
public import Idealize.ShloMosaic.Lib.Decide

@[expose] public section

set_option maxRecDepth 16384
noncomputable section
open Idealize.ShloMosaic
namespace Cert.Prep

/-- Place `f` of half `g` of head `h` among the 256 lanes of the keys. -/
def lane (h : Fin 4) (g : Fin 2) (f : Fin 32) : Fin 256 := ⟨(h.val * 2 + g.val) * 32 + f.val, by omega⟩

/-- One half head brought to unit mean square and scaled by the gain. -/
def hn (s : Fin 256 → EReal) (w : Fin 32 → EReal) (h : Fin 4) (g : Fin 2) (f : Fin 32) : EReal :=
  s (lane h g f) * Ideal.rsqrt (Ideal.div (∑ y : Fin 32, s (lane h g y) * s (lane h g y)) (Ideal.ofBits .f32 0x42000000#32) + Ideal.ofBits .f32 0x358637BD#32) * w f

/-- A lane's half head number, by a shift. -/
theorem shr5 : ∀ j : Fin 256, IntOp.shrui .vector (BitVec.ofNat 32 j.val) 5#32 = BitVec.ofNat 32 (j.val / 32) := by decide +kernel

/-- Whether two lanes are of one half head. -/
theorem same (x k : Fin 256) (A B : EReal) :
    Scalar.select (IntOp.cmpi .eq (IntOp.shrui .vector (BitVec.ofNat 32 x.val) 5#32) (IntOp.shrui .vector (BitVec.ofNat 32 k.val) 5#32)) A B
      = if x.val / 32 = k.val / 32 then A else B := by
  have hx := x.isLt
  have hk := k.isLt
  rw [shr5, shr5, WordCmp.cmpi_eq_eq_toNat, WordCmp.select_ofBool]
  rw [BitVec.toNat_ofNat, BitVec.toNat_ofNat, Nat.mod_eq_of_lt (by omega), Nat.mod_eq_of_lt (by omega)]
  simp only [decide_eq_true_eq]

/-- The 32 constant. -/
theorem c32 : (Ideal.ofBits .f32 0x42000000#32 : EReal) = ((32 : ℝ) : EReal) := by
  simp [Ideal.ofBits, Ideal.ieee, -EReal.coe_mul]; norm_num
/-- The 1/32 constant. -/
theorem c32i : (Ideal.ofBits .f32 0x3D000000#32 : EReal) = ((1 / 32 : ℝ) : EReal) := by
  simp [Ideal.ofBits, Ideal.ieee, -EReal.coe_mul]; norm_num

/-- A sum over the lanes of one half head. -/
theorem sum_half (q : Fin 256 → EReal) (h : Fin 4) (g : Fin 2) (f : Fin 32) :
    ∑ x : Fin 256, (if x.val / 32 = (lane h g f).val / 32 then q x else 0) = ∑ y : Fin 32, q (lane h g y) := by
  have hf := f.isLt
  have hh := h.isLt
  have hg := g.isLt
  have e : (lane h g f).val / 32 = h.val * 2 + g.val := by show ((h.val * 2 + g.val) * 32 + f.val) / 32 = h.val * 2 + g.val; omega
  rw [e, ← Equiv.sum_comp (finProdFinEquiv (m := 8) (n := 32)), Fintype.sum_prod_type, Finset.sum_eq_single (⟨h.val * 2 + g.val, by omega⟩ : Fin 8)]
  · refine Finset.sum_congr rfl fun y _ => ?_
    have hy := y.isLt
    have e2 : finProdFinEquiv ((⟨h.val * 2 + g.val, by omega⟩ : Fin 8), y) = lane h g y :=
      Fin.ext (by show y.val + 32 * (h.val * 2 + g.val) = (h.val * 2 + g.val) * 32 + y.val; omega)
    rw [e2, if_pos]
    show ((h.val * 2 + g.val) * 32 + y.val) / 32 = h.val * 2 + g.val
    omega
  · intro b _ hb
    refine Finset.sum_eq_zero fun y _ => if_neg fun hc => hb (Fin.ext ?_)
    have hy := y.isLt
    have h1 : (y.val + 32 * b.val) / 32 = h.val * 2 + g.val := hc
    show b.val = h.val * 2 + g.val
    omega
  · intro hc
    exact absurd (Finset.mem_univ _) hc

/-- The three-part mean of squares over a half head's lanes is the mean of squares of the half head. -/
theorem seg_eq (s : Fin 256 → EReal) (hs : ∀ x, ∃ r : ℝ, s x = (r : EReal)) (h : Fin 4) (g : Fin 2) (f : Fin 32) :
    (∑ x : Fin 256, Scalar.select (IntOp.cmpi .eq (IntOp.shrui .vector (BitVec.ofNat 32 x.val) 5#32) (IntOp.shrui .vector (BitVec.ofNat 32 (lane h g f).val) 5#32)) (s x * s x) 0
      + ∑ x : Fin 256, Scalar.select (IntOp.cmpi .eq (IntOp.shrui .vector (BitVec.ofNat 32 x.val) 5#32) (IntOp.shrui .vector (BitVec.ofNat 32 (lane h g f).val) 5#32)) (s x * s x - s x * s x) 0
      + ∑ x : Fin 256, Scalar.select (IntOp.cmpi .eq (IntOp.shrui .vector (BitVec.ofNat 32 x.val) 5#32) (IntOp.shrui .vector (BitVec.ofNat 32 (lane h g f).val) 5#32)) (s x * s x - s x * s x - (s x * s x - s x * s x)) 0)
        * Ideal.ofBits .f32 0x3D000000#32
      = Ideal.div (∑ y : Fin 32, s (lane h g y) * s (lane h g y)) (Ideal.ofBits .f32 0x42000000#32) := by
  have hz : ∀ x, s x * s x - s x * s x = 0 := fun x => by
    obtain ⟨r, hr⟩ := hs x
    rw [hr, ← EReal.coe_mul, ← EReal.coe_sub, sub_self, EReal.coe_zero]
  simp only [hz, sub_zero, same, ite_self, Finset.sum_const_zero, add_zero]
  rw [sum_half (fun x => s x * s x), c32, c32i, Ideal.div_coe (by norm_num)]

/-- Every lane is a place of a half head. -/
theorem exists_lane (k : Fin 256) : ∃ (h : Fin 4) (g : Fin 2) (f : Fin 32), k = lane h g f := by
  have hk := k.isLt
  exact ⟨⟨k.val / 64, by omega⟩, ⟨k.val / 32 % 2, by omega⟩, ⟨k.val % 32, by omega⟩,
    Fin.ext (by show k.val = (k.val / 64 * 2 + k.val / 32 % 2) * 32 + k.val % 32; omega)⟩

end Cert.Prep
-- ==== Proof.PrepKer.lean ====
module

public import proofs.«01_k».proof.Proof.PrepNorm
public import proofs.«01_k».proof.Proof.Gen.Kernel6Ideal.Value
public import Idealize.ShloMosaic.Lib.Pointwise
public import Idealize.ShloMosaic.Lib.Tactic
public import Idealize.ShloMosaic.Lib.Pipeline.ReadBack
public import Idealize.ShloMosaic.Lib.Pipeline.ValueKit.Tiles

@[expose] public section

set_option maxRecDepth 16384
noncomputable section
open Idealize.ShloMosaic Idealize.ShloMosaic.TcCoe Idealize.SL.Sem
namespace Cert.Kernel6Ideal.Val
open Cert.Kernel6Ideal Cert.Kernel6Ideal.Gen Cert.Kernel6Ideal.Value

/-- The keys of one batch brought to unit mean square, as the body computes them. -/
def keys (x : Vec Ideal S1x256x768 .f32) (g : Vec Ideal S1x256 .f32) : FVec Ideal S1x256x256 .f32 :=
  k0_pay11 (k0_pay6 x) (k0_pay9 x) (iota .tc S256x256 32 [0] iota_S256x256_d0_w32) g

/-- The key columns of the projection's block. -/
theorem cols_apply (x : Vec Ideal S1x256x768 .f32) (r k : Fin 256) : (k0_pay6 x (ix2 r k) : EReal) = x (ix3 0 r ⟨256 + k.val, by omega⟩) := by
  pointwise [k0_pay6, k0_pay5]

/-- The body's three-part mean with the norm and the gain, of any rows. -/
theorem normed_apply (s : FVec Ideal S256x256 .f32) (g : Vec Ideal S1x256 .f32) (r : Fin 256) (h : Fin 4) (e : Fin 2) (f : Fin 32) (G : Fin 32 → EReal)
    (hG : ∀ y, g (ix2 0 (Prep.lane h e y)) = G y) (hs : ∀ x : Fin 256, ∃ q : ℝ, (s (ix2 r x) : EReal) = (q : EReal)) :
    (k0_pay11 s (mulf s s) (iota .tc S256x256 32 [0] iota_S256x256_d0_w32) g (ix3 0 r (Prep.lane h e f)) : EReal) = Prep.hn (fun x => s (ix2 r x)) G h e f := by
  unfold Prep.hn
  rw [← Prep.seg_eq _ hs h e f, ← hG]
  pointwise [k0_pay11, k0_pay10]

/-- The normed keys at one place. -/
theorem keys_apply (x : Vec Ideal S1x256x768 .f32) (g : Vec Ideal S1x256 .f32) (r : Fin 256) (h : Fin 4) (e : Fin 2) (f : Fin 32) (G : Fin 32 → EReal)
    (hG : ∀ y, g (ix2 0 (Prep.lane h e y)) = G y) (hs : ∀ k : Fin 256, ∃ q : ℝ, (x (ix3 0 r ⟨256 + k.val, by omega⟩) : EReal) = (q : EReal)) :
    (keys x g (ix3 0 r (Prep.lane h e f)) : EReal) = Prep.hn (fun k => x (ix3 0 r ⟨256 + k.val, by omega⟩)) G h e f := by
  refine (normed_apply (k0_pay6 x) g r h e f G hG (fun k => by rw [cols_apply]; exact hs k)).trans ?_
  simp only [cols_apply]

variable (c : Dev nD) (i : grid0.Coords) (arg2 : Memref sig .tc .vmem S1x256x768 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x4x2x256x64 .bf16) (harg7 : arg7.IsWhole) (arg8 : Memref sig .tc .vmem S1x4x64x256 .bf16) (harg8 : arg8.IsWhole) (arg9 : Memref sig .tc .vmem S1x4x256x128 .bf16) (harg9 : arg9.IsWhole) (arg10 : Memref sig .tc .vmem S1x256x256 .f32) (harg10 : arg10.IsWhole)
    (x0 : Vec Ideal S1x256x768 .f32) (x1 x2 : Vec Ideal S1x256 .f32) (x3 x4 : Vec Ideal S256x256 .f32)

/-- What the body leaves in the keys' block is its one store there. -/
theorem out_pay : out0_A_8 c i arg2 harg2 arg3 harg3 arg4 harg4 arg5 harg5 arg6 harg6 arg7 harg7 arg8 harg8 arg9 harg9 arg10 harg10 x0 x1 x2 x3 x4 = keys x0 x2 := by
  frame_open
  frame_out
  rfl

end Cert.Kernel6Ideal.Val
-- ==== Proof.PrepRef.lean ====
module

public import proofs.«01_k».proof.Proof.PrepNorm
public import proofs.«01_k».proof.Proof.Gen.Reference6Ideal.Run
public import Idealize.ShloMosaic.Lib.IdealHost
public import Idealize.ShloMosaic.Lib.Pointwise
public import Idealize.ShloMosaic.Lib.Tactic

@[expose] public section

set_option maxRecDepth 16384
noncomputable section
open Idealize.ShloMosaic Idealize.ShloMosaic.TcCoe Idealize.SL.Sem
namespace Cert.Reference6Ideal.Read
open Cert.Reference6Ideal Cert.Reference6Ideal.Gen Cert.Reference6Ideal.Value

/-- The key columns of the projection, cut into the two halves of the four heads. -/
def halves (z : FVec Ideal S32x256x3712 .f32) : FVec Ideal S32x256x4x2x32 .f32 :=
  shapeCast S32x256x4x2x32 (extractStridedSlice S32x256x256 ![0, 0, 2560] z slices_S32x256x3712_S32x256x256_0_0_2560) shapeCasts_S32x256x256_S32x256x4x2x32

/-- Each half head's norm with its gain. -/
def norm (t : FVec Ideal S32x256x4x2x32 .f32) (g : FVec Ideal S32 .f32) : FVec Ideal S32x256x4x2x32 .f32 :=
  mulf (mulf t (broadcastInDim S32x256x4x2x32 ![0, 1, 2, 3, 4] bcast_S32x256x4x2x1_S32x256x4x2x32_0_1_2_3_4 (Host.rsqrt (addf (Host.divf (broadcastInDim S32x256x4x2x1 ![0, 1, 2, 3] bcast_S32x256x4x2_S32x256x4x2x1_0_1_2_3 (Host.reduceAdd (mulf t t) (constant S_ .f32 0x00000000#32) reducesTo_S32x256x4x2x32_S32x256x4x2_d4 h_S_)) (broadcastInDim S32x256x4x2x1 ![] bcast_S_S32x256x4x2x1 (constant S_ .f32 0x42000000#32))) (broadcastInDim S32x256x4x2x1 ![] bcast_S_S32x256x4x2x1 (constant S_ .f32 0x358637BD#32)))))) (broadcastInDim S32x256x4x2x32 ![0, 1, 2, 3, 4] bcast_S1x1x1x1x32_S32x256x4x2x32_0_1_2_3_4 (broadcastInDim S1x1x1x1x32 ![4] bcast_S32_S1x1x1x1x32_4 g))

/-- The normed keys, the halves side by side. -/
def fin (z : FVec Ideal S32x256x3712 .f32) (g : FVec Ideal S32 .f32) : FVec Ideal S32x256x256 .f32 :=
  shapeCast S32x256x256 (norm (halves z) g) shapeCasts_S32x256x4x2x32_S32x256x256

/-- A half head of the keys at one place. -/
theorem halves_apply (z : FVec Ideal S32x256x3712 .f32) (p : Fin 32) (r : Fin 256) (h : Fin 4) (e : Fin 2) (f : Fin 32) :
    (halves z (ix5 p r h e f) : EReal) = z (ix3 p r ⟨2560 + (Prep.lane h e f).val, by have := (Prep.lane h e f).isLt; omega⟩) := by
  pointwise [halves, Prep.lane]
  exact congrArg (fun u => z (ix3 p r u)) (Fin.ext (by show 2560 + (h.val * 64 + e.val * 32 + f.val) = 2560 + ((h.val * 2 + e.val) * 32 + f.val); omega))

/-- The norm at one place. -/
theorem norm_apply (t : FVec Ideal S32x256x4x2x32 .f32) (g : FVec Ideal S32 .f32) (p : Fin 32) (r : Fin 256) (h : Fin 4) (e : Fin 2) (f : Fin 32) :
    (norm t g (ix5 p r h e f) : EReal) = t (ix5 p r h e f) * Ideal.rsqrt (Ideal.div (∑ y : Fin 32, t (ix5 p r h e y) * t (ix5 p r h e y)) (Ideal.ofBits .f32 0x42000000#32) + Ideal.ofBits .f32 0x358637BD#32) * g (ix1 f) := by
  pointwise [norm]

/-- The halves laid side by side, at one place. -/
theorem flat_apply (t : FVec Ideal S32x256x4x2x32 .f32) (p : Fin 32) (r : Fin 256) (h : Fin 4) (e : Fin 2) (f : Fin 32) :
    (shapeCast S32x256x256 t shapeCasts_S32x256x4x2x32_S32x256x256 (ix3 p r (Prep.lane h e f)) : EReal) = t (ix5 p r h e f) := by
  pointwise [Prep.lane]

/-- The reference's result at one place. -/
theorem fin_apply (z : FVec Ideal S32x256x3712 .f32) (g : FVec Ideal S32 .f32) (p : Fin 32) (r : Fin 256) (h : Fin 4) (e : Fin 2) (f : Fin 32) :
    (fin z g (ix3 p r (Prep.lane h e f)) : EReal) = Prep.hn (fun k => z (ix3 p r ⟨2560 + k.val, by omega⟩)) (fun f => g (ix1 f)) h e f := by
  refine (flat_apply _ p r h e f).trans ?_
  rw [norm_apply]
  simp only [halves_apply]
  rfl

end Cert.Reference6Ideal.Read
-- ==== Proof.PrepTie.lean ====
module

public import proofs.«01_k».proof.Proof.PrepKer
public import proofs.«01_k».proof.Proof.PrepRef

@[expose] public section

set_option maxRecDepth 16384
noncomputable section
open Idealize.ShloMosaic Idealize.ShloMosaic.TcCoe Idealize.SL.Sem
namespace Cert.Kernel6Ideal.Val
open Cert.Kernel6Ideal Cert.Kernel6Ideal.Gen Cert.Kernel6Ideal.Value
variable (m : (ℓ : Loc nD τ sig) → Buf (Elt Ideal) ℓ)

/-- The keys' gain laid out eight times as one row. -/
def tile (g : Vec Ideal S32 .f32) : Vec Ideal S1x256 .f32 :=
  shapeCast S1x256 (shapeCast S256 (broadcastInDim S8x32 ![0, 1] bcast_S1x32_S8x32_0_1 (shapeCast S1x32 g shapeCasts_S32_S1x32)) shapeCasts_S8x32_S256) shapeCasts_S256_S1x256
/-- That row at one lane of a half head. -/
theorem tile_apply (g : Vec Ideal S32 .f32) (h : Fin 4) (e : Fin 2) (f : Fin 32) : (tile g (ix2 0 (Prep.lane h e f)) : EReal) = g (ix1 f) := by
  have hf := f.isLt
  have e2 : (⟨(Prep.lane h e f).val % 32, by omega⟩ : Fin 32) = f := Fin.ext (by show ((h.val * 2 + e.val) * 32 + f.val) % 32 = f.val; omega)
  refine Eq.trans ?_ (congrArg (fun v => g (ix1 v)) e2)
  pointwise [tile]
/-- The keys' gain row before the call. -/
theorem V_g8 (c : Dev nD) : V m c main_v8 = tile (m ((c : Thread nD τ).loc main_arg2)) := rfl

/-- The block numbers of the projection's window. -/
theorem idx0 : ∀ t : Fin cfg0.N, win0_0.index t (0 : Fin 3) = t.val ∧ win0_0.index t (1 : Fin 3) = 0 ∧ win0_0.index t (2 : Fin 3) = 3 :=
  (by decide +kernel : ∀ t : Fin grid0.N, _)
/-- The block numbers of the gain's window. -/
theorem idx2 : ∀ t : Fin cfg0.N, win0_2.index t (0 : Fin 2) = 0 ∧ win0_2.index t (1 : Fin 2) = 0 :=
  (by decide +kernel : ∀ t : Fin grid0.N, _)
/-- The block numbers of the keys' window. -/
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
/-- Every point's block of keys is written back. -/
theorem flush8 : ∀ t : Fin cfg0.N, (cfg0.win 8).flush t = true :=
  (by decide +kernel : ∀ t : Fin grid0.N, win0_8.flush t = true)

/-- The projection's block at one place. -/
theorem blk0 (c : Dev nD) (t : Fin cfg0.N) (r : Fin 256) (k : Fin 768) (b : Fin 32) (hb : b.val = t.val) :
    (X0_0 m c t : Vec Ideal S1x256x768 .f32) (ix3 0 r k) = m ((c : Thread nD τ).loc main_arg0) (ix3 b r ⟨2304 + k.val, by omega⟩) := by
  obtain ⟨e0, e1, e2⟩ := idx0 t
  unfold X0_0 Pipeline.Window.fill
  rw [dif_pos (moved0_0 t _)]
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t 0 * 1 + 1 * 0 = b.val; rw [e0]; omega
  | ⟨1, _⟩ => show win0_0.index t 1 * 256 + 1 * r.val = r.val; rw [e1]; omega
  | ⟨2, _⟩ => show win0_0.index t 2 * 768 + 1 * k.val = 2304 + k.val; rw [e2]; omega

/-- The gain's block at one place. -/
theorem blk2 (c : Dev nD) (t : Fin cfg0.N) (h : Fin 4) (e : Fin 2) (f : Fin 32) :
    (iblk m c 2 t : Vec Ideal S1x256 .f32) (ix2 0 (Prep.lane h e f)) = m ((c : Thread nD τ).loc main_arg2) (ix1 f) := by
  obtain ⟨e0, e1⟩ := idx2 t
  unfold iblk
  rw [View.read_apply]
  show V m c main_v8 _ = _
  rw [V_g8]
  refine Eq.trans ?_ (tile_apply (m ((c : Thread nD τ).loc main_arg2)) h e f)
  refine congrArg (tile (m ((c : Thread nD τ).loc main_arg2))) ?_
  funext a; apply Fin.ext
  match a with
  | ⟨0, _⟩ => show win0_2.index t 0 * 1 + 1 * 0 = 0; rw [e0]
  | ⟨1, _⟩ => show win0_2.index t 1 * 256 + 1 * (Prep.lane h e f).val = (Prep.lane h e f).val; rw [e1]; omega

/-- The kernel's keys at one place are the reference's. -/
theorem res_apply (c : Dev nD) (b : Fin 32) (r : Fin 256) (h : Fin 4) (e : Fin 2) (f : Fin 32)
    (hz : ∀ (p : Fin 32) (r k : Fin 256), ∃ q : ℝ, (m ((c : Thread nD τ).loc main_arg0) (ix3 p r ⟨2560 + k.val, by omega⟩) : EReal) = (q : EReal)) :
    ((dats m 0 c).arrAt 8 cfg0.N (ix3 b r (Prep.lane h e f)) : EReal)
      = Cert.Reference6Ideal.Read.fin (m ((c : Thread nD τ).loc main_arg0)) (m ((c : Thread nD τ).loc main_arg2)) (ix3 b r (Prep.lane h e f)) := by
  have hN : cfg0.N = 32 := N_0
  have hb := b.isLt
  let t : Fin cfg0.N := ⟨b.val, by omega⟩
  obtain ⟨e0, e1, e2⟩ := idx8 t
  have hx := congrFun (blocks8 m c t (flush8 t)) (ix3 0 r (Prep.lane h e f))
  rw [flushed8_A, out_pay, View.read_apply] at hx
  have hi : ((cfg0.win 8).blk t).view.emb (ix3 0 r (Prep.lane h e f)) = ix3 b r (Prep.lane h e f) := by
    funext a; apply Fin.ext
    match a with
    | ⟨0, _⟩ => show win0_8.index t 0 * 1 + 1 * 0 = b.val; rw [e0]; show b.val * 1 + 1 * 0 = b.val; omega
    | ⟨1, _⟩ => show win0_8.index t 1 * 256 + 1 * r.val = r.val; rw [e1]; omega
    | ⟨2, _⟩ => show win0_8.index t 2 * 256 + 1 * (Prep.lane h e f).val = (Prep.lane h e f).val; rw [e2]; omega
  refine (congrArg ((dats m 0 c).arrAt 8 cfg0.N) hi).symm.trans (hx.trans ?_)
  have hk : ∀ k : Fin 256, ((X0_0 m c t : Vec Ideal S1x256x768 .f32) (ix3 0 r ⟨256 + k.val, by omega⟩) : EReal)
      = m ((c : Thread nD τ).loc main_arg0) (ix3 b r ⟨2560 + k.val, by omega⟩) := fun k =>
    (blk0 m c t r ⟨256 + k.val, by omega⟩ b rfl).trans (congrArg (fun u => m ((c : Thread nD τ).loc main_arg0) (ix3 b r u)) (Fin.ext (by show 2304 + (256 + k.val) = 2560 + k.val; omega)))
  refine (keys_apply (X0_0 m c t) (iblk m c 2 t) r h e f (fun f => m ((c : Thread nD τ).loc main_arg2) (ix1 f)) (fun y => blk2 m c t h e y) (fun k => by rw [hk]; exact hz b r k)).trans ?_
  rw [Cert.Reference6Ideal.Read.fin_apply]
  exact congrArg (fun s => Prep.hn s (fun f => m ((c : Thread nD τ).loc main_arg2) (ix1 f)) h e f) (funext hk)

/-- The kernel's keys are the reference's, when the projection's keys are real numbers. -/
theorem tie (c : Dev nD)
    (hz : ∀ (p : Fin 32) (r k : Fin 256), ∃ q : ℝ, (m ((c : Thread nD τ).loc main_arg0) (ix3 p r ⟨2560 + k.val, by omega⟩) : EReal) = (q : EReal)) :
    Cert.Reference6Ideal.Read.fin (m ((c : Thread nD τ).loc main_arg0)) (m ((c : Thread nD τ).loc main_arg2)) = (dats m 0 c).arrAt 8 cfg0.N := by
  funext j
  obtain ⟨h, e, f, hk⟩ := Prep.exists_lane (j 2)
  have hj : j = ix3 (j 0) (j 1) (Prep.lane h e f) := by
    funext a
    match a with
    | ⟨0, _⟩ => rfl
    | ⟨1, _⟩ => rfl
    | ⟨2, _⟩ => exact hk
  rw [hj]
  exact (res_apply m c (j 0) (j 1) h e f hz).symm

end Cert.Kernel6Ideal.Val
-- ==== Proof.PoutNorm.lean ====
module

public import proofs.«01_k».proof.Proof.Norm
public import Idealize.ShloMosaic.Lib.WordCmp
public import Idealize.ShloMosaic.Lib.Decide

@[expose] public section

set_option maxRecDepth 16384
noncomputable section
open Idealize.ShloMosaic
namespace Cert.Pout

/-- Place `f` of head `h` among the 256 lanes. -/
def lane (h : Fin 4) (f : Fin 64) : Fin 256 := ⟨h.val * 64 + f.val, by omega⟩

/-- One head brought to unit mean square and scaled by the gain. -/
def hn (s : Fin 256 → EReal) (g : Fin 64 → EReal) (h : Fin 4) (f : Fin 64) : EReal :=
  s (lane h f) * Ideal.rsqrt (Ideal.div (∑ y : Fin 64, s (lane h y) * s (lane h y)) (Ideal.ofBits .f32 0x42800000#32) + Ideal.ofBits .f32 0x358637BD#32) * g f

/-- A lane's head number, by a shift. -/
theorem shr6 : ∀ j : Fin 256, IntOp.shrui .vector (BitVec.ofNat 32 j.val) 6#32 = BitVec.ofNat 32 (j.val / 64) := by decide +kernel

/-- Whether two lanes are of one head. -/
theorem same (x k : Fin 256) (A B : EReal) :
    Scalar.select (IntOp.cmpi .eq (IntOp.shrui .vector (BitVec.ofNat 32 x.val) 6#32) (IntOp.shrui .vector (BitVec.ofNat 32 k.val) 6#32)) A B
      = if x.val / 64 = k.val / 64 then A else B := by
  have hx := x.isLt
  have hk := k.isLt
  rw [shr6, shr6, WordCmp.cmpi_eq_eq_toNat, WordCmp.select_ofBool]
  rw [BitVec.toNat_ofNat, BitVec.toNat_ofNat, Nat.mod_eq_of_lt (by omega), Nat.mod_eq_of_lt (by omega)]
  simp only [decide_eq_true_eq]

/-- The 64 constant. -/
theorem c64 : (Ideal.ofBits .f32 0x42800000#32 : EReal) = ((64 : ℝ) : EReal) := by
  simp [Ideal.ofBits, Ideal.ieee, -EReal.coe_mul]; norm_num
/-- The 1/64 constant. -/
theorem c64i : (Ideal.ofBits .f32 0x3C800000#32 : EReal) = ((1 / 64 : ℝ) : EReal) := by
  simp [Ideal.ofBits, Ideal.ieee, -EReal.coe_mul]; norm_num

/-- A sum over the lanes of one head. -/
theorem sum_head (q : Fin 256 → EReal) (h : Fin 4) (f : Fin 64) :
    ∑ x : Fin 256, (if x.val / 64 = (lane h f).val / 64 then q x else 0) = ∑ y : Fin 64, q (lane h y) := by
  have hf := f.isLt
  have e : (lane h f).val / 64 = h.val := by show (h.val * 64 + f.val) / 64 = h.val; omega
  rw [e, ← Equiv.sum_comp (finProdFinEquiv (m := 4) (n := 64)), Fintype.sum_prod_type, Finset.sum_eq_single h]
  · refine Finset.sum_congr rfl fun y _ => ?_
    have hy := y.isLt
    have e2 : finProdFinEquiv (h, y) = lane h y := Fin.ext (by show y.val + 64 * h.val = h.val * 64 + y.val; omega)
    rw [e2, if_pos]
    show (h.val * 64 + y.val) / 64 = h.val
    omega
  · intro b _ hb
    refine Finset.sum_eq_zero fun y _ => if_neg fun hc => hb (Fin.ext ?_)
    have hy := y.isLt
    have : (y.val + 64 * b.val) / 64 = h.val := hc
    omega
  · intro hc
    exact absurd (Finset.mem_univ h) hc

/-- The three-part mean of squares over a head's lanes is the mean of squares of the head. -/
theorem seg_eq (s : Fin 256 → EReal) (hs : ∀ x, ∃ r : ℝ, s x = (r : EReal)) (h : Fin 4) (f : Fin 64) :
    (∑ x : Fin 256, Scalar.select (IntOp.cmpi .eq (IntOp.shrui .vector (BitVec.ofNat 32 x.val) 6#32) (IntOp.shrui .vector (BitVec.ofNat 32 (lane h f).val) 6#32)) (s x * s x) 0
      + ∑ x : Fin 256, Scalar.select (IntOp.cmpi .eq (IntOp.shrui .vector (BitVec.ofNat 32 x.val) 6#32) (IntOp.shrui .vector (BitVec.ofNat 32 (lane h f).val) 6#32)) (s x * s x - s x * s x) 0
      + ∑ x : Fin 256, Scalar.select (IntOp.cmpi .eq (IntOp.shrui .vector (BitVec.ofNat 32 x.val) 6#32) (IntOp.shrui .vector (BitVec.ofNat 32 (lane h f).val) 6#32)) (s x * s x - s x * s x - (s x * s x - s x * s x)) 0)
        * Ideal.ofBits .f32 0x3C800000#32
      = Ideal.div (∑ y : Fin 64, s (lane h y) * s (lane h y)) (Ideal.ofBits .f32 0x42800000#32) := by
  have hz : ∀ x, s x * s x - s x * s x = 0 := fun x => by
    obtain ⟨r, hr⟩ := hs x
    rw [hr, ← EReal.coe_mul, ← EReal.coe_sub, sub_self, EReal.coe_zero]
  simp only [hz, sub_zero, same, ite_self, Finset.sum_const_zero, add_zero]
  rw [sum_head (fun x => s x * s x), c64, c64i, Ideal.div_coe (by norm_num)]

/-- Every lane is a place of a head. -/
theorem exists_lane (k : Fin 256) : ∃ (h : Fin 4) (f : Fin 64), k = lane h f := by
  have hk := k.isLt
  exact ⟨⟨k.val / 64, by omega⟩, ⟨k.val % 64, by omega⟩, Fin.ext (by show k.val = k.val / 64 * 64 + k.val % 64; omega)⟩

/-- The four mixers of a row against one column of the weights, head by head for the second. -/
def mix (ya : Fin 256 → EReal) (o : Fin 4 → Fin 64 → EReal) (hy yd : Fin 256 → EReal) (w : Fin 1024 → EReal) : EReal :=
  ((∑ x : Fin 256, ya x * w ⟨x.val, by omega⟩ + ∑ x : Fin 64, o 0 x * w ⟨256 + x.val, by omega⟩
      + ∑ x : Fin 64, o 1 x * w ⟨320 + x.val, by omega⟩ + ∑ x : Fin 64, o 2 x * w ⟨384 + x.val, by omega⟩
      + ∑ x : Fin 64, o 3 x * w ⟨448 + x.val, by omega⟩) + ∑ x : Fin 256, hy x * w ⟨512 + x.val, by omega⟩)
    + ∑ x : Fin 256, yd x * w ⟨768 + x.val, by omega⟩

/-- A sum over 256 lanes, head by head. -/
theorem sum_lanes (q : Fin 256 → EReal) :
    ∑ k, q k = ((∑ f : Fin 64, q (lane 0 f) + ∑ f : Fin 64, q (lane 1 f)) + ∑ f : Fin 64, q (lane 2 f)) + ∑ f : Fin 64, q (lane 3 f) := by
  rw [← Equiv.sum_comp (finProdFinEquiv (m := 4) (n := 64)), Fintype.sum_prod_type, Fin.sum_univ_four]
  have e : ∀ (h : Fin 4) (y : Fin 64), finProdFinEquiv (h, y) = lane h y := fun h y => Fin.ext (by show y.val + 64 * h.val = h.val * 64 + y.val; omega)
  simp only [e]

/-- A sum over 1024 columns in four pieces of 256. -/
theorem sum_four (q : Fin 1024 → EReal) :
    ∑ k, q k = ((∑ k : Fin 256, q ⟨k.val, by omega⟩ + ∑ k : Fin 256, q ⟨256 + k.val, by omega⟩) + ∑ k : Fin 256, q ⟨512 + k.val, by omega⟩)
      + ∑ k : Fin 256, q ⟨768 + k.val, by omega⟩ := by
  rw [Fin.sum_univ_add (a := 768) (b := 256) q, Fin.sum_univ_add (a := 512) (b := 256), Fin.sum_univ_add (a := 256) (b := 256)]
  rfl

/-- The row of the four mixers side by side against one column of the weights. -/
theorem sum_mix (y : Fin 1024 → EReal) (ya : Fin 256 → EReal) (o : Fin 4 → Fin 64 → EReal) (hy yd : Fin 256 → EReal) (w : Fin 1024 → EReal)
    (h0 : ∀ k : Fin 256, y ⟨k.val, by omega⟩ = ya k) (h1 : ∀ (h : Fin 4) (f : Fin 64), y ⟨256 + (lane h f).val, by omega⟩ = o h f)
    (h2 : ∀ k : Fin 256, y ⟨512 + k.val, by omega⟩ = hy k) (h3 : ∀ k : Fin 256, y ⟨768 + k.val, by omega⟩ = yd k) :
    ∑ k, y k * w k = mix ya o hy yd w := by
  rw [sum_four, sum_lanes (fun k => y ⟨256 + k.val, by omega⟩ * w ⟨256 + k.val, by omega⟩)]
  simp only [h0, h1, h2, h3]
  unfold mix
  have w0 : ∀ f : Fin 64, w ⟨256 + (lane 0 f).val, by omega⟩ = w ⟨256 + f.val, by omega⟩ := fun f => congrArg w (Fin.ext (by show 256 + (0 * 64 + f.val) = 256 + f.val; omega))
  have w1 : ∀ f : Fin 64, w ⟨256 + (lane 1 f).val, by omega⟩ = w ⟨320 + f.val, by omega⟩ := fun f => congrArg w (Fin.ext (by show 256 + (1 * 64 + f.val) = 320 + f.val; omega))
  have w2 : ∀ f : Fin 64, w ⟨256 + (lane 2 f).val, by omega⟩ = w ⟨384 + f.val, by omega⟩ := fun f => congrArg w (Fin.ext (by show 256 + (2 * 64 + f.val) = 384 + f.val; omega))
  have w3 : ∀ f : Fin 64, w ⟨256 + (lane 3 f).val, by omega⟩ = w ⟨448 + f.val, by omega⟩ := fun f => congrArg w (Fin.ext (by show 256 + (3 * 64 + f.val) = 448 + f.val; omega))
  simp only [w0, w1, w2, w3, add_assoc]

end Cert.Pout
-- ==== Proof.PoutKer.lean ====
module

public import proofs.«01_k».proof.Proof.PoutNorm
public import proofs.«01_k».proof.Proof.Gen.Kernel5Ideal.Value
public import Idealize.ShloMosaic.Lib.Pointwise
public import Idealize.ShloMosaic.Lib.Tactic
public import Idealize.ShloMosaic.Lib.Pipeline.ReadBack
public import Idealize.ShloMosaic.Lib.Pipeline.ValueKit.Tiles

@[expose] public section

set_option maxRecDepth 16384
noncomputable section
open Idealize.ShloMosaic Idealize.ShloMosaic.TcCoe Idealize.SL.Sem
namespace Cert.Kernel5Ideal.Val
open Cert.Kernel5Ideal Cert.Kernel5Ideal.Gen Cert.Kernel5Ideal.Value

/-- Head `e` of the attention's block, as the body loads it. -/
def df0 (x : Vec Ideal S1x4x512x64 .f32) : Vec Ideal S1x1x512x64 .f32 := View.ld x (Rect.unit (s := S1x4x512x64) ![0, 0, 0, 0] S1x1x512x64.size inb_S1x4x512x64_S1x1x512x64_0_0_0_0)
/-- The second head. -/
def df1 (x : Vec Ideal S1x4x512x64 .f32) : Vec Ideal S1x1x512x64 .f32 := View.ld x (Rect.unit (s := S1x4x512x64) ![0, 1, 0, 0] S1x1x512x64.size inb_S1x4x512x64_S1x1x512x64_0_1_0_0)
/-- The third head. -/
def df2 (x : Vec Ideal S1x4x512x64 .f32) : Vec Ideal S1x1x512x64 .f32 := View.ld x (Rect.unit (s := S1x4x512x64) ![0, 2, 0, 0] S1x1x512x64.size inb_S1x4x512x64_S1x1x512x64_0_2_0_0)
/-- The fourth head. -/
def df3 (x : Vec Ideal S1x4x512x64 .f32) : Vec Ideal S1x1x512x64 .f32 := View.ld x (Rect.unit (s := S1x4x512x64) ![0, 3, 0, 0] S1x1x512x64.size inb_S1x4x512x64_S1x1x512x64_0_3_0_0)
/-- The first mixer's rows of the weights. -/
def wA (x : Vec Ideal S1024x1024 .bf16) : Vec Ideal S256x1024 .bf16 := View.ld x (Rect.unit (s := S1024x1024) ![0, 0] S256x1024.size inb_S1024x1024_S256x1024_0_0)
/-- The third mixer's rows of the weights. -/
def wC (x : Vec Ideal S1024x1024 .bf16) : Vec Ideal S256x1024 .bf16 := View.ld x (Rect.unit (s := S1024x1024) ![512, 0] S256x1024.size inb_S1024x1024_S256x1024_512_0)
/-- The fourth mixer's rows of the weights. -/
def wD (x : Vec Ideal S1024x1024 .bf16) : Vec Ideal S256x1024 .bf16 := View.ld x (Rect.unit (s := S1024x1024) ![768, 0] S256x1024.size inb_S1024x1024_S256x1024_768_0)
/-- The first attention head's rows of the weights. -/
def wB0 (x : Vec Ideal S1024x1024 .bf16) : Vec Ideal S64x1024 .bf16 := View.ld x (Rect.unit (s := S1024x1024) ![256, 0] S64x1024.size inb_S1024x1024_S64x1024_256_0)
/-- The second attention head's rows. -/
def wB1 (x : Vec Ideal S1024x1024 .bf16) : Vec Ideal S64x1024 .bf16 := View.ld x (Rect.unit (s := S1024x1024) ![320, 0] S64x1024.size inb_S1024x1024_S64x1024_320_0)
/-- The third attention head's rows. -/
def wB2 (x : Vec Ideal S1024x1024 .bf16) : Vec Ideal S64x1024 .bf16 := View.ld x (Rect.unit (s := S1024x1024) ![384, 0] S64x1024.size inb_S1024x1024_S64x1024_384_0)
/-- The fourth attention head's rows. -/
def wB3 (x : Vec Ideal S1024x1024 .bf16) : Vec Ideal S64x1024 .bf16 := View.ld x (Rect.unit (s := S1024x1024) ![448, 0] S64x1024.size inb_S1024x1024_S64x1024_448_0)
/-- The modulation's gate row. -/
def mg (x : Vec Ideal S1x6x1024 .f32) : Vec Ideal S1x1x1024 .f32 := View.ld x (Rect.unit (s := S1x6x1024) ![0, 2, 0] S1x1x1024.size inb_S1x6x1024_S1x1x1024_0_2_0)

theorem df0_apply (x : Vec Ideal S1x4x512x64 .f32) (r : Fin 512) (f : Fin 64) : df0 x (ix4 0 0 r f) = x (ix4 0 0 r f) := by pointwise [df0]
theorem df1_apply (x : Vec Ideal S1x4x512x64 .f32) (r : Fin 512) (f : Fin 64) : df1 x (ix4 0 0 r f) = x (ix4 0 1 r f) := by pointwise [df1]
theorem df2_apply (x : Vec Ideal S1x4x512x64 .f32) (r : Fin 512) (f : Fin 64) : df2 x (ix4 0 0 r f) = x (ix4 0 2 r f) := by pointwise [df2]
theorem df3_apply (x : Vec Ideal S1x4x512x64 .f32) (r : Fin 512) (f : Fin 64) : df3 x (ix4 0 0 r f) = x (ix4 0 3 r f) := by pointwise [df3]
theorem wA_apply (x : Vec Ideal S1024x1024 .bf16) (k : Fin 256) (n : Fin 1024) : wA x (ix2 k n) = x (ix2 ⟨k.val, by omega⟩ n) := by pointwise [wA]
theorem wC_apply (x : Vec Ideal S1024x1024 .bf16) (k : Fin 256) (n : Fin 1024) : wC x (ix2 k n) = x (ix2 ⟨512 + k.val, by omega⟩ n) := by pointwise [wC]
theorem wD_apply (x : Vec Ideal S1024x1024 .bf16) (k : Fin 256) (n : Fin 1024) : wD x (ix2 k n) = x (ix2 ⟨768 + k.val, by omega⟩ n) := by pointwise [wD]
theorem wB0_apply (x : Vec Ideal S1024x1024 .bf16) (k : Fin 64) (n : Fin 1024) : wB0 x (ix2 k n) = x (ix2 ⟨256 + k.val, by omega⟩ n) := by pointwise [wB0]
theorem wB1_apply (x : Vec Ideal S1024x1024 .bf16) (k : Fin 64) (n : Fin 1024) : wB1 x (ix2 k n) = x (ix2 ⟨320 + k.val, by omega⟩ n) := by pointwise [wB1]
theorem wB2_apply (x : Vec Ideal S1024x1024 .bf16) (k : Fin 64) (n : Fin 1024) : wB2 x (ix2 k n) = x (ix2 ⟨384 + k.val, by omega⟩ n) := by pointwise [wB2]
theorem wB3_apply (x : Vec Ideal S1024x1024 .bf16) (k : Fin 64) (n : Fin 1024) : wB3 x (ix2 k n) = x (ix2 ⟨448 + k.val, by omega⟩ n) := by pointwise [wB3]
theorem mg_apply (x : Vec Ideal S1x6x1024 .f32) (n : Fin 1024) : mg x (ix3 0 0 n) = x (ix3 0 2 n) := by pointwise [mg]

/-- The first mixer's rows, as the body computes them. -/
def yA (a b z : Vec Ideal S1x512x256 .f32) (g : Vec Ideal S1x256 .f32) : FVec Ideal S512x256 .f32 :=
  k0_pay6 (k0_pay2 z) (k0_pay3 a b) (k0_pay4 g) (k0_pay5 a b) (Scalar.ofBits .f32 0x358637BD#32)
/-- The fourth mixer's rows, as the body computes them. -/
def yD (a b z : Vec Ideal S1x512x256 .f32) (g : Vec Ideal S1x256 .f32) : FVec Ideal S512x256 .f32 :=
  k0_pay17 (k0_pay7 a b) (k0_pay8 g) (k0_pay10 (F := Ideal)) (k0_pay13 a b) (k0_pay14 a b) (k0_pay15 a b) (k0_pay16 (F := Ideal)) z

/-- The four mixers' rows against the weights. -/
def acc (y0 y3 : FVec Ideal S512x256 .f32) (o : Vec Ideal S1x4x512x64 .f32) (hy : Vec Ideal S1x512x256 .f32) (w : Vec Ideal S1024x1024 .bf16) : FVec Ideal S512x1024 .f32 :=
  k0_pay20 y3 (k0_pay18 y0 (wA w) (df0 o) (wB0 w)) (k0_pay19 (df1 o)) (wB1 w) (df2 o) (wB2 w) (df3 o) (wB3 w) hy (wC w) (wD w)

theorem acc_apply (y0 y3 : FVec Ideal S512x256 .f32) (o : Vec Ideal S1x4x512x64 .f32) (hy : Vec Ideal S1x512x256 .f32) (w : Vec Ideal S1024x1024 .bf16) (r : Fin 512) (n : Fin 1024) :
    (acc y0 y3 o hy w (ix2 r n) : EReal)
      = ((∑ x : Fin 256, y0 (ix2 r x) * w (ix2 ⟨x.val, by omega⟩ n) + ∑ x : Fin 64, o (ix4 0 0 r x) * w (ix2 ⟨256 + x.val, by omega⟩ n)
          + ∑ x : Fin 64, o (ix4 0 1 r x) * w (ix2 ⟨320 + x.val, by omega⟩ n) + ∑ x : Fin 64, o (ix4 0 2 r x) * w (ix2 ⟨384 + x.val, by omega⟩ n)
          + ∑ x : Fin 64, o (ix4 0 3 r x) * w (ix2 ⟨448 + x.val, by omega⟩ n)) + ∑ x : Fin 256, hy (ix3 0 r x) * w (ix2 ⟨512 + x.val, by omega⟩ n))
          + ∑ x : Fin 256, y3 (ix2 r x) * w (ix2 ⟨768 + x.val, by omega⟩ n) := by
  pointwise [acc, k0_pay20, k0_pay18, k0_pay19]
  simp only [df0_apply, df1_apply, df2_apply, df3_apply, wA_apply, wB0_apply, wB1_apply, wB2_apply, wB3_apply, wC_apply, wD_apply]

/-- The first mixer at one place. -/
theorem yA_apply (a b z : Vec Ideal S1x512x256 .f32) (g : Vec Ideal S1x256 .f32) (r : Fin 512) (h : Fin 4) (f : Fin 64) (G : Fin 64 → EReal) (hG : ∀ y, g (ix2 0 (Pout.lane h y)) = G y)
    (hs : ∀ x : Fin 256, ∃ q : ℝ, (a (ix3 0 r x) + b (ix3 0 r x) : EReal) = (q : EReal)) :
    (yA a b z g (ix2 r (Pout.lane h f)) : EReal)
      = Pout.hn (fun x => a (ix3 0 r x) + b (ix3 0 r x)) G h f * (z (ix3 0 r (Pout.lane h f)) * Norm.sig (z (ix3 0 r (Pout.lane h f)))) := by
  unfold Pout.hn
  rw [← Pout.seg_eq _ hs h f, ← hG, ← Norm.sig_zero_sub]
  pointwise [yA, k0_pay6, k0_pay2, k0_pay3, k0_pay4, k0_pay5]

/-- The fourth mixer at one place. -/
theorem yD_apply (a b z : Vec Ideal S1x512x256 .f32) (g : Vec Ideal S1x256 .f32) (r : Fin 512) (h : Fin 4) (f : Fin 64) (G : Fin 64 → EReal) (hG : ∀ y, g (ix2 0 (Pout.lane h y)) = G y)
    (hs : ∀ x : Fin 256, ∃ q : ℝ, (a (ix3 0 r x) + b (ix3 0 r x) : EReal) = (q : EReal)) :
    (yD a b z g (ix2 r (Pout.lane h f)) : EReal)
      = Pout.hn (fun x => a (ix3 0 r x) + b (ix3 0 r x)) G h f * Norm.sig (z (ix3 0 r (Pout.lane h f))) := by
  unfold Pout.hn
  rw [← Pout.seg_eq _ hs h f, ← hG, ← Norm.sig_zero_sub]
  pointwise [yD, k0_pay17, k0_pay7, k0_pay8, k0_pay9, k0_pay10, k0_pay11, k0_pay12, k0_pay13, k0_pay14, k0_pay15, k0_pay16]

/-- What one point stores, at one place. -/
theorem pay_apply (x : Vec Ideal S1x512x1024 .f32) (mo : Vec Ideal S1x6x1024 .f32) (y : FVec Ideal S512x1024 .f32) (r : Fin 512) (n : Fin 1024) :
    (k0_pay1 y (k0_pay21 x) (k0_pay22 (mg mo)) (ix3 0 r n) : EReal) = Norm.into (x (ix3 0 r n)) (mo (ix3 0 2 n)) (y (ix2 r n)) := by
  rw [← mg_apply mo n]
  unfold Norm.into
  pointwise [k0_pay1, k0_pay21, k0_pay22]

variable (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x256 .f32) (harg4 : arg4.IsWhole) (arg5 : Memref sig .tc .vmem S1x4x512x64 .f32) (harg5 : arg5.IsWhole) (arg6 : Memref sig .tc .vmem S1x512x256 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x1024 .f32) (harg10 : arg10.IsWhole) (arg11 : Memref sig .tc .vmem S1x6x1024 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1024x1024 .bf16) (harg14 : arg14.IsWhole) (arg15 : Memref sig .tc .vmem S1x512x1024 .f32) (harg15 : arg15.IsWhole)
    (x0 x1 x2 : Vec Ideal S1x512x256 .f32) (x3 : Vec Ideal S1x4x512x64 .f32) (x4 x5 x6 x7 : Vec Ideal S1x512x256 .f32) (x8 : Vec Ideal S1x512x1024 .f32) (x9 : Vec Ideal S1x6x1024 .f32) (x10 x11 : Vec Ideal S1x256 .f32) (x12 : Vec Ideal S1024x1024 .bf16)

/-- What the body leaves in the result's block is its one store. -/
theorem out_pay : out0_A_13 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12
    = k0_pay1 (acc (yA x0 x1 x2 x10) (yD x5 x6 x7 x11) x3 x4 x12) (k0_pay21 x8) (k0_pay22 (mg x9)) := by
  frame_open
  frame_out
  rfl

end Cert.Kernel5Ideal.Val
-- ==== Proof.PoutBlocks.lean ====
module

public import proofs.«01_k».proof.Proof.PoutKer

@[expose] public section

set_option maxRecDepth 16384
noncomputable section
open Idealize.ShloMosaic Idealize.ShloMosaic.TcCoe Idealize.SL.Sem
namespace Cert.Kernel5Ideal.Val
open Cert.Kernel5Ideal Cert.Kernel5Ideal.Gen Cert.Kernel5Ideal.Value
variable (m : (ℓ : Loc nD τ sig) → Buf (Elt Ideal) ℓ)

/-- The gain laid out four times as one row. -/
def tile (g : Vec Ideal S64 .f32) : Vec Ideal S1x256 .f32 :=
  shapeCast S1x256 (shapeCast S256 (broadcastInDim S4x64 ![0, 1] bcast_S1x64_S4x64_0_1 (shapeCast S1x64 g shapeCasts_S64_S1x64)) shapeCasts_S4x64_S256) shapeCasts_S256_S1x256
/-- That row at one lane of a head. -/
theorem tile_apply (g : Vec Ideal S64 .f32) (h : Fin 4) (f : Fin 64) : (tile g (ix2 0 (Pout.lane h f)) : EReal) = g (ix1 f) := by
  have hf := f.isLt
  have e2 : (⟨(Pout.lane h f).val % 64, by omega⟩ : Fin 64) = f := Fin.ext (by show (h.val * 64 + f.val) % 64 = f.val; omega)
  refine Eq.trans ?_ (congrArg (fun v => g (ix1 v)) e2)
  pointwise [tile]
/-- The first gain's row before the call. -/
theorem V_g3 (c : Dev nD) : V m c main_v3 = tile (m ((c : Thread nD τ).loc main_arg9)) := rfl
/-- The second gain's row before the call. -/
theorem V_g7 (c : Dev nD) : V m c main_v7 = tile (m ((c : Thread nD τ).loc main_arg10)) := rfl

/-- The block numbers of window 0. -/
theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
/-- The block numbers of window 1. -/
theorem idx1 : ∀ t : Fin cfg0.N, win0_1.index t (0 : Fin 3) = t.val / 8 ∧ win0_1.index t (1 : Fin 3) = t.val % 8 ∧ win0_1.index t (2 : Fin 3) = 0 :=
  (by decide +kernel : ∀ t : Fin grid0.N, _)
/-- The block numbers of window 2. -/
theorem idx2 : ∀ t : Fin cfg0.N, win0_2.index t (0 : Fin 3) = t.val / 8 ∧ win0_2.index t (1 : Fin 3) = t.val % 8 ∧ win0_2.index t (2 : Fin 3) = 12 :=
  (by decide +kernel : ∀ t : Fin grid0.N, _)
/-- The block numbers of window 3. -/
theorem idx3 : ∀ t : Fin cfg0.N, win0_3.index t (0 : Fin 4) = t.val / 8 ∧ win0_3.index t (1 : Fin 4) = 0 ∧ win0_3.index t (2 : Fin 4) = t.val % 8 ∧ win0_3.index t (3 : Fin 4) = 0 :=
  (by decide +kernel : ∀ t : Fin grid0.N, _)
/-- The block numbers of window 4. -/
theorem idx4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)
/-- The block numbers of window 5. -/
theorem idx5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, _)
/-- The block numbers of window 6. -/
theorem idx6 : ∀ t : Fin cfg0.N, win0_6.index t (0 : Fin 3) = t.val / 8 ∧ win0_6.index t (1 : Fin 3) = t.val % 8 ∧ win0_6.index t (2 : Fin 3) = 0 :=
  (by decide +kernel : ∀ t : Fin grid0.N, _)
/-- The block numbers of window 7. -/
theorem idx7 : ∀ t : Fin cfg0.N, win0_7.index t (0 : Fin 3) = t.val / 8 ∧ win0_7.index t (1 : Fin 3) = t.val % 8 ∧ win0_7.index t (2 : Fin 3) = 13 :=
  (by decide +kernel : ∀ t : Fin grid0.N, _)
/-- The block numbers of window 8. -/
theorem idx8 : ∀ t : Fin cfg0.N, win0_8.index t (0 : Fin 3) = t.val / 8 ∧ win0_8.index t (1 : Fin 3) = t.val % 8 ∧ win0_8.index t (2 : Fin 3) = 0 :=
  (by decide +kernel : ∀ t : Fin grid0.N, _)
/-- The block numbers of window 9. -/
theorem idx9 : ∀ t : Fin cfg0.N, win0_9.index t (0 : Fin 3) = t.val / 8 ∧ win0_9.index t (1 : Fin 3) = 0 ∧ win0_9.index t (2 : Fin 3) = 0 :=
  (by decide +kernel : ∀ t : Fin grid0.N, _)
/-- The block numbers of window 10. -/
theorem idx10 : ∀ t : Fin cfg0.N, win0_10.index t (0 : Fin 2) = 0 ∧ win0_10.index t (1 : Fin 2) = 0 :=
  (by decide +kernel : ∀ t : Fin grid0.N, _)
/-- The block numbers of window 11. -/
theorem idx11 : ∀ t : Fin cfg0.N, win0_11.index t (0 : Fin 2) = 0 ∧ win0_11.index t (1 : Fin 2) = 0 :=
  (by decide +kernel : ∀ t : Fin grid0.N, _)
/-- The block numbers of window 12. -/
theorem idx12 : ∀ t : Fin cfg0.N, win0_12.index t (0 : Fin 2) = 0 ∧ win0_12.index t (1 : Fin 2) = 0 :=
  (by decide +kernel : ∀ t : Fin grid0.N, _)
/-- The block numbers of window 13. -/
theorem idx13 : ∀ t : Fin cfg0.N, win0_13.index t (0 : Fin 3) = t.val / 8 ∧ win0_13.index t (1 : Fin 3) = t.val % 8 ∧ win0_13.index t (2 : Fin 3) = 0 :=
  (by decide +kernel : ∀ t : Fin grid0.N, _)
/-- Every point's block is written back. -/
theorem flush13 : ∀ t : Fin cfg0.N, (cfg0.win 13).flush t = true :=
  (by decide +kernel : ∀ t : Fin grid0.N, win0_13.flush t = true)

/-- Window 0's block at one place. -/
theorem blk0 (c : Dev nD) (t : Fin cfg0.N) (r : Fin 512) (k : Fin 256) (b : Fin 8) (R : Fin 4096) (hb : b.val = t.val / 8) (hR : R.val = t.val % 8 * 512 + r.val) :
    (iblk m c 0 t : Vec Ideal S1x512x256 .f32) (ix3 0 r k) = m ((c : Thread nD τ).loc main_arg0) (ix3 b R k) := by
  obtain ⟨e0, e1, e2⟩ := idx0 t
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t 0 * 1 + 1 * 0 = b.val; rw [e0]; omega
  | ⟨1, _⟩ => show win0_0.index t 1 * 512 + 1 * r.val = R.val; rw [e1]; omega
  | ⟨2, _⟩ => show win0_0.index t 2 * 256 + 1 * k.val = k.val; rw [e2]; omega

/-- Window 1's block at one place. -/
theorem blk1 (c : Dev nD) (t : Fin cfg0.N) (r : Fin 512) (k : Fin 256) (b : Fin 8) (R : Fin 4096) (hb : b.val = t.val / 8) (hR : R.val = t.val % 8 * 512 + r.val) :
    (iblk m c 1 t : Vec Ideal S1x512x256 .f32) (ix3 0 r k) = m ((c : Thread nD τ).loc main_arg1) (ix3 b R k) := by
  obtain ⟨e0, e1, e2⟩ := idx1 t
  unfold iblk
  rw [View.read_apply]
  show V m c main_arg1 _ = _
  rw [V_main_arg1]
  refine congrArg (m ((c : Thread nD τ).loc main_arg1)) ?_
  funext a; apply Fin.ext
  match a with
  | ⟨0, _⟩ => show win0_1.index t 0 * 1 + 1 * 0 = b.val; rw [e0]; omega
  | ⟨1, _⟩ => show win0_1.index t 1 * 512 + 1 * r.val = R.val; rw [e1]; omega
  | ⟨2, _⟩ => show win0_1.index t 2 * 256 + 1 * k.val = k.val; rw [e2]; omega

/-- Window 2's block at one place. -/
theorem blk2 (c : Dev nD) (t : Fin cfg0.N) (r : Fin 512) (k : Fin 256) (b : Fin 8) (R : Fin 4096) (hb : b.val = t.val / 8) (hR : R.val = t.val % 8 * 512 + r.val) :
    (X0_2 m c t : Vec Ideal S1x512x256 .f32) (ix3 0 r k) = m ((c : Thread nD τ).loc main_arg2) (ix3 b R ⟨3072 + k.val, by omega⟩) := by
  obtain ⟨e0, e1, e2⟩ := idx2 t
  unfold X0_2 Pipeline.Window.fill
  rw [dif_pos (moved0_2 t _)]
  unfold iblk
  rw [View.read_apply]
  show V m c main_arg2 _ = _
  rw [V_main_arg2]
  refine congrArg (m ((c : Thread nD τ).loc main_arg2)) ?_
  funext a; apply Fin.ext
  match a with
  | ⟨0, _⟩ => show win0_2.index t 0 * 1 + 1 * 0 = b.val; rw [e0]; omega
  | ⟨1, _⟩ => show win0_2.index t 1 * 512 + 1 * r.val = R.val; rw [e1]; omega
  | ⟨2, _⟩ => show win0_2.index t 2 * 256 + 1 * k.val = 3072 + k.val; rw [e2]; omega

/-- Window 3's block at one place. -/
theorem blk3 (c : Dev nD) (t : Fin cfg0.N) (h : Fin 4) (r : Fin 512) (f : Fin 64) (b : Fin 8) (R : Fin 4096) (hb : b.val = t.val / 8) (hR : R.val = t.val % 8 * 512 + r.val) :
    (iblk m c 3 t : Vec Ideal S1x4x512x64 .f32) (ix4 0 h r f) = m ((c : Thread nD τ).loc main_arg3) (ix4 b h R f) := by
  obtain ⟨e0, e1, e2, e3⟩ := idx3 t
  unfold iblk
  rw [View.read_apply]
  show V m c main_arg3 _ = _
  rw [V_main_arg3]
  refine congrArg (m ((c : Thread nD τ).loc main_arg3)) ?_
  funext a; apply Fin.ext
  match a with
  | ⟨0, _⟩ => show win0_3.index t 0 * 1 + 1 * 0 = b.val; rw [e0]; omega
  | ⟨1, _⟩ => show win0_3.index t 1 * 4 + 1 * h.val = h.val; rw [e1]; omega
  | ⟨2, _⟩ => show win0_3.index t 2 * 512 + 1 * r.val = R.val; rw [e2]; omega
  | ⟨3, _⟩ => show win0_3.index t 3 * 64 + 1 * f.val = f.val; rw [e3]; omega

/-- Window 4's block at one place. -/
theorem blk4 (c : Dev nD) (t : Fin cfg0.N) (r : Fin 512) (k : Fin 256) (b : Fin 8) (R : Fin 4096) (hb : b.val = t.val / 8) (hR : R.val = t.val % 8 * 512 + r.val) :
    (iblk m c 4 t : Vec Ideal S1x512x256 .f32) (ix3 0 r k) = m ((c : Thread nD τ).loc main_arg4) (ix3 b R k) := by
  obtain ⟨e0, e1, e2⟩ := idx4 t
  unfold iblk
  rw [View.read_apply]
  show V m c main_arg4 _ = _
  rw [V_main_arg4]
  refine congrArg (m ((c : Thread nD τ).loc main_arg4)) ?_
  funext a; apply Fin.ext
  match a with
  | ⟨0, _⟩ => show win0_4.index t 0 * 1 + 1 * 0 = b.val; rw [e0]; omega
  | ⟨1, _⟩ => show win0_4.index t 1 * 512 + 1 * r.val = R.val; rw [e1]; omega
  | ⟨2, _⟩ => show win0_4.index t 2 * 256 + 1 * k.val = k.val; rw [e2]; omega

/-- Window 5's block at one place. -/
theorem blk5 (c : Dev nD) (t : Fin cfg0.N) (r : Fin 512) (k : Fin 256) (b : Fin 8) (R : Fin 4096) (hb : b.val = t.val / 8) (hR : R.val = t.val % 8 * 512 + r.val) :
    (iblk m c 5 t : Vec Ideal S1x512x256 .f32) (ix3 0 r k) = m ((c : Thread nD τ).loc main_arg5) (ix3 b R k) := by
  obtain ⟨e0, e1, e2⟩ := idx5 t
  unfold iblk
  rw [View.read_apply]
  show V m c main_arg5 _ = _
  rw [V_main_arg5]
  refine congrArg (m ((c : Thread nD τ).loc main_arg5)) ?_
  funext a; apply Fin.ext
  match a with
  | ⟨0, _⟩ => show win0_5.index t 0 * 1 + 1 * 0 = b.val; rw [e0]; omega
  | ⟨1, _⟩ => show win0_5.index t 1 * 512 + 1 * r.val = R.val; rw [e1]; omega
  | ⟨2, _⟩ => show win0_5.index t 2 * 256 + 1 * k.val = k.val; rw [e2]; omega

/-- Window 6's block at one place. -/
theorem blk6 (c : Dev nD) (t : Fin cfg0.N) (r : Fin 512) (k : Fin 256) (b : Fin 8) (R : Fin 4096) (hb : b.val = t.val / 8) (hR : R.val = t.val % 8 * 512 + r.val) :
    (iblk m c 6 t : Vec Ideal S1x512x256 .f32) (ix3 0 r k) = m ((c : Thread nD τ).loc main_arg6) (ix3 b R k) := by
  obtain ⟨e0, e1, e2⟩ := idx6 t
  unfold iblk
  rw [View.read_apply]
  show V m c main_arg6 _ = _
  rw [V_main_arg6]
  refine congrArg (m ((c : Thread nD τ).loc main_arg6)) ?_
  funext a; apply Fin.ext
  match a with
  | ⟨0, _⟩ => show win0_6.index t 0 * 1 + 1 * 0 = b.val; rw [e0]; omega
  | ⟨1, _⟩ => show win0_6.index t 1 * 512 + 1 * r.val = R.val; rw [e1]; omega
  | ⟨2, _⟩ => show win0_6.index t 2 * 256 + 1 * k.val = k.val; rw [e2]; omega

/-- Window 7's block at one place. -/
theorem blk7 (c : Dev nD) (t : Fin cfg0.N) (r : Fin 512) (k : Fin 256) (b : Fin 8) (R : Fin 4096) (hb : b.val = t.val / 8) (hR : R.val = t.val % 8 * 512 + r.val) :
    (X0_7 m c t : Vec Ideal S1x512x256 .f32) (ix3 0 r k) = m ((c : Thread nD τ).loc main_arg2) (ix3 b R ⟨3328 + k.val, by omega⟩) := by
  obtain ⟨e0, e1, e2⟩ := idx7 t
  unfold X0_7 Pipeline.Window.fill
  rw [dif_pos (moved0_7 t _)]
  unfold iblk
  rw [View.read_apply]
  show V m c main_arg2 _ = _
  rw [V_main_arg2]
  refine congrArg (m ((c : Thread nD τ).loc main_arg2)) ?_
  funext a; apply Fin.ext
  match a with
  | ⟨0, _⟩ => show win0_7.index t 0 * 1 + 1 * 0 = b.val; rw [e0]; omega
  | ⟨1, _⟩ => show win0_7.index t 1 * 512 + 1 * r.val = R.val; rw [e1]; omega
  | ⟨2, _⟩ => show win0_7.index t 2 * 256 + 1 * k.val = 3328 + k.val; rw [e2]; omega

/-- Window 8's block at one place. -/
theorem blk8 (c : Dev nD) (t : Fin cfg0.N) (r : Fin 512) (k : Fin 1024) (b : Fin 8) (R : Fin 4096) (hb : b.val = t.val / 8) (hR : R.val = t.val % 8 * 512 + r.val) :
    (iblk m c 8 t : Vec Ideal S1x512x1024 .f32) (ix3 0 r k) = m ((c : Thread nD τ).loc main_arg7) (ix3 b R k) := by
  obtain ⟨e0, e1, e2⟩ := idx8 t
  unfold iblk
  rw [View.read_apply]
  show V m c main_arg7 _ = _
  rw [V_main_arg7]
  refine congrArg (m ((c : Thread nD τ).loc main_arg7)) ?_
  funext a; apply Fin.ext
  match a with
  | ⟨0, _⟩ => show win0_8.index t 0 * 1 + 1 * 0 = b.val; rw [e0]; omega
  | ⟨1, _⟩ => show win0_8.index t 1 * 512 + 1 * r.val = R.val; rw [e1]; omega
  | ⟨2, _⟩ => show win0_8.index t 2 * 1024 + 1 * k.val = k.val; rw [e2]; omega

/-- Window 9's block at one place. -/
theorem blk9 (c : Dev nD) (t : Fin cfg0.N) (i : Fin 6) (k : Fin 1024) (b : Fin 8) (hb : b.val = t.val / 8) :
    (iblk m c 9 t : Vec Ideal S1x6x1024 .f32) (ix3 0 i k) = m ((c : Thread nD τ).loc main_arg8) (ix3 b i k) := by
  obtain ⟨e0, e1, e2⟩ := idx9 t
  unfold iblk
  rw [View.read_apply]
  show V m c main_arg8 _ = _
  rw [V_main_arg8]
  refine congrArg (m ((c : Thread nD τ).loc main_arg8)) ?_
  funext a; apply Fin.ext
  match a with
  | ⟨0, _⟩ => show win0_9.index t 0 * 1 + 1 * 0 = b.val; rw [e0]; omega
  | ⟨1, _⟩ => show win0_9.index t 1 * 6 + 1 * i.val = i.val; rw [e1]; omega
  | ⟨2, _⟩ => show win0_9.index t 2 * 1024 + 1 * k.val = k.val; rw [e2]; omega

/-- Window 10's block at one place. -/
theorem blk10 (c : Dev nD) (t : Fin cfg0.N) (h : Fin 4) (f : Fin 64) :
    (iblk m c 10 t : Vec Ideal S1x256 .f32) (ix2 0 (Pout.lane h f)) = m ((c : Thread nD τ).loc main_arg9) (ix1 f) := by
  obtain ⟨e0, e1⟩ := idx10 t
  unfold iblk
  rw [View.read_apply]
  show V m c main_v3 _ = _
  rw [V_g3]
  refine Eq.trans ?_ (tile_apply (m ((c : Thread nD τ).loc main_arg9)) h f)
  refine congrArg (tile (m ((c : Thread nD τ).loc main_arg9))) ?_
  funext a; apply Fin.ext
  match a with
  | ⟨0, _⟩ => show win0_10.index t 0 * 1 + 1 * 0 = 0; rw [e0]
  | ⟨1, _⟩ => show win0_10.index t 1 * 256 + 1 * (Pout.lane h f).val = (Pout.lane h f).val; rw [e1]; omega

/-- Window 11's block at one place. -/
theorem blk11 (c : Dev nD) (t : Fin cfg0.N) (h : Fin 4) (f : Fin 64) :
    (iblk m c 11 t : Vec Ideal S1x256 .f32) (ix2 0 (Pout.lane h f)) = m ((c : Thread nD τ).loc main_arg10) (ix1 f) := by
  obtain ⟨e0, e1⟩ := idx11 t
  unfold iblk
  rw [View.read_apply]
  show V m c main_v7 _ = _
  rw [V_g7]
  refine Eq.trans ?_ (tile_apply (m ((c : Thread nD τ).loc main_arg10)) h f)
  refine congrArg (tile (m ((c : Thread nD τ).loc main_arg10))) ?_
  funext a; apply Fin.ext
  match a with
  | ⟨0, _⟩ => show win0_11.index t 0 * 1 + 1 * 0 = 0; rw [e0]
  | ⟨1, _⟩ => show win0_11.index t 1 * 256 + 1 * (Pout.lane h f).val = (Pout.lane h f).val; rw [e1]; omega

/-- Window 12's block at one place. -/
theorem blk12 (c : Dev nD) (t : Fin cfg0.N) (k : Fin 1024) (n : Fin 1024) :
    (iblk m c 12 t : Vec Ideal S1024x1024 .bf16) (ix2 k n) = m ((c : Thread nD τ).loc main_arg11) (ix2 k n) := by
  obtain ⟨e0, e1⟩ := idx12 t
  unfold iblk
  rw [View.read_apply]
  show V m c main_arg11 _ = _
  rw [V_main_arg11]
  refine congrArg (m ((c : Thread nD τ).loc main_arg11)) ?_
  funext a; apply Fin.ext
  match a with
  | ⟨0, _⟩ => show win0_12.index t 0 * 1024 + 1 * k.val = k.val; rw [e0]; omega
  | ⟨1, _⟩ => show win0_12.index t 1 * 1024 + 1 * n.val = n.val; rw [e1]; omega

end Cert.Kernel5Ideal.Val
-- ==== Proof.PoutRef.lean ====
module

public import proofs.«01_k».proof.Proof.PoutNorm
public import proofs.«01_k».proof.Proof.Gen.Reference5Ideal.Run
public import Idealize.ShloMosaic.Lib.IdealHost
public import Idealize.ShloMosaic.Lib.Pointwise
public import Idealize.ShloMosaic.Lib.Tactic

@[expose] public section

set_option maxRecDepth 16384
noncomputable section
open Idealize.ShloMosaic Idealize.ShloMosaic.TcCoe Idealize.SL.Sem
namespace Cert.Reference5Ideal.Read
open Cert.Reference5Ideal Cert.Reference5Ideal.Gen Cert.Reference5Ideal.Value

/-- The sum of the two directions of a recurrence, cut into its four heads. -/
def heads (a b : FVec Ideal S8x4096x256 .f32) : FVec Ideal S8x4096x4x64 .f32 := shapeCast S8x4096x4x64 (addf a b) shapeCasts_S8x4096x256_S8x4096x4x64

/-- One head's norm with its gain. -/
def norm (t : FVec Ideal S8x4096x4x64 .f32) (g : FVec Ideal S64 .f32) : FVec Ideal S8x4096x4x64 .f32 :=
  mulf (mulf t (broadcastInDim S8x4096x4x64 ![0, 1, 2, 3] bcast_S8x4096x4x1_S8x4096x4x64_0_1_2_3 (Host.rsqrt (addf (Host.divf (broadcastInDim S8x4096x4x1 ![0, 1, 2] bcast_S8x4096x4_S8x4096x4x1_0_1_2 (Host.reduceAdd (mulf t t) (constant S_ .f32 0x00000000#32) reducesTo_S8x4096x4x64_S8x4096x4_d3 h_S_)) (broadcastInDim S8x4096x4x1 ![] bcast_S_S8x4096x4x1 (constant S_ .f32 0x42800000#32))) (broadcastInDim S8x4096x4x1 ![] bcast_S_S8x4096x4x1 (constant S_ .f32 0x358637BD#32)))))) (broadcastInDim S8x4096x4x64 ![0, 1, 2, 3] bcast_S1x1x1x64_S8x4096x4x64_0_1_2_3 (broadcastInDim S1x1x1x64 ![3] bcast_S64_S1x1x1x64_3 g))

/-- The logistic gate of an array of heads. -/
def gate (z : FVec Ideal S8x4096x4x64 .f32) : FVec Ideal S8x4096x4x64 .f32 :=
  Host.divf (broadcastInDim S8x4096x4x64 ![] bcast_S_S8x4096x4x64 (constant S_ .f32 0x3F800000#32)) (addf (broadcastInDim S8x4096x4x64 ![] bcast_S_S8x4096x4x64 (constant S_ .f32 0x3F800000#32)) (Host.exp (Host.negf z)))

/-- The first gate's columns of the projection, cut into heads. -/
def zd (z : FVec Ideal S8x4096x3712 .f32) : FVec Ideal S8x4096x4x64 .f32 :=
  shapeCast S8x4096x4x64 (extractStridedSlice S8x4096x256 ![0, 0, 3072] z slices_S8x4096x3712_S8x4096x256_0_0_3072) shapeCasts_S8x4096x256_S8x4096x4x64
/-- The second gate's columns of the projection, cut into heads. -/
def zm (z : FVec Ideal S8x4096x3712 .f32) : FVec Ideal S8x4096x4x64 .f32 :=
  shapeCast S8x4096x4x64 (extractStridedSlice S8x4096x256 ![0, 0, 3328] z slices_S8x4096x3712_S8x4096x256_0_0_3328) shapeCasts_S8x4096x256_S8x4096x4x64

/-- The first recurrence's mixer output. -/
def ydn (a b : FVec Ideal S8x4096x256 .f32) (z : FVec Ideal S8x4096x3712 .f32) (g : FVec Ideal S64 .f32) : FVec Ideal S8x4096x256 .f32 :=
  shapeCast S8x4096x256 (mulf (norm (heads a b) g) (mulf (zd z) (gate (zd z)))) shapeCasts_S8x4096x4x64_S8x4096x256
/-- The second recurrence's mixer output. -/
def yml (a b : FVec Ideal S8x4096x256 .f32) (z : FVec Ideal S8x4096x3712 .f32) (g : FVec Ideal S64 .f32) : FVec Ideal S8x4096x256 .f32 :=
  shapeCast S8x4096x256 (mulf (norm (heads a b) g) (gate (zm z))) shapeCasts_S8x4096x4x64_S8x4096x256
/-- The attention's heads side by side. -/
def ydf (o : FVec Ideal S8x4x4096x64 .f32) : FVec Ideal S8x4096x256 .f32 :=
  shapeCast S8x4096x256 (transpose S8x4096x4x64 [0, 2, 1, 3] o transposes_S8x4x4096x64_S8x4096x4x64_0_2_1_3) shapeCasts_S8x4096x4x64_S8x4096x256

/-- The four mixers side by side. -/
def cat (y0 y1 y2 y3 : FVec Ideal S8x4096x256 .f32) : FVec Ideal S8x4096x1024 .f32 :=
  concatenate S8x4096x1024 2 [⟨S8x4096x256, y0⟩, ⟨S8x4096x256, y1⟩, ⟨S8x4096x256, y2⟩, ⟨S8x4096x256, y3⟩] concatenates_S8x4096x256_S8x4096x256_S8x4096x256_S8x4096x256_S8x4096x1024_d2

/-- The stream with the projected mixers added through the modulation's gate. -/
def fin (x : FVec Ideal S8x4096x1024 .f32) (mo : FVec Ideal S8x6x1024 .f32) (y : FVec Ideal S8x4096x1024 .f32) (w : FVec Ideal S1024x1024 .bf16) : FVec Ideal S8x4096x1024 .f32 :=
  addf x (mulf (broadcastInDim S8x4096x1024 ![0, 1, 2] bcast_S8x1x1024_S8x4096x1024_0_1_2 (extractStridedSlice S8x1x1024 ![0, 2, 0] mo slices_S8x6x1024_S8x1x1024_0_2_0)) (Host.dotGeneral dot_S8x4096x1024_S1024x1024_S8x4096x1024_2_0_01_1_n_n none y (extf .f32 w bitsLt_bf16_f32)))

/-- The reference's result is the named terms'. -/
theorem res_eq (m : (ℓ : Loc nD τ sig) → Buf (Elt Ideal) ℓ) (c : Dev nD) : res_main_v53 m c
    = fin (m ((c : Thread nD τ).loc main_arg7)) (m ((c : Thread nD τ).loc main_arg8))
        (cat (ydn (m ((c : Thread nD τ).loc main_arg0)) (m ((c : Thread nD τ).loc main_arg1)) (m ((c : Thread nD τ).loc main_arg2)) (m ((c : Thread nD τ).loc main_arg9)))
          (ydf (m ((c : Thread nD τ).loc main_arg3))) (m ((c : Thread nD τ).loc main_arg4))
          (yml (m ((c : Thread nD τ).loc main_arg5)) (m ((c : Thread nD τ).loc main_arg6)) (m ((c : Thread nD τ).loc main_arg2)) (m ((c : Thread nD τ).loc main_arg10))))
        (m ((c : Thread nD τ).loc main_arg11)) := rfl

/-- The result at one place. -/
theorem fin_apply (x : FVec Ideal S8x4096x1024 .f32) (mo : FVec Ideal S8x6x1024 .f32) (y : FVec Ideal S8x4096x1024 .f32) (w : FVec Ideal S1024x1024 .bf16) (b : Fin 8) (r : Fin 4096) (n : Fin 1024) :
    (fin x mo y w (ix3 b r n) : EReal) = Norm.into (x (ix3 b r n)) (mo (ix3 b 2 n)) (∑ k : Fin 1024, (y (ix3 b r k) : EReal) * w (ix2 k n)) := by
  unfold Norm.into
  pointwise [fin]

/-- A head's sum of the two directions at one place. -/
theorem heads_apply (a b : FVec Ideal S8x4096x256 .f32) (p : Fin 8) (r : Fin 4096) (h : Fin 4) (f : Fin 64) :
    (heads a b (ix4 p r h f) : EReal) = a (ix3 p r ⟨h.val * 64 + f.val, by omega⟩) + b (ix3 p r ⟨h.val * 64 + f.val, by omega⟩) := by
  pointwise [heads]

/-- The first gate's heads at one place. -/
theorem zd_apply (z : FVec Ideal S8x4096x3712 .f32) (p : Fin 8) (r : Fin 4096) (h : Fin 4) (f : Fin 64) :
    (zd z (ix4 p r h f) : EReal) = z (ix3 p r ⟨3072 + (h.val * 64 + f.val), by omega⟩) := by
  pointwise [zd]
/-- The second gate's heads at one place. -/
theorem zm_apply (z : FVec Ideal S8x4096x3712 .f32) (p : Fin 8) (r : Fin 4096) (h : Fin 4) (f : Fin 64) :
    (zm z (ix4 p r h f) : EReal) = z (ix3 p r ⟨3328 + (h.val * 64 + f.val), by omega⟩) := by
  pointwise [zm]

/-- The gate at one place. -/
theorem gate_apply (z : FVec Ideal S8x4096x4x64 .f32) (p : Fin 8) (r : Fin 4096) (h : Fin 4) (f : Fin 64) :
    (gate z (ix4 p r h f) : EReal) = Norm.sig (z (ix4 p r h f)) := by
  unfold Norm.sig
  pointwise [gate]

/-- A head's norm at one place. -/
theorem norm_apply (t : FVec Ideal S8x4096x4x64 .f32) (g : FVec Ideal S64 .f32) (p : Fin 8) (r : Fin 4096) (h : Fin 4) (f : Fin 64) :
    (norm t g (ix4 p r h f) : EReal) = t (ix4 p r h f) * Ideal.rsqrt (Ideal.div (∑ y : Fin 64, t (ix4 p r h y) * t (ix4 p r h y)) (Ideal.ofBits .f32 0x42800000#32) + Ideal.ofBits .f32 0x358637BD#32) * g (ix1 f) := by
  pointwise [norm]

/-- The attention's heads side by side at one place. -/
theorem ydf_apply (o : FVec Ideal S8x4x4096x64 .f32) (p : Fin 8) (r : Fin 4096) (h : Fin 4) (f : Fin 64) :
    (ydf o (ix3 p r ⟨h.val * 64 + f.val, by omega⟩) : EReal) = o (ix4 p h r f) := by
  pointwise [ydf]

/-- Four heads of 64 laid side by side, at one place. -/
theorem flat_apply (t : FVec Ideal S8x4096x4x64 .f32) (p : Fin 8) (r : Fin 4096) (h : Fin 4) (f : Fin 64) (k : Fin 256) (hk : k.val = h.val * 64 + f.val) :
    (shapeCast S8x4096x256 t shapeCasts_S8x4096x4x64_S8x4096x256 (ix3 p r k) : EReal) = t (ix4 p r h f) := by
  have hf := f.isLt
  have e1 : (⟨k.val / 64, by omega⟩ : Fin 4) = h := Fin.ext (by show k.val / 64 = h.val; omega)
  have e2 : (⟨k.val % 64, by omega⟩ : Fin 64) = f := Fin.ext (by show k.val % 64 = f.val; omega)
  refine Eq.trans ?_ (congrArg₂ (fun u v => t (ix4 p r u v)) e1 e2)
  pointwise

/-- The first piece of the columns is the first mixer. -/
theorem cat_0 (y0 y1 y2 y3 : FVec Ideal S8x4096x256 .f32) (p : Fin 8) (r : Fin 4096) (k : Fin 256) : (cat y0 y1 y2 y3 (ix3 p r ⟨k.val, by omega⟩) : EReal) = y0 (ix3 p r k) := by
  pointwise [cat]
/-- The second piece of the columns is the second mixer. -/
theorem cat_1 (y0 y1 y2 y3 : FVec Ideal S8x4096x256 .f32) (p : Fin 8) (r : Fin 4096) (k : Fin 256) : (cat y0 y1 y2 y3 (ix3 p r ⟨256 + k.val, by omega⟩) : EReal) = y1 (ix3 p r k) := by
  pointwise [cat]
/-- The third piece of the columns is the third mixer. -/
theorem cat_2 (y0 y1 y2 y3 : FVec Ideal S8x4096x256 .f32) (p : Fin 8) (r : Fin 4096) (k : Fin 256) : (cat y0 y1 y2 y3 (ix3 p r ⟨512 + k.val, by omega⟩) : EReal) = y2 (ix3 p r k) := by
  pointwise [cat]
  rw [dif_neg (by omega), dif_neg (by omega), dif_pos (by omega)]
  exact congrArg (fun u => y2 (ix3 p r u)) (Fin.ext (by show 512 + k.val - 256 - 256 = k.val; omega))
/-- The fourth piece of the columns is the fourth mixer. -/
theorem cat_3 (y0 y1 y2 y3 : FVec Ideal S8x4096x256 .f32) (p : Fin 8) (r : Fin 4096) (k : Fin 256) : (cat y0 y1 y2 y3 (ix3 p r ⟨768 + k.val, by omega⟩) : EReal) = y3 (ix3 p r k) := by
  pointwise [cat]
  rw [dif_neg (by omega), dif_neg (by omega), dif_neg (by omega)]
  exact congrArg (fun u => y3 (ix3 p r u)) (Fin.ext (by show 768 + k.val - 256 - 256 - 256 = k.val; omega))

/-- The first mixer at one place. -/
theorem ydn_apply (a b : FVec Ideal S8x4096x256 .f32) (z : FVec Ideal S8x4096x3712 .f32) (g : FVec Ideal S64 .f32) (p : Fin 8) (r : Fin 4096) (h : Fin 4) (f : Fin 64) :
    (ydn a b z g (ix3 p r (Pout.lane h f)) : EReal)
      = Pout.hn (fun x => a (ix3 p r x) + b (ix3 p r x)) (fun f => g (ix1 f)) h f
        * (z (ix3 p r ⟨3072 + (Pout.lane h f).val, by omega⟩) * Norm.sig (z (ix3 p r ⟨3072 + (Pout.lane h f).val, by omega⟩))) := by
  refine (flat_apply _ p r h f (Pout.lane h f) rfl).trans ?_
  show (norm (heads a b) g (ix4 p r h f) : EReal) * (zd z (ix4 p r h f) * gate (zd z) (ix4 p r h f)) = _
  rw [norm_apply, gate_apply, zd_apply]
  simp only [heads_apply]
  rfl

/-- The fourth mixer at one place. -/
theorem yml_apply (a b : FVec Ideal S8x4096x256 .f32) (z : FVec Ideal S8x4096x3712 .f32) (g : FVec Ideal S64 .f32) (p : Fin 8) (r : Fin 4096) (h : Fin 4) (f : Fin 64) :
    (yml a b z g (ix3 p r (Pout.lane h f)) : EReal)
      = Pout.hn (fun x => a (ix3 p r x) + b (ix3 p r x)) (fun f => g (ix1 f)) h f * Norm.sig (z (ix3 p r ⟨3328 + (Pout.lane h f).val, by omega⟩)) := by
  refine (flat_apply _ p r h f (Pout.lane h f) rfl).trans ?_
  show (norm (heads a b) g (ix4 p r h f) : EReal) * gate (zm z) (ix4 p r h f) = _
  rw [norm_apply, gate_apply, zm_apply]
  simp only [heads_apply]
  rfl

/-- The reference's result at one place. -/
theorem ref_apply (x : FVec Ideal S8x4096x1024 .f32) (mo : FVec Ideal S8x6x1024 .f32) (y0 : FVec Ideal S8x4096x256 .f32) (o : FVec Ideal S8x4x4096x64 .f32) (y2 y3 : FVec Ideal S8x4096x256 .f32)
    (w : FVec Ideal S1024x1024 .bf16) (p : Fin 8) (r : Fin 4096) (n : Fin 1024) :
    (fin x mo (cat y0 (ydf o) y2 y3) w (ix3 p r n) : EReal)
      = Norm.into (x (ix3 p r n)) (mo (ix3 p 2 n)) (Pout.mix (fun k => y0 (ix3 p r k)) (fun h f => o (ix4 p h r f)) (fun k => y2 (ix3 p r k)) (fun k => y3 (ix3 p r k)) (fun k => w (ix2 k n))) := by
  rw [fin_apply]
  refine congrArg (Norm.into (x (ix3 p r n)) (mo (ix3 p 2 n))) ?_
  exact Pout.sum_mix (fun k => cat y0 (ydf o) y2 y3 (ix3 p r k)) _ _ _ _ _ (fun k => cat_0 y0 (ydf o) y2 y3 p r k)
    (fun h f => (cat_1 y0 (ydf o) y2 y3 p r (Pout.lane h f)).trans (ydf_apply o p r h f)) (fun k => cat_2 y0 (ydf o) y2 y3 p r k) (fun k => cat_3 y0 (ydf o) y2 y3 p r k)

end Cert.Reference5Ideal.Read
-- ==== Proof.PoutTie.lean ====
module

public import proofs.«01_k».proof.Proof.PoutBlocks
public import proofs.«01_k».proof.Proof.PoutRef

@[expose] public section

set_option maxRecDepth 16384
noncomputable section
open Idealize.ShloMosaic Idealize.ShloMosaic.TcCoe Idealize.SL.Sem
namespace Cert.Kernel5Ideal.Val
open Cert.Kernel5Ideal Cert.Kernel5Ideal.Gen Cert.Kernel5Ideal.Value
variable (m : (ℓ : Loc nD τ sig) → Buf (Elt Ideal) ℓ)

/-- What one point stores, at one place, from the arrays its blocks are cut from. -/
theorem store_apply (x0 x1 x2 : Vec Ideal S1x512x256 .f32) (x3 : Vec Ideal S1x4x512x64 .f32) (x4 x5 x6 x7 : Vec Ideal S1x512x256 .f32) (x8 : Vec Ideal S1x512x1024 .f32) (x9 : Vec Ideal S1x6x1024 .f32)
    (x10 x11 : Vec Ideal S1x256 .f32) (x12 : Vec Ideal S1024x1024 .bf16)
    (a0 a1 : FVec Ideal S8x4096x256 .f32) (a2 : FVec Ideal S8x4096x3712 .f32) (a3 : FVec Ideal S8x4x4096x64 .f32) (a4 a5 a6 : FVec Ideal S8x4096x256 .f32)
    (a7 : FVec Ideal S8x4096x1024 .f32) (a8 : FVec Ideal S8x6x1024 .f32) (a9 a10 : FVec Ideal S64 .f32) (a11 : FVec Ideal S1024x1024 .bf16)
    (r : Fin 512) (n : Fin 1024) (p : Fin 8) (R : Fin 4096)
    (h0 : ∀ k, x0 (ix3 0 r k) = a0 (ix3 p R k)) (h1 : ∀ k, x1 (ix3 0 r k) = a1 (ix3 p R k)) (h2 : ∀ k : Fin 256, x2 (ix3 0 r k) = a2 (ix3 p R ⟨3072 + k.val, by omega⟩))
    (h3 : ∀ h f, x3 (ix4 0 h r f) = a3 (ix4 p h R f)) (h4 : ∀ k, x4 (ix3 0 r k) = a4 (ix3 p R k)) (h5 : ∀ k, x5 (ix3 0 r k) = a5 (ix3 p R k)) (h6 : ∀ k, x6 (ix3 0 r k) = a6 (ix3 p R k))
    (h7 : ∀ k : Fin 256, x7 (ix3 0 r k) = a2 (ix3 p R ⟨3328 + k.val, by omega⟩)) (h8 : x8 (ix3 0 r n) = a7 (ix3 p R n)) (h9 : x9 (ix3 0 2 n) = a8 (ix3 p 2 n))
    (h10 : ∀ h f, x10 (ix2 0 (Pout.lane h f)) = a9 (ix1 f)) (h11 : ∀ h f, x11 (ix2 0 (Pout.lane h f)) = a10 (ix1 f)) (h12 : ∀ k, x12 (ix2 k n) = a11 (ix2 k n))
    (f0 : ∀ j, ∃ q : ℝ, (a0 j : EReal) = (q : EReal)) (f1 : ∀ j, ∃ q : ℝ, (a1 j : EReal) = (q : EReal)) (f5 : ∀ j, ∃ q : ℝ, (a5 j : EReal) = (q : EReal)) (f6 : ∀ j, ∃ q : ℝ, (a6 j : EReal) = (q : EReal)) :
    (k0_pay1 (acc (yA x0 x1 x2 x10) (yD x5 x6 x7 x11) x3 x4 x12) (k0_pay21 x8) (k0_pay22 (mg x9)) (ix3 0 r n) : EReal)
      = Cert.Reference5Ideal.Read.fin a7 a8 (Cert.Reference5Ideal.Read.cat (Cert.Reference5Ideal.Read.ydn a0 a1 a2 a9) (Cert.Reference5Ideal.Read.ydf a3) a4 (Cert.Reference5Ideal.Read.yml a5 a6 a2 a10)) a11 (ix3 p R n) := by
  have real_add : ∀ u v : EReal, (∃ q : ℝ, u = (q : EReal)) → (∃ q : ℝ, v = (q : EReal)) → ∃ q : ℝ, u + v = (q : EReal) := by
    rintro _ _ ⟨q, rfl⟩ ⟨s, rfl⟩
    exact ⟨q + s, (EReal.coe_add q s).symm⟩
  rw [pay_apply, Cert.Reference5Ideal.Read.ref_apply, acc_apply, h8, h9]
  refine congrArg (Norm.into (a7 (ix3 p R n)) (a8 (ix3 p 2 n))) ?_
  simp only [h3, h4, h12]
  have eA : ∀ k : Fin 256, (yA x0 x1 x2 x10 (ix2 r k) : EReal) = Cert.Reference5Ideal.Read.ydn a0 a1 a2 a9 (ix3 p R k) := by
    intro k
    obtain ⟨h, f, rfl⟩ := Pout.exists_lane k
    rw [yA_apply x0 x1 x2 x10 r h f (fun f => a9 (ix1 f)) (fun y => h10 h y) (fun x => by rw [h0, h1]; exact real_add _ _ (f0 _) (f1 _)), Cert.Reference5Ideal.Read.ydn_apply]
    simp only [h0, h1, h2]
  have eD : ∀ k : Fin 256, (yD x5 x6 x7 x11 (ix2 r k) : EReal) = Cert.Reference5Ideal.Read.yml a5 a6 a2 a10 (ix3 p R k) := by
    intro k
    obtain ⟨h, f, rfl⟩ := Pout.exists_lane k
    rw [yD_apply x5 x6 x7 x11 r h f (fun f => a10 (ix1 f)) (fun y => h11 h y) (fun x => by rw [h5, h6]; exact real_add _ _ (f5 _) (f6 _)), Cert.Reference5Ideal.Read.yml_apply]
    simp only [h5, h6, h7]
  simp only [eA, eD]
  rfl

/-- The kernel's result at one place is the reference's. -/
theorem res_apply (c : Dev nD) (b : Fin 8) (R : Fin 4096) (n : Fin 1024)
    (f0 : ∀ j, ∃ q : ℝ, (m ((c : Thread nD τ).loc main_arg0) j : EReal) = (q : EReal)) (f1 : ∀ j, ∃ q : ℝ, (m ((c : Thread nD τ).loc main_arg1) j : EReal) = (q : EReal))
    (f5 : ∀ j, ∃ q : ℝ, (m ((c : Thread nD τ).loc main_arg5) j : EReal) = (q : EReal)) (f6 : ∀ j, ∃ q : ℝ, (m ((c : Thread nD τ).loc main_arg6) j : EReal) = (q : EReal)) :
    ((dats m 0 c).arrAt 13 cfg0.N (ix3 b R n) : EReal)
      = Cert.Reference5Ideal.Read.fin (m ((c : Thread nD τ).loc main_arg7)) (m ((c : Thread nD τ).loc main_arg8))
        (Cert.Reference5Ideal.Read.cat (Cert.Reference5Ideal.Read.ydn (m ((c : Thread nD τ).loc main_arg0)) (m ((c : Thread nD τ).loc main_arg1)) (m ((c : Thread nD τ).loc main_arg2)) (m ((c : Thread nD τ).loc main_arg9)))
          (Cert.Reference5Ideal.Read.ydf (m ((c : Thread nD τ).loc main_arg3))) (m ((c : Thread nD τ).loc main_arg4))
          (Cert.Reference5Ideal.Read.yml (m ((c : Thread nD τ).loc main_arg5)) (m ((c : Thread nD τ).loc main_arg6)) (m ((c : Thread nD τ).loc main_arg2)) (m ((c : Thread nD τ).loc main_arg10))))
        (m ((c : Thread nD τ).loc main_arg11)) (ix3 b R n) := by
  have hN : cfg0.N = 64 := N_0
  have hb := b.isLt
  have hR := R.isLt
  let t : Fin cfg0.N := ⟨b.val * 8 + R.val / 512, by omega⟩
  let r : Fin 512 := ⟨R.val % 512, by omega⟩
  have ht0 : b.val = t.val / 8 := by show b.val = (b.val * 8 + R.val / 512) / 8; omega
  have ht1 : R.val = t.val % 8 * 512 + r.val := by show R.val = (b.val * 8 + R.val / 512) % 8 * 512 + R.val % 512; omega
  obtain ⟨e0, e1, e2⟩ := idx13 t
  have hx := congrFun (blocks13 m c t (flush13 t)) (ix3 0 r n)
  rw [flushed13_A, out_pay, View.read_apply] at hx
  have hi : ((cfg0.win 13).blk t).view.emb (ix3 0 r n) = ix3 b R n := by
    funext a; apply Fin.ext
    match a with
    | ⟨0, _⟩ => show win0_13.index t 0 * 1 + 1 * 0 = b.val; rw [e0]; omega
    | ⟨1, _⟩ => show win0_13.index t 1 * 512 + 1 * r.val = R.val; rw [e1]; omega
    | ⟨2, _⟩ => show win0_13.index t 2 * 1024 + 1 * n.val = n.val; rw [e2]; omega
  refine (congrArg ((dats m 0 c).arrAt 13 cfg0.N) hi).symm.trans (hx.trans ?_)
  exact store_apply _ _ _ _ _ _ _ _ _ _ _ _ _ _ _ _ _ _ _ _ _ _ _ _ _ r n b R
    (fun k => blk0 m c t r k b R ht0 ht1) (fun k => blk1 m c t r k b R ht0 ht1) (fun k => blk2 m c t r k b R ht0 ht1) (fun h f => blk3 m c t h r f b R ht0 ht1)
    (fun k => blk4 m c t r k b R ht0 ht1) (fun k => blk5 m c t r k b R ht0 ht1) (fun k => blk6 m c t r k b R ht0 ht1) (fun k => blk7 m c t r k b R ht0 ht1)
    (blk8 m c t r n b R ht0 ht1) (blk9 m c t 2 n b ht0) (fun h f => blk10 m c t h f) (fun h f => blk11 m c t h f) (fun k => blk12 m c t k n) f0 f1 f5 f6

/-- The kernel's result is the reference's, when the recurrences' outputs are real numbers. -/
theorem tie (c : Dev nD)
    (f0 : ∀ j, ∃ q : ℝ, (m ((c : Thread nD τ).loc main_arg0) j : EReal) = (q : EReal)) (f1 : ∀ j, ∃ q : ℝ, (m ((c : Thread nD τ).loc main_arg1) j : EReal) = (q : EReal))
    (f5 : ∀ j, ∃ q : ℝ, (m ((c : Thread nD τ).loc main_arg5) j : EReal) = (q : EReal)) (f6 : ∀ j, ∃ q : ℝ, (m ((c : Thread nD τ).loc main_arg6) j : EReal) = (q : EReal)) :
    Cert.Reference5Ideal.Read.fin (m ((c : Thread nD τ).loc main_arg7)) (m ((c : Thread nD τ).loc main_arg8))
        (Cert.Reference5Ideal.Read.cat (Cert.Reference5Ideal.Read.ydn (m ((c : Thread nD τ).loc main_arg0)) (m ((c : Thread nD τ).loc main_arg1)) (m ((c : Thread nD τ).loc main_arg2)) (m ((c : Thread nD τ).loc main_arg9)))
          (Cert.Reference5Ideal.Read.ydf (m ((c : Thread nD τ).loc main_arg3))) (m ((c : Thread nD τ).loc main_arg4))
          (Cert.Reference5Ideal.Read.yml (m ((c : Thread nD τ).loc main_arg5)) (m ((c : Thread nD τ).loc main_arg6)) (m ((c : Thread nD τ).loc main_arg2)) (m ((c : Thread nD τ).loc main_arg10))))
        (m ((c : Thread nD τ).loc main_arg11))
      = (dats m 0 c).arrAt 13 cfg0.N := by
  funext j
  have hj : j = ix3 (j 0) (j 1) (j 2) := by
    funext a
    match a with
    | ⟨0, _⟩ => rfl
    | ⟨1, _⟩ => rfl
    | ⟨2, _⟩ => rfl
  rw [hj]
  exact (res_apply m c (j 0) (j 1) (j 2) f0 f1 f5 f6).symm

end Cert.Kernel5Ideal.Val
-- ==== Proof.ModKer.lean ====
module

public import proofs.«01_k».proof.Proof.Norm
public import proofs.«01_k».proof.Proof.Gen.Kernel7Ideal.Value
public import Idealize.ShloMosaic.Lib.Pointwise
public import Idealize.ShloMosaic.Lib.Tactic
public import Idealize.ShloMosaic.Lib.Pipeline.ReadBack
public import Idealize.ShloMosaic.Lib.Pipeline.ValueKit.Tiles

@[expose] public section

set_option maxRecDepth 16384
noncomputable section
open Idealize.ShloMosaic Idealize.ShloMosaic.TcCoe Idealize.SL.Sem
namespace Cert.Kernel7Ideal.Val
open Cert.Kernel7Ideal Cert.Kernel7Ideal.Gen Cert.Kernel7Ideal.Value
variable (m : (ℓ : Loc nD τ sig) → Buf (Elt Ideal) ℓ)

/-- One entry of the modulation: a row of the condition through its own gate, against a column, plus the offset. -/
def entry (x w : Fin 1024 → EReal) (b : EReal) : EReal := (∑ k, x k * Norm.sig (x k) * w k) + b

/-- What one grid point stores, at one place. -/
theorem pay_apply (x : Vec Ideal S16x1024 .f32) (w : Vec Ideal S1x1024x1536 .f32) (b : Vec Ideal S1x1x1536 .f32)
    (r : Fin 16) (n : Fin 1536) :
    (k0_pay1 x w b (ix3 0 r n) : EReal)
      = entry (fun k => x (ix2 r k)) (fun k => w (ix3 0 k n)) (b (ix3 0 0 n)) := by
  unfold entry
  simp only [← Norm.sig_zero_sub]
  pointwise [k0_pay1]

/-- The condition's window is the whole array. -/
theorem idx0 : ∀ t : Fin cfg0.N, win0_0.index t (0 : Fin 2) = 0 ∧ win0_0.index t (1 : Fin 2) = 0 :=
  (by decide +kernel : ∀ t : Fin grid0.N, _)
/-- The block numbers of the weights' window. -/
theorem idx1 : ∀ t : Fin cfg0.N, win0_1.index t (0 : Fin 3) = t.val / 4 ∧ win0_1.index t (1 : Fin 3) = 0 ∧ win0_1.index t (2 : Fin 3) = t.val % 4 :=
  (by decide +kernel : ∀ t : Fin grid0.N, _)
/-- The block numbers of the offsets' window. -/
theorem idx2 : ∀ t : Fin cfg0.N, win0_2.index t (0 : Fin 3) = t.val / 4 ∧ win0_2.index t (1 : Fin 3) = 0 ∧ win0_2.index t (2 : Fin 3) = t.val % 4 :=
  (by decide +kernel : ∀ t : Fin grid0.N, _)
/-- The block numbers of the result's window. -/
theorem idx3 : ∀ t : Fin cfg0.N, win0_3.index t (0 : Fin 3) = t.val / 4 ∧ win0_3.index t (1 : Fin 3) = 0 ∧ win0_3.index t (2 : Fin 3) = t.val % 4 :=
  (by decide +kernel : ∀ t : Fin grid0.N, _)

/-- Every point's block is written back. -/
theorem flush3 : ∀ t : Fin cfg0.N, (cfg0.win 3).flush t = true :=
  (by decide +kernel : ∀ t : Fin grid0.N, win0_3.flush t = true)

/-- The condition's block at one place. -/
theorem iblk0 (c : Dev nD) (t : Fin cfg0.N) (r : Fin 16) (k : Fin 1024) :
    (iblk m c 0 t : Vec Ideal S16x1024 .f32) (ix2 r k) = m ((c : Thread nD τ).loc main_arg0) (ix2 r k) := by
  obtain ⟨e0, e1⟩ := idx0 t
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t 0 * 16 + 1 * r.val = r.val; rw [e0]; omega
  | ⟨1, _⟩ => show win0_0.index t 1 * 1024 + 1 * k.val = k.val; rw [e1]; omega

/-- A block of the weights at one place. -/
theorem iblk1 (c : Dev nD) (t : Fin cfg0.N) (k : Fin 1024) (n : Fin 1536) (l : Fin 4) (N : Fin 6144) (hl : l.val = t.val / 4) (hN : N.val = t.val % 4 * 1536 + n.val) :
    (iblk m c 1 t : Vec Ideal S1x1024x1536 .f32) (ix3 0 k n) = m ((c : Thread nD τ).loc main_arg1) (ix3 l k N) := by
  obtain ⟨e0, e1, e2⟩ := idx1 t
  unfold iblk
  rw [View.read_apply]
  show V m c main_arg1 _ = _
  rw [V_main_arg1]
  refine congrArg (m ((c : Thread nD τ).loc main_arg1)) ?_
  funext a; apply Fin.ext
  match a with
  | ⟨0, _⟩ => show win0_1.index t 0 * 1 + 1 * 0 = l.val; rw [e0]; omega
  | ⟨1, _⟩ => show win0_1.index t 1 * 1024 + 1 * k.val = k.val; rw [e1]; omega
  | ⟨2, _⟩ => show win0_1.index t 2 * 1536 + 1 * n.val = N.val; rw [e2]; omega

/-- The offsets, laid out as one row to a layer before the call. -/
theorem V_off (c : Dev nD) : V m c main_v0 = shapeCast S4x1x6144 (m ((c : Thread nD τ).loc main_arg2)) shapeCasts_S4x6144_S4x1x6144 := rfl

/-- Those rows at one place. -/
theorem off_row (g : Vec Ideal S4x6144 .f32) (l : Fin 4) (n : Fin 6144) : (shapeCast S4x1x6144 g shapeCasts_S4x6144_S4x1x6144 (ix3 l 0 n) : EReal) = g (ix2 l n) := by
  pointwise

/-- A block of the offsets at one place. -/
theorem iblk2 (c : Dev nD) (t : Fin cfg0.N) (n : Fin 1536) (l : Fin 4) (N : Fin 6144) (hl : l.val = t.val / 4) (hN : N.val = t.val % 4 * 1536 + n.val) :
    (iblk m c 2 t : Vec Ideal S1x1x1536 .f32) (ix3 0 0 n) = m ((c : Thread nD τ).loc main_arg2) (ix2 l N) := by
  obtain ⟨e0, e1, e2⟩ := idx2 t
  unfold iblk
  rw [View.read_apply]
  show V m c main_v0 _ = _
  rw [V_off]
  refine Eq.trans ?_ (off_row (m ((c : Thread nD τ).loc main_arg2)) l N)
  refine congrArg (shapeCast S4x1x6144 (m ((c : Thread nD τ).loc main_arg2)) shapeCasts_S4x6144_S4x1x6144) ?_
  funext a; apply Fin.ext
  match a with
  | ⟨0, _⟩ => show win0_2.index t 0 * 1 + 1 * 0 = l.val; rw [e0]; omega
  | ⟨1, _⟩ => show win0_2.index t 1 * 1 + 1 * 0 = 0; rw [e1]
  | ⟨2, _⟩ => show win0_2.index t 2 * 1536 + 1 * n.val = N.val; rw [e2]; omega

/-- What the body leaves in the result's block is its one store. -/
theorem out_pay (x0 : Vec Ideal S16x1024 .f32) (x1 : Vec Ideal S1x1024x1536 .f32) (x2 : Vec Ideal S1x1x1536 .f32) :
    out0_3 x0 x1 x2 = k0_pay1 x0 x1 x2 := by
  unfold out0_3
  frame_out

/-- The kernel's result at one place. -/
theorem res_apply (c : Dev nD) (l : Fin 4) (r : Fin 16) (N : Fin 6144) :
    ((dats m 0 c).arrAt 3 cfg0.N (ix3 l r N) : EReal)
      = entry (fun k => m ((c : Thread nD τ).loc main_arg0) (ix2 r k)) (fun k => m ((c : Thread nD τ).loc main_arg1) (ix3 l k N))
          (m ((c : Thread nD τ).loc main_arg2) (ix2 l N)) := by
  have hG : cfg0.N = 16 := N_0
  have hl := l.isLt
  have hN := N.isLt
  let t : Fin cfg0.N := ⟨l.val * 4 + N.val / 1536, by omega⟩
  let n : Fin 1536 := ⟨N.val % 1536, by omega⟩
  have ht0 : l.val = t.val / 4 := by show l.val = (l.val * 4 + N.val / 1536) / 4; omega
  have ht1 : N.val = t.val % 4 * 1536 + n.val := by show N.val = (l.val * 4 + N.val / 1536) % 4 * 1536 + N.val % 1536; omega
  obtain ⟨e0, e1, e2⟩ := idx3 t
  have hx := congrFun (blocks3 m c t (flush3 t)) (ix3 0 r n)
  rw [flushed3, View.read_apply] at hx
  have hi : ((cfg0.win 3).blk t).view.emb (ix3 0 r n) = ix3 l r N := by
    funext a; apply Fin.ext
    match a with
    | ⟨0, _⟩ => show win0_3.index t 0 * 1 + 1 * 0 = l.val; rw [e0]; omega
    | ⟨1, _⟩ => show win0_3.index t 1 * 16 + 1 * r.val = r.val; rw [e1]; omega
    | ⟨2, _⟩ => show win0_3.index t 2 * 1536 + 1 * n.val = N.val; rw [e2]; omega
  refine (congrArg ((dats m 0 c).arrAt 3 cfg0.N) hi).symm.trans (hx.trans ?_)
  refine (congrFun (out_pay _ _ _) (ix3 0 r n)).trans ((pay_apply _ _ _ r n).trans ?_)
  simp only [iblk0, iblk1 m c t _ _ l N ht0 ht1, iblk2 m c t _ l N ht0 ht1]

end Cert.Kernel7Ideal.Val
-- ==== Proof.ModRef.lean ====
module

public import proofs.«01_k».proof.Proof.Norm
public import proofs.«01_k».proof.Proof.Gen.Reference7Ideal.Run
public import Idealize.ShloMosaic.Lib.Pointwise
public import Idealize.ShloMosaic.Lib.Tactic

@[expose] public section

set_option maxRecDepth 16384
noncomputable section
open Idealize.ShloMosaic Idealize.ShloMosaic.TcCoe Idealize.SL.Sem
namespace Cert.Reference7Ideal.Read
open Cert.Reference7Ideal Cert.Reference7Ideal.Gen

/-- The modulation of every layer and row, as the reference writes it. -/
def modu (x : FVec Ideal S16x1024 .f32) (w : FVec Ideal S4x1024x6144 .f32) (b : FVec Ideal S4x6144 .f32) : FVec Ideal S4x16x6144 .f32 :=
  addf (transpose S4x16x6144 [0, 2, 1] (Host.dotGeneral dot_S4x1024x6144_S16x1024_S4x6144x16_1_1_02_0_n_n none w (mulf x (Host.divf (broadcastInDim S16x1024 ![] bcast_S_S16x1024 (constant S_ .f32 0x3F800000#32)) (addf (broadcastInDim S16x1024 ![] bcast_S_S16x1024 (constant S_ .f32 0x3F800000#32)) (Host.exp (Host.negf x)))))) transposes_S4x6144x16_S4x16x6144_0_2_1) (broadcastInDim S4x16x6144 ![0, 1, 2] bcast_S4x1x6144_S4x16x6144_0_1_2 (broadcastInDim S4x1x6144 ![0, 2] bcast_S4x6144_S4x1x6144_0_2 b))

/-- That at one place. -/
theorem modu_apply (x : FVec Ideal S16x1024 .f32) (w : FVec Ideal S4x1024x6144 .f32) (b : FVec Ideal S4x6144 .f32) (l : Fin 4) (r : Fin 16) (n : Fin 6144) :
    (modu x w b (ix3 l r n) : EReal) = (∑ k : Fin 1024, w (ix3 l k n) * (x (ix2 r k) * Norm.sig (x (ix2 r k)))) + b (ix2 l n) := by
  unfold Norm.sig
  pointwise [modu]

end Cert.Reference7Ideal.Read
-- ==== Proof.ModTie.lean ====
module

public import proofs.«01_k».proof.Proof.ModKer
public import proofs.«01_k».proof.Proof.ModRef

@[expose] public section

set_option maxRecDepth 16384
noncomputable section
open Idealize.ShloMosaic Idealize.ShloMosaic.TcCoe Idealize.SL.Sem
namespace Cert.Kernel7Ideal.Val
open Cert.Kernel7Ideal Cert.Kernel7Ideal.Gen Cert.Kernel7Ideal.Value
variable (m : (ℓ : Loc nD τ sig) → Buf (Elt Ideal) ℓ)

/-- The kernel's result is the reference's. -/
theorem tie (c : Dev nD) : Cert.Reference7Ideal.Read.modu (m ((c : Thread nD τ).loc main_arg0)) (m ((c : Thread nD τ).loc main_arg1)) (m ((c : Thread nD τ).loc main_arg2))
    = (dats m 0 c).arrAt 3 cfg0.N := by
  funext j
  have hj : j = ix3 (j 0) (j 1) (j 2) := by
    funext a
    match a with
    | ⟨0, _⟩ => rfl
    | ⟨1, _⟩ => rfl
    | ⟨2, _⟩ => rfl
  rw [hj]
  refine Eq.trans ?_ (res_apply m c (j 0) (j 1) (j 2)).symm
  refine (Cert.Reference7Ideal.Read.modu_apply _ _ _ (j 0) (j 1) (j 2)).trans ?_
  exact congrArg (fun z : EReal => z + m ((c : Thread nD τ).loc main_arg2) (ix2 (j 0) (j 2))) (Finset.sum_congr rfl fun k _ => mul_comm _ _)

end Cert.Kernel7Ideal.Val
-- ==== Proof.ConvKer.lean ====
module

public import proofs.«01_k».proof.Proof.Gen.Kernel8Ideal.Value
public import Idealize.ShloMosaic.Lib.WordCmp
public import Idealize.ShloMosaic.Lib.Pointwise
public import Idealize.ShloMosaic.Lib.Tactic
public import Idealize.ShloMosaic.Lib.Pipeline.ReadBack
public import Idealize.ShloMosaic.Lib.Pipeline.ValueKit.Tiles

@[expose] public section

set_option maxRecDepth 16384
noncomputable section
open Idealize.ShloMosaic Idealize.ShloMosaic.TcCoe Idealize.SL.Sem
namespace Cert.Kernel8Ideal.Val
open Cert.Kernel8Ideal Cert.Kernel8Ideal.Gen Cert.Kernel8Ideal.Value
/-- The product with the row before, and with the row itself, at one place. -/
theorem pay5_apply (i : grid0.Coords) (x : Vec Ideal S1x1024x768 .f32) (h : Vec Ideal S1x1x768 .f32) (w0 w1 : Vec Ideal S1x768 .f32)
    (r : Fin 1024) (n : Fin 768) :
    (k0_pay5 i x h w0 w1 (ix2 r n) : EReal)
      = (if r.val = 0 then (if 0 < (i 1).val then h (ix3 0 0 n) else 0) else x (ix3 0 ⟨(r.val + 1023) % 1024, Nat.mod_lt _ (by omega)⟩ n)) * w0 (ix2 0 n)
        + x (ix3 0 r n) * w1 (ix2 0 n) := by
  have hr := r.isLt
  have hi : (i 1).val < 4 := (i 1).isLt
  have e1 : Scalar.cmpi .sgt (BitVec.ofNat 32 (i 1).val) 0#32 = BitVec.ofBool (decide (0 < (i 1).val)) :=
    WordCmp.cmpi_sgt_ofNat (by omega) (by omega)
  have e2 : IntOp.cmpi .eq (BitVec.ofNat 32 r.val) 0#32 = BitVec.ofBool (decide (r.val = 0)) :=
    WordCmp.cmpi_eq_ofNat (by omega) (by omega)
  have e3 : (⟨(r.val + 1024 - 1) % 1024, Nat.mod_lt _ (by omega)⟩ : Fin 1024) = ⟨(r.val + 1023) % 1024, Nat.mod_lt _ (by omega)⟩ := Fin.ext rfl
  pointwise [k0_pay5, k0_pay4]
  rw [e1, e2, WordCmp.select_ofBool, WordCmp.select_ofBool, e3]
  simp only [decide_eq_true_eq]

/-- The product with the row after, at one place. -/
theorem pay6_apply (i : grid0.Coords) (x : Vec Ideal S1x1024x768 .f32) (h : Vec Ideal S1x1x768 .f32) (w2 : Vec Ideal S1x768 .f32)
    (r : Fin 1024) (n : Fin 768) :
    (k0_pay6 i x h w2 (ix2 r n) : EReal)
      = (if r.val = 1023 then (if (i 1).val < 3 then h (ix3 0 0 n) else 0) else x (ix3 0 ⟨(r.val + 1) % 1024, Nat.mod_lt _ (by omega)⟩ n)) * w2 (ix2 0 n) := by
  have hr := r.isLt
  have hi : (i 1).val < 4 := (i 1).isLt
  have e1 : Scalar.cmpi .slt (BitVec.ofNat 32 (i 1).val) 3#32 = BitVec.ofBool (decide ((i 1).val < 3)) :=
    WordCmp.cmpi_slt_ofNat (by omega) (by omega)
  have e2 : IntOp.cmpi .eq (BitVec.ofNat 32 r.val) 1023#32 = BitVec.ofBool (decide (r.val = 1023)) :=
    WordCmp.cmpi_eq_ofNat (by omega) (by omega)
  have e3 : (⟨(r.val + 1024 - 1023) % 1024, Nat.mod_lt _ (by omega)⟩ : Fin 1024) = ⟨(r.val + 1) % 1024, Nat.mod_lt _ (by omega)⟩ :=
    Fin.ext (by show (r.val + 1024 - 1023) % 1024 = (r.val + 1) % 1024; omega)
  pointwise [k0_pay6, k0_pay4]
  rw [e1, e2, WordCmp.select_ofBool, WordCmp.select_ofBool, e3]
  simp only [decide_eq_true_eq]

/-- The stored sum at one place. -/
theorem pay2_apply (x y : FVec Ideal S1024x768 .f32) (r : Fin 1024) (n : Fin 768) :
    (k0_pay2 x y (ix3 0 r n) : EReal) = x (ix2 r n) + y (ix2 r n) := by
  pointwise [k0_pay2, k0_pay1]

/-- The last of the eight rows before the block, as the body loads it. -/
def befV (x : Vec Ideal S1x8x768 .f32) : Vec Ideal S1x1x768 .f32 := View.ld x (Rect.unit (s := S1x8x768) ![0, 7, 0] S1x1x768.size inb_S1x8x768_S1x1x768_0_7_0)
/-- The first of the eight rows after the block, as the body loads it. -/
def aftV (x : Vec Ideal S1x8x768 .f32) : Vec Ideal S1x1x768 .f32 := View.ld x (Rect.unit (s := S1x8x768) ![0, 0, 0] S1x1x768.size inb_S1x8x768_S1x1x768_0_0_0)
/-- The first tap's weights, as the body loads them. -/
def tap0 (w : Vec Ideal S3x768 .f32) : Vec Ideal S1x768 .f32 := View.ld w (Rect.unit (s := S3x768) ![0, 0] S1x768.size inb_S3x768_S1x768_0_0)
/-- The second tap's weights, as the body loads them. -/
def tap1 (w : Vec Ideal S3x768 .f32) : Vec Ideal S1x768 .f32 := View.ld w (Rect.unit (s := S3x768) ![1, 0] S1x768.size inb_S3x768_S1x768_1_0)
/-- The third tap's weights, as the body loads them. -/
def tap2 (w : Vec Ideal S3x768 .f32) : Vec Ideal S1x768 .f32 := View.ld w (Rect.unit (s := S3x768) ![2, 0] S1x768.size inb_S3x768_S1x768_2_0)

/-- The row before is row seven of its block. -/
theorem befV_apply (x : Vec Ideal S1x8x768 .f32) (n : Fin 768) : befV x (ix3 0 0 n) = x (ix3 0 7 n) := by
  pointwise [befV]
/-- The row after is row zero of its block. -/
theorem aftV_apply (x : Vec Ideal S1x8x768 .f32) (n : Fin 768) : aftV x (ix3 0 0 n) = x (ix3 0 0 n) := by
  pointwise [aftV]
/-- The first tap is row zero of the weights. -/
theorem tap0_apply (w : Vec Ideal S3x768 .f32) (n : Fin 768) : tap0 w (ix2 0 n) = w (ix2 0 n) := by
  pointwise [tap0]
/-- The second tap is row one of the weights. -/
theorem tap1_apply (w : Vec Ideal S3x768 .f32) (n : Fin 768) : tap1 w (ix2 0 n) = w (ix2 1 n) := by
  pointwise [tap1]
/-- The third tap is row two of the weights. -/
theorem tap2_apply (w : Vec Ideal S3x768 .f32) (n : Fin 768) : tap2 w (ix2 0 n) = w (ix2 2 n) := by
  pointwise [tap2]

section
variable (c : Dev nD) (i : grid0.Coords) (arg2 : Memref sig .tc .vmem S1x1024x768 .f32) (harg2 : arg2.IsWhole) (arg3 : Memref sig .tc .vmem S1x8x768 .f32) (harg3 : arg3.IsWhole) (arg4 : Memref sig .tc .vmem S1x8x768 .f32) (harg4 : arg4.IsWhole) (arg5 : Memref sig .tc .vmem S3x768 .f32) (harg5 : arg5.IsWhole) (arg6 : Memref sig .tc .vmem S1x1024x768 .f32) (harg6 : arg6.IsWhole) (arg7 : Memref sig .tc .vmem S1x1024x256 .bf16) (harg7 : arg7.IsWhole)
    (x0 : Vec Ideal S1x1024x768 .f32) (x1 x2 : Vec Ideal S1x8x768 .f32) (x3 : Vec Ideal S3x768 .f32)

/-- What the body leaves in the result's block is its one store there. -/
theorem out_pay : out0_A_4 c i arg2 harg2 arg3 harg3 arg4 harg4 arg5 harg5 arg6 harg6 arg7 harg7 x0 x1 x2 x3
    = k0_pay2 (k0_pay5 i x0 (befV x1) (tap0 x3) (tap1 x3)) (k0_pay6 i x0 (aftV x2) (tap2 x3)) := by
  frame_open
  frame_out
  rfl
end

variable (m : (ℓ : Loc nD τ sig) → Buf (Elt Ideal) ℓ)

/-- The second grid coordinate of a point. -/
theorem coord1 : ∀ t : Fin cfg0.N, (grid0.coords t 1).val = t.val % 4 :=
  (by decide +kernel : ∀ t : Fin grid0.N, (grid0.coords t 1).val = t.val % 4)
/-- The block numbers of the projection's window. -/
theorem idx0 : ∀ t : Fin cfg0.N, win0_0.index t (0 : Fin 3) = t.val / 4 ∧ win0_0.index t (1 : Fin 3) = t.val % 4 ∧ win0_0.index t (2 : Fin 3) = 1 :=
  (by decide +kernel : ∀ t : Fin grid0.N, _)
/-- The block numbers of the window of eight rows before. -/
theorem idx1 : ∀ t : Fin cfg0.N, win0_1.index t (0 : Fin 3) = t.val / 4 ∧ win0_1.index t (1 : Fin 3) = t.val % 4 * 128 - 1 ∧ win0_1.index t (2 : Fin 3) = 1 :=
  (by decide +kernel : ∀ t : Fin grid0.N, _)
/-- The block numbers of the window of eight rows after. -/
theorem idx2 : ∀ t : Fin cfg0.N, win0_2.index t (0 : Fin 3) = t.val / 4 ∧ win0_2.index t (1 : Fin 3) = min ((t.val % 4 + 1) * 128) 511 ∧ win0_2.index t (2 : Fin 3) = 1 :=
  (by decide +kernel : ∀ t : Fin grid0.N, _)
/-- The weights' window is the whole array. -/
theorem idx3 : ∀ t : Fin cfg0.N, win0_3.index t (0 : Fin 2) = 0 ∧ win0_3.index t (1 : Fin 2) = 0 :=
  (by decide +kernel : ∀ t : Fin grid0.N, _)
/-- The block numbers of the result's window. -/
theorem idx4 : ∀ t : Fin cfg0.N, win0_4.index t (0 : Fin 3) = t.val / 4 ∧ win0_4.index t (1 : Fin 3) = t.val % 4 ∧ win0_4.index t (2 : Fin 3) = 0 :=
  (by decide +kernel : ∀ t : Fin grid0.N, _)

/-- Every point's block is written back. -/
theorem flush4 : ∀ t : Fin cfg0.N, (cfg0.win 4).flush t = true :=
  (by decide +kernel : ∀ t : Fin grid0.N, win0_4.flush t = true)

/-- A block of the projection's convolved columns at one place. -/
theorem blk0 (c : Dev nD) (t : Fin cfg0.N) (r : Fin 1024) (n : Fin 768) (b : Fin 8) (R : Fin 4096) (hb : b.val = t.val / 4) (hR : R.val = t.val % 4 * 1024 + r.val) :
    (X0_0 m c t : Vec Ideal S1x1024x768 .f32) (ix3 0 r n) = m ((c : Thread nD τ).loc main_arg0) (ix3 b R ⟨768 + n.val, by omega⟩) := by
  obtain ⟨e0, e1, e2⟩ := idx0 t
  unfold X0_0 Pipeline.Window.fill
  rw [dif_pos (moved0_0 t _)]
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t 0 * 1 + 1 * 0 = b.val; rw [e0]; omega
  | ⟨1, _⟩ => show win0_0.index t 1 * 1024 + 1 * r.val = R.val; rw [e1]; omega
  | ⟨2, _⟩ => show win0_0.index t 2 * 768 + 1 * n.val = 768 + n.val; rw [e2]; omega

/-- The eight rows before a block at one place. -/
theorem blk1 (c : Dev nD) (t : Fin cfg0.N) (r : Fin 8) (n : Fin 768) (b : Fin 8) (R : Fin 4096) (hb : b.val = t.val / 4) (hR : R.val = (t.val % 4 * 128 - 1) * 8 + r.val) :
    (X0_1 m c t : Vec Ideal S1x8x768 .f32) (ix3 0 r n) = m ((c : Thread nD τ).loc main_arg0) (ix3 b R ⟨768 + n.val, by omega⟩) := by
  obtain ⟨e0, e1, e2⟩ := idx1 t
  unfold X0_1 Pipeline.Window.fill
  rw [dif_pos (moved0_1 t _)]
  unfold iblk
  rw [View.read_apply]
  show V m c main_arg0 _ = _
  rw [V_main_arg0]
  refine congrArg (m ((c : Thread nD τ).loc main_arg0)) ?_
  funext a; apply Fin.ext
  match a with
  | ⟨0, _⟩ => show win0_1.index t 0 * 1 + 1 * 0 = b.val; rw [e0]; omega
  | ⟨1, _⟩ => show win0_1.index t 1 * 8 + 1 * r.val = R.val; rw [e1]; omega
  | ⟨2, _⟩ => show win0_1.index t 2 * 768 + 1 * n.val = 768 + n.val; rw [e2]; omega

/-- The eight rows after a block at one place. -/
theorem blk2 (c : Dev nD) (t : Fin cfg0.N) (r : Fin 8) (n : Fin 768) (b : Fin 8) (R : Fin 4096) (hb : b.val = t.val / 4) (hR : R.val = min ((t.val % 4 + 1) * 128) 511 * 8 + r.val) :
    (X0_2 m c t : Vec Ideal S1x8x768 .f32) (ix3 0 r n) = m ((c : Thread nD τ).loc main_arg0) (ix3 b R ⟨768 + n.val, by omega⟩) := by
  obtain ⟨e0, e1, e2⟩ := idx2 t
  unfold X0_2 Pipeline.Window.fill
  rw [dif_pos (moved0_2 t _)]
  unfold iblk
  rw [View.read_apply]
  show V m c main_arg0 _ = _
  rw [V_main_arg0]
  refine congrArg (m ((c : Thread nD τ).loc main_arg0)) ?_
  funext a; apply Fin.ext
  match a with
  | ⟨0, _⟩ => show win0_2.index t 0 * 1 + 1 * 0 = b.val; rw [e0]; omega
  | ⟨1, _⟩ => show win0_2.index t 1 * 8 + 1 * r.val = R.val; rw [e1]; omega
  | ⟨2, _⟩ => show win0_2.index t 2 * 768 + 1 * n.val = 768 + n.val; rw [e2]; omega

/-- The weights' block at one place. -/
theorem blk3 (c : Dev nD) (t : Fin cfg0.N) (k : Fin 3) (n : Fin 768) :
    (iblk m c 3 t : Vec Ideal S3x768 .f32) (ix2 k n) = m ((c : Thread nD τ).loc main_arg1) (ix2 k n) := by
  obtain ⟨e0, e1⟩ := idx3 t
  unfold iblk
  rw [View.read_apply]
  show V m c main_arg1 _ = _
  rw [V_main_arg1]
  refine congrArg (m ((c : Thread nD τ).loc main_arg1)) ?_
  funext a; apply Fin.ext
  match a with
  | ⟨0, _⟩ => show win0_3.index t 0 * 3 + 1 * k.val = k.val; rw [e0]; omega
  | ⟨1, _⟩ => show win0_3.index t 1 * 768 + 1 * n.val = n.val; rw [e1]; omega

/-- Three products with their weights, in the order both sides add them. -/
def taps (p q s a b d : EReal) : EReal := p * a + q * b + s * d

/-- The kernel's result at one place, from the row before, the row itself and the row after. -/
theorem res_apply (c : Dev nD) (b : Fin 8) (R : Fin 4096) (n : Fin 768) (p s : EReal)
    (hp0 : R.val = 0 → p = 0) (hp : ∀ Q : Fin 4096, Q.val + 1 = R.val → p = m ((c : Thread nD τ).loc main_arg0) (ix3 b Q ⟨768 + n.val, by omega⟩))
    (hs0 : R.val = 4095 → s = 0) (hs : ∀ Q : Fin 4096, Q.val = R.val + 1 → s = m ((c : Thread nD τ).loc main_arg0) (ix3 b Q ⟨768 + n.val, by omega⟩)) :
    ((dats m 0 c).arrAt 4 cfg0.N (ix3 b R n) : EReal)
      = taps p (m ((c : Thread nD τ).loc main_arg0) (ix3 b R ⟨768 + n.val, by omega⟩)) s
          (m ((c : Thread nD τ).loc main_arg1) (ix2 0 n)) (m ((c : Thread nD τ).loc main_arg1) (ix2 1 n)) (m ((c : Thread nD τ).loc main_arg1) (ix2 2 n)) := by
  have hG : cfg0.N = 32 := N_0
  have hb := b.isLt
  have hR := R.isLt
  let t : Fin cfg0.N := ⟨b.val * 4 + R.val / 1024, by omega⟩
  let r : Fin 1024 := ⟨R.val % 1024, by omega⟩
  have ht0 : b.val = t.val / 4 := by show b.val = (b.val * 4 + R.val / 1024) / 4; omega
  have ht1 : R.val = t.val % 4 * 1024 + r.val := by show R.val = (b.val * 4 + R.val / 1024) % 4 * 1024 + R.val % 1024; omega
  have hr := r.isLt
  have h1 : (grid0.coords t 1).val = t.val % 4 := coord1 t
  obtain ⟨e0, e1, e2⟩ := idx4 t
  have hx := congrFun (blocks4 m c t (flush4 t)) (ix3 0 r n)
  rw [flushed4_A, out_pay, View.read_apply] at hx
  have hi : ((cfg0.win 4).blk t).view.emb (ix3 0 r n) = ix3 b R n := by
    funext a; apply Fin.ext
    match a with
    | ⟨0, _⟩ => show win0_4.index t 0 * 1 + 1 * 0 = b.val; rw [e0]; omega
    | ⟨1, _⟩ => show win0_4.index t 1 * 1024 + 1 * r.val = R.val; rw [e1]; omega
    | ⟨2, _⟩ => show win0_4.index t 2 * 768 + 1 * n.val = n.val; rw [e2]; omega
  refine (congrArg ((dats m 0 c).arrAt 4 cfg0.N) hi).symm.trans (hx.trans ?_)
  refine (pay2_apply _ _ r n).trans ?_
  rw [pay5_apply, pay6_apply, befV_apply, aftV_apply, tap0_apply, tap1_apply, tap2_apply, h1]
  have hP : (if r.val = 0 then (if 0 < t.val % 4 then (X0_1 m c t : Vec Ideal S1x8x768 .f32) (ix3 0 7 n) else (0 : EReal))
      else (X0_0 m c t : Vec Ideal S1x1024x768 .f32) (ix3 0 ⟨(r.val + 1023) % 1024, Nat.mod_lt _ (by omega)⟩ n)) = p := by
    split_ifs with ha hc
    · have hq : (t.val % 4 * 128 - 1) * 8 + 7 < 4096 := by omega
      exact (blk1 m c t 7 n b ⟨(t.val % 4 * 128 - 1) * 8 + 7, hq⟩ ht0 rfl).trans (hp ⟨(t.val % 4 * 128 - 1) * 8 + 7, hq⟩ (by show (t.val % 4 * 128 - 1) * 8 + 7 + 1 = R.val; omega)).symm
    · exact (hp0 (by omega)).symm
    · have hq : R.val - 1 < 4096 := by omega
      exact (blk0 m c t _ n b ⟨R.val - 1, hq⟩ ht0 (by show R.val - 1 = t.val % 4 * 1024 + (r.val + 1023) % 1024; omega)).trans (hp ⟨R.val - 1, hq⟩ (by show R.val - 1 + 1 = R.val; omega)).symm
  have hS : (if r.val = 1023 then (if t.val % 4 < 3 then (X0_2 m c t : Vec Ideal S1x8x768 .f32) (ix3 0 0 n) else (0 : EReal))
      else (X0_0 m c t : Vec Ideal S1x1024x768 .f32) (ix3 0 ⟨(r.val + 1) % 1024, Nat.mod_lt _ (by omega)⟩ n)) = s := by
    split_ifs with ha hc
    · have hq : R.val + 1 < 4096 := by omega
      exact (blk2 m c t 0 n b ⟨R.val + 1, hq⟩ ht0 (by show R.val + 1 = min ((t.val % 4 + 1) * 128) 511 * 8 + 0; omega)).trans (hs ⟨R.val + 1, hq⟩ rfl).symm
    · exact (hs0 (by omega)).symm
    · have hq : R.val + 1 < 4096 := by omega
      exact (blk0 m c t _ n b ⟨R.val + 1, hq⟩ ht0 (by show R.val + 1 = t.val % 4 * 1024 + (r.val + 1) % 1024; omega)).trans (hs ⟨R.val + 1, hq⟩ rfl).symm
  rw [hP, hS, blk0 m c t r n b R ht0 ht1, blk3, blk3, blk3]
  rfl

end Cert.Kernel8Ideal.Val
-- ==== Proof.ConvRef.lean ====
module

public import proofs.«01_k».proof.Proof.Gen.Reference8Ideal.Run
public import Idealize.ShloMosaic.Lib.KernelVsHost
public import Idealize.ShloMosaic.Lib.Pointwise
public import Idealize.ShloMosaic.Lib.Tactic

@[expose] public section

set_option maxRecDepth 16384
noncomputable section
open Idealize.ShloMosaic Idealize.ShloMosaic.TcCoe Idealize.SL.Sem
namespace Cert.Reference8Ideal.Read
open Cert.Reference8Ideal Cert.Reference8Ideal.Gen

/-- The convolved columns with one row of zeros before and one after, as the reference writes them. -/
def padded (z : FVec Ideal S8x4096x3712 .f32) : FVec Ideal S8x4098x768 .f32 :=
  pad S8x4098x768 ![0, 1, 0] ![0, 1, 0] ![0, 0, 0] (extractStridedSlice S8x4096x768 ![0, 0, 768] z slices_S8x4096x3712_S8x4096x768_0_0_768) (sitofp .f32 (constantI S_ 32 0#32)) pads_S8x4096x768_S8x4098x768_000_110_000 h_S_

/-- The three shifted products of the padded columns, as the reference writes them. -/
def conv (x : FVec Ideal S8x4098x768 .f32) (w : FVec Ideal S3x768 .f32) : FVec Ideal S8x4096x768 .f32 :=
  addf (addf (mulf (extractStridedSlice S8x4096x768 ![0, 0, 0] x slices_S8x4098x768_S8x4096x768_0_0_0) (broadcastInDim S8x4096x768 ![0, 1, 2] bcast_S1x1x768_S8x4096x768_0_1_2 (broadcastInDim S1x1x768 ![2] bcast_S768_S1x1x768_2 (shapeCast _ (extractStridedSlice S1x768 ![0, 0] w slices_S3x768_S1x768_0_0) shapeCasts_S1x768_S768)))) (mulf (extractStridedSlice S8x4096x768 ![0, 1, 0] x slices_S8x4098x768_S8x4096x768_0_1_0) (broadcastInDim S8x4096x768 ![0, 1, 2] bcast_S1x1x768_S8x4096x768_0_1_2 (broadcastInDim S1x1x768 ![2] bcast_S768_S1x1x768_2 (shapeCast _ (extractStridedSlice S1x768 ![1, 0] w slices_S3x768_S1x768_1_0) shapeCasts_S1x768_S768))))) (mulf (extractStridedSlice S8x4096x768 ![0, 2, 0] x slices_S8x4098x768_S8x4096x768_0_2_0) (broadcastInDim S8x4096x768 ![0, 1, 2] bcast_S1x1x768_S8x4096x768_0_1_2 (broadcastInDim S1x1x768 ![2] bcast_S768_S1x1x768_2 (shapeCast _ (extractStridedSlice S1x768 ![2, 0] w slices_S3x768_S1x768_2_0) shapeCasts_S1x768_S768))))

/-- The convolution at one place. -/
theorem conv_apply (x : FVec Ideal S8x4098x768 .f32) (w : FVec Ideal S3x768 .f32) (b : Fin 8) (r : Fin 4096) (n : Fin 768) :
    (conv x w (ix3 b r n) : EReal) = x (ix3 b ⟨r.val, by omega⟩ n) * w (ix2 0 n) + x (ix3 b ⟨r.val + 1, by omega⟩ n) * w (ix2 1 n) + x (ix3 b ⟨r.val + 2, by omega⟩ n) * w (ix2 2 n) := by
  rw [show (⟨r.val + 1, by omega⟩ : Fin 4098) = ⟨1 + r.val, by omega⟩ from Fin.ext (Nat.add_comm _ _),
    show (⟨r.val + 2, by omega⟩ : Fin 4098) = ⟨2 + r.val, by omega⟩ from Fin.ext (Nat.add_comm _ _)]
  pointwise [conv]

/-- A row of the padded columns that is a row of the columns. -/
theorem padded_in (z : FVec Ideal S8x4096x3712 .f32) (b : Fin 8) (R : Fin 4098) (r : Fin 4096) (h : R.val = r.val + 1) (n : Fin 768) :
    (padded z (ix3 b R n) : EReal) = z (ix3 b r ⟨768 + n.val, by omega⟩) := by
  unfold padded
  refine (pad_apply_of_inside _ _ _ _ _ _ _ _ (ix3 b r n) ?_).trans ?_
  · intro a
    match a with
    | ⟨0, _⟩ => show b.val = 0 + b.val * (0 + 1); omega
    | ⟨1, _⟩ => show R.val = 1 + r.val * (0 + 1); omega
    | ⟨2, _⟩ => show n.val = 0 + n.val * (0 + 1); omega
  · pointwise

/-- The first and the last row of the padded columns. -/
theorem padded_out (z : FVec Ideal S8x4096x3712 .f32) (b : Fin 8) (R : Fin 4098) (h : R.val = 0 ∨ R.val = 4097) (n : Fin 768) :
    (padded z (ix3 b R n) : EReal) = 0 := by
  unfold padded
  refine (pad_apply_of_not_inside _ _ _ _ _ _ _ _ (1 : Fin 3) ?_).trans ?_
  · intro hin
    have h1 : 1 ≤ R.val := hin.1
    have h2 : (R.val - 1) / (0 + 1) < 4096 := hin.2.2
    omega
  · show ((((0#32 : BitVec 32).toInt : ℝ)) : EReal) = 0
    simp

end Cert.Reference8Ideal.Read
-- ==== Proof.ConvTie.lean ====
module

public import proofs.«01_k».proof.Proof.ConvKer
public import proofs.«01_k».proof.Proof.ConvRef

@[expose] public section

set_option maxRecDepth 16384
noncomputable section
open Idealize.ShloMosaic Idealize.ShloMosaic.TcCoe Idealize.SL.Sem
namespace Cert.Kernel8Ideal.Val
open Cert.Kernel8Ideal Cert.Kernel8Ideal.Gen Cert.Kernel8Ideal.Value
variable (m : (ℓ : Loc nD τ sig) → Buf (Elt Ideal) ℓ)

/-- The kernel's convolution is the reference's at one place. -/
theorem tie_apply (c : Dev nD) (b : Fin 8) (r : Fin 4096) (n : Fin 768) :
    (Cert.Reference8Ideal.Read.conv (Cert.Reference8Ideal.Read.padded (m ((c : Thread nD τ).loc main_arg0))) (m ((c : Thread nD τ).loc main_arg1)) (ix3 b r n) : EReal)
      = (dats m 0 c).arrAt 4 cfg0.N (ix3 b r n) := by
  have hr := r.isLt
  refine (Cert.Reference8Ideal.Read.conv_apply _ _ b r n).trans ?_
  rw [Cert.Reference8Ideal.Read.padded_in _ b ⟨r.val + 1, by omega⟩ r rfl n]
  refine Eq.trans ?_ (res_apply m c b r n (Cert.Reference8Ideal.Read.padded (m ((c : Thread nD τ).loc main_arg0)) (ix3 b ⟨r.val, by omega⟩ n))
    (Cert.Reference8Ideal.Read.padded (m ((c : Thread nD τ).loc main_arg0)) (ix3 b ⟨r.val + 2, by omega⟩ n)) ?_ ?_ ?_ ?_).symm
  · rfl
  · exact fun h => Cert.Reference8Ideal.Read.padded_out _ b _ (Or.inl h) n
  · exact fun Q h => Cert.Reference8Ideal.Read.padded_in _ b _ Q h.symm n
  · exact fun h => Cert.Reference8Ideal.Read.padded_out _ b _ (Or.inr (by show r.val + 2 = 4097; omega)) n
  · exact fun Q h => Cert.Reference8Ideal.Read.padded_in _ b _ Q (by show r.val + 2 = Q.val + 1; omega) n

/-- The kernel's convolution is the reference's. -/
theorem tie (c : Dev nD) : Cert.Reference8Ideal.Read.conv (Cert.Reference8Ideal.Read.padded (m ((c : Thread nD τ).loc main_arg0))) (m ((c : Thread nD τ).loc main_arg1))
    = (dats m 0 c).arrAt 4 cfg0.N := by
  funext j
  have hj : j = ix3 (j 0) (j 1) (j 2) := by
    funext a
    match a with
    | ⟨0, _⟩ => rfl
    | ⟨1, _⟩ => rfl
    | ⟨2, _⟩ => rfl
  rw [hj]
  exact tie_apply m c (j 0) (j 1) (j 2)

end Cert.Kernel8Ideal.Val
-- ==== Proof.ValKer.lean ====
module

public import proofs.«01_k».proof.Proof.Norm
public import proofs.«01_k».proof.Proof.Gen.Kernel9Ideal.Frame
public import Idealize.ShloMosaic.Lib.Pointwise
public import Idealize.ShloMosaic.Lib.Pipeline.Value
public import Idealize.ShloMosaic.Lib.Tactic
public import Idealize.ShloMosaic.Lib.Pipeline.ReadBack
public import Idealize.ShloMosaic.Lib.Pipeline.ValueKit.Tiles

@[expose] public section

set_option maxRecDepth 16384
noncomputable section
open Idealize.ShloMosaic Idealize.ShloMosaic.TcCoe Idealize.SL.Sem
namespace Cert.Kernel9Ideal.Val
open Cert.Kernel9Ideal Cert.Kernel9Ideal.Gen
variable (m : (ℓ : Loc nD τ sig) → Buf (Elt Ideal) ℓ)

/-- What one grid point stores, at one place. -/
theorem pay_apply (x : Vec Ideal S1x256x1024 .f32) (g : Vec Ideal S1x1024 .f32) (sh sc : Vec Ideal S1x1x1024 .f32) (w : Vec Ideal S1024x3712 .bf16)
    (r : Fin 256) (n : Fin 3712) :
    (k0_pay1 x g sh sc w (ix3 0 r n) : EReal)
      = ∑ k : Fin 1024, Norm.nrm (fun k => x (ix3 0 r k)) (fun k => g (ix2 0 k)) (fun k => sc (ix3 0 0 k)) (fun k => sh (ix3 0 0 k)) k * w (ix2 k n) := by
  unfold Norm.nrm
  pointwise [k0_pay1]

/-- The block numbers of the stream's window. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
/-- The block numbers of the modulation's window. -/
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
/-- The gain's window is the whole array. -/
theorem idx2 : ∀ t : Fin cfg0.N, win0_2.index t (0 : Fin 2) = 0 ∧ win0_2.index t (1 : Fin 2) = 0 :=
  (by decide +kernel : ∀ t : Fin grid0.N, _)
/-- The weights' window is the whole array. -/
theorem idx3 : ∀ t : Fin cfg0.N, win0_3.index t (0 : Fin 2) = 0 ∧ win0_3.index t (1 : Fin 2) = 0 :=
  (by decide +kernel : ∀ t : Fin grid0.N, _)
/-- The block numbers of the result's window. -/
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

/-- Every point's block is written back. -/
theorem flush4 : ∀ t : Fin cfg0.N, (cfg0.win 4).flush t = true :=
  (by decide +kernel : ∀ t : Fin grid0.N, win0_4.flush t = true)

/-- A block of the stream at one place. -/
theorem iblk0 (c : Dev nD) (t : Fin cfg0.N) (r : Fin 256) (k : Fin 1024) (b : Fin 32) (hb : b.val = t.val) :
    (iblk m c 0 t : Vec Ideal S1x256x1024 .f32) (ix3 0 r k) = m ((c : Thread nD τ).loc main_arg0) (ix3 b r k) := by
  obtain ⟨e0, e1, e2⟩ := idx0 t
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t 0 * 1 + 1 * 0 = b.val; rw [e0]; omega
  | ⟨1, _⟩ => show win0_0.index t 1 * 256 + 1 * r.val = r.val; rw [e1]; omega
  | ⟨2, _⟩ => show win0_0.index t 2 * 1024 + 1 * k.val = k.val; rw [e2]; omega

/-- A block of the modulation at one place. -/
theorem iblk1 (c : Dev nD) (t : Fin cfg0.N) (i : Fin 6) (k : Fin 1024) :
    (iblk m c 1 t : Vec Ideal S1x6x1024 .f32) (ix3 0 i k) = m ((c : Thread nD τ).loc main_arg1) (ix3 0 i k) := by
  obtain ⟨e0, e1, e2⟩ := idx1 t
  unfold iblk
  rw [View.read_apply]
  show V m c main_arg1 _ = _
  rw [V_main_arg1]
  refine congrArg (m ((c : Thread nD τ).loc main_arg1)) ?_
  funext a; apply Fin.ext
  match a with
  | ⟨0, _⟩ => show win0_1.index t 0 * 1 + 1 * 0 = 0; rw [e0]
  | ⟨1, _⟩ => show win0_1.index t 1 * 6 + 1 * i.val = i.val; rw [e1]; omega
  | ⟨2, _⟩ => show win0_1.index t 2 * 1024 + 1 * k.val = k.val; rw [e2]; omega

/-- The gain, laid out as one row before the call. -/
theorem V_gain (c : Dev nD) : V m c main_v11 = shapeCast S1x1024 (m ((c : Thread nD τ).loc main_arg2)) shapeCasts_S1024_S1x1024 := rfl

/-- That row at one place. -/
theorem gain_row (g : Vec Ideal S1024 .f32) (k : Fin 1024) : (shapeCast S1x1024 g shapeCasts_S1024_S1x1024 (ix2 0 k) : EReal) = g (ix1 k) := by
  pointwise

/-- The gain's block at one place. -/
theorem iblk2 (c : Dev nD) (t : Fin cfg0.N) (k : Fin 1024) :
    (iblk m c 2 t : Vec Ideal S1x1024 .f32) (ix2 0 k) = m ((c : Thread nD τ).loc main_arg2) (ix1 k) := by
  obtain ⟨e0, e1⟩ := idx2 t
  unfold iblk
  rw [View.read_apply]
  show V m c main_v11 _ = _
  rw [V_gain]
  refine Eq.trans ?_ (gain_row (m ((c : Thread nD τ).loc main_arg2)) k)
  refine congrArg (shapeCast S1x1024 (m ((c : Thread nD τ).loc main_arg2)) shapeCasts_S1024_S1x1024) ?_
  funext a; apply Fin.ext
  match a with
  | ⟨0, _⟩ => show win0_2.index t 0 * 1 + 1 * 0 = 0; rw [e0]
  | ⟨1, _⟩ => show win0_2.index t 1 * 1024 + 1 * k.val = k.val; rw [e1]; omega

/-- The weights as the layer lays them out, from reference.py's layout: its column groups in another order, and padding. -/
def lay (w : Vec Ideal S1024x3616 .f32) : Vec Ideal S1024x3712 .f32 :=
  concatenate S1024x3712 1 [
    ⟨S1024x768, extractStridedSlice S1024x768 ![0, 0] w slices_S1024x3616_S1024x768_0_0⟩,
    ⟨S1024x768, extractStridedSlice S1024x768 ![0, 1808] w slices_S1024x3616_S1024x768_0_1808⟩,
    ⟨S1024x768, extractStridedSlice S1024x768 ![0, 2576] w slices_S1024x3616_S1024x768_0_2576⟩,
    ⟨S1024x768, extractStridedSlice S1024x768 ![0, 1040] w slices_S1024x3616_S1024x768_0_1040⟩,
    ⟨S1024x256, extractStridedSlice S1024x256 ![0, 768] w slices_S1024x3616_S1024x256_0_768⟩,
    ⟨S1024x256, extractStridedSlice S1024x256 ![0, 3344] w slices_S1024x3616_S1024x256_0_3344⟩,
    ⟨S1024x16, extractStridedSlice S1024x16 ![0, 1024] w slices_S1024x3616_S1024x16_0_1024⟩,
    ⟨S1024x16, extractStridedSlice S1024x16 ![0, 3600] w slices_S1024x3616_S1024x16_0_3600⟩,
    ⟨S1024x96, broadcastInDim S1024x96 ![] bcast_S_S1024x96 (constant S_ .f32 0x00000000#32 : FVec Ideal S_ .f32)⟩]
    concatenates_S1024x768_S1024x768_S1024x768_S1024x768_S1024x256_S1024x256_S1024x16_S1024x16_S1024x96_S1024x3712_d1

/-- That layout in bfloat16. -/
def layB (w : Vec Ideal S1024x3616 .f32) : FVec Ideal S1024x3712 .bf16 := truncf .bf16 (lay w : FVec Ideal S1024x3712 .f32) bitsLt_bf16_f32

/-- The weights as the region finds them. -/
theorem V_weights (c : Dev nD) : (V m c main_v10 : Vec Ideal S1024x3712 .bf16) = layB (m ((c : Thread nD τ).loc main_arg3)) := rfl

/-- The value columns of that layout are columns 1552 to 1807 of reference.py's. -/
theorem lay_val (w : Vec Ideal S1024x3616 .f32) (k : Fin 1024) (n : Fin 256) :
    (layB w (ix2 k ⟨2816 + n.val, by omega⟩) : EReal) = w (ix2 k ⟨1552 + n.val, by omega⟩) := by
  have hn := n.isLt
  pointwise [layB, lay]
  rw [dif_neg (by omega), dif_neg (by omega), dif_neg (by omega), dif_pos (by omega)]
  exact congrArg (fun q : Fin 3616 => w (ix2 k q)) (Fin.ext (by show 1040 + (2816 + n.val - 768 - 768 - 768) = 1552 + n.val; omega))

/-- The weights' block at one place of the value columns. -/
theorem iblk3 (c : Dev nD) (t : Fin cfg0.N) (k : Fin 1024) (n : Fin 256) :
    ((iblk m c 3 t : Vec Ideal S1024x3712 .bf16) (ix2 k ⟨2816 + n.val, by omega⟩) : EReal) = m ((c : Thread nD τ).loc main_arg3) (ix2 k ⟨1552 + n.val, by omega⟩) := by
  obtain ⟨e0, e1⟩ := idx3 t
  unfold iblk
  rw [View.read_apply]
  show V m c main_v10 _ = _
  refine (congrFun (V_weights m c) _).trans ?_
  refine Eq.trans ?_ (lay_val (m ((c : Thread nD τ).loc main_arg3)) k n)
  refine congrArg (layB (m ((c : Thread nD τ).loc main_arg3))) ?_
  funext a; apply Fin.ext
  match a with
  | ⟨0, _⟩ => show win0_3.index t 0 * 1024 + 1 * k.val = k.val; rw [e0]; omega
  | ⟨1, _⟩ => show win0_3.index t 1 * 3712 + 1 * (2816 + n.val) = 2816 + n.val; rw [e1]; omega

/-- The shift's row of a modulation block, as the body loads it. -/
def shV (x : Vec Ideal S1x6x1024 .f32) : Vec Ideal S1x1x1024 .f32 := View.ld x r0_2
/-- The scale's row of a modulation block, as the body loads it. -/
def scV (x : Vec Ideal S1x6x1024 .f32) : Vec Ideal S1x1x1024 .f32 := View.ld x r0_3
/-- The shift's row is row zero. -/
theorem shV_apply (x : Vec Ideal S1x6x1024 .f32) (k : Fin 1024) : shV x (ix3 0 0 k) = x (ix3 0 0 k) := by
  pointwise [shV]
/-- The scale's row is row one. -/
theorem scV_apply (x : Vec Ideal S1x6x1024 .f32) (k : Fin 1024) : scV x (ix3 0 0 k) = x (ix3 0 1 k) := by
  pointwise [scV]

/-- What the body leaves in the result's block is its one store. -/
theorem out_pay (x0 : Vec Ideal S1x256x1024 .f32) (x1 : Vec Ideal S1x6x1024 .f32) (x2 : Vec Ideal S1x1024 .f32) (x3 : Vec Ideal S1024x3712 .bf16) :
    out0_4 x0 x1 x2 x3 = k0_pay1 x0 x2 (shV x1) (scV x1) x3 := by
  unfold out0_4
  frame_out
  rfl

/-- That store at one place. -/
theorem out_eq (x0 : Vec Ideal S1x256x1024 .f32) (x1 : Vec Ideal S1x6x1024 .f32) (x2 : Vec Ideal S1x1024 .f32) (x3 : Vec Ideal S1024x3712 .bf16) (r : Fin 256) (n : Fin 3712) :
    (out0_4 x0 x1 x2 x3 (ix3 0 r n) : EReal)
      = ∑ k : Fin 1024, Norm.nrm (fun k => x0 (ix3 0 r k)) (fun k => x2 (ix2 0 k)) (fun k => x1 (ix3 0 1 k)) (fun k => x1 (ix3 0 0 k)) k * x3 (ix2 k n) := by
  rw [out_pay, pay_apply]
  simp only [shV_apply, scV_apply]

/-- What a grid point writes back is what the body leaves of the point's blocks. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- Two grid points write two blocks. -/
theorem idx_inj4 : ∀ t t' : Fin cfg0.N, win0_4.index t = win0_4.index t' → t = t' :=
  (by decide +kernel : ∀ t t' : Fin grid0.N, win0_4.index t = win0_4.index t' → t = t')

/-- Those blocks share no place. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- So a point's block of the final array is what the point wrote back. -/
theorem blocks4 (c : Dev nD) (t : Fin cfg0.N) :
    ((cfg0.win 4).blk t).view.read (Elt Ideal) ((dats m 0 c).arrAt 4 cfg0.N) = (dats m 0 c).flushed 4 t :=
  (dats m 0 c).read_blk_arrAt_eq_flushed 4 disjoint4 cfg0.N t t.isLt (flush4 t)

/-- The projection's value columns at one place. -/
theorem arr_apply (c : Dev nD) (b : Fin 32) (r : Fin 256) (n : Fin 256) :
    ((dats m 0 c).arrAt 4 cfg0.N (ix3 b r ⟨2816 + n.val, by omega⟩) : EReal)
      = ∑ k : Fin 1024, Norm.nrm (fun k => m ((c : Thread nD τ).loc main_arg0) (ix3 b r k)) (fun k => m ((c : Thread nD τ).loc main_arg2) (ix1 k))
          (fun k => m ((c : Thread nD τ).loc main_arg1) (ix3 0 1 k)) (fun k => m ((c : Thread nD τ).loc main_arg1) (ix3 0 0 k)) k
        * m ((c : Thread nD τ).loc main_arg3) (ix2 k ⟨1552 + n.val, by omega⟩) := by
  have hN : cfg0.N = 32 := N_0
  have hb := b.isLt
  let t : Fin cfg0.N := ⟨b.val, by omega⟩
  have ht : b.val = t.val := rfl
  obtain ⟨e0, e1, e2⟩ := idx4 t
  have hx := congrFun (blocks4 m c t) (ix3 0 r ⟨2816 + n.val, by omega⟩)
  rw [flushed4, View.read_apply] at hx
  have hi : ((cfg0.win 4).blk t).view.emb (ix3 0 r ⟨2816 + n.val, by omega⟩) = ix3 b r ⟨2816 + n.val, by omega⟩ := by
    funext a; apply Fin.ext
    match a with
    | ⟨0, _⟩ => show win0_4.index t 0 * 1 + 1 * 0 = b.val; rw [e0]; omega
    | ⟨1, _⟩ => show win0_4.index t 1 * 256 + 1 * r.val = r.val; rw [e1]; omega
    | ⟨2, _⟩ => show win0_4.index t 2 * 3712 + 1 * (2816 + n.val) = 2816 + n.val; rw [e2]; omega
  refine (congrArg ((dats m 0 c).arrAt 4 cfg0.N) hi).symm.trans (hx.trans ?_)
  refine (out_eq _ _ _ _ r ⟨2816 + n.val, by omega⟩).trans ?_
  simp only [iblk0 m c t _ _ b ht, iblk1 m c t, iblk2, iblk3]

/-- The call's result, cut from the region's output after the call. -/
def res (c : Dev nD) : Vec Ideal S32x256x256 .f32 :=
  extractStridedSlice S32x256x256 ![0, 0, 2816] ((dats m 0 c).arrAt 4 cfg0.N : Vec Ideal S32x256x3712 .f32) slices_S32x256x3712_S32x256x256_0_0_2816

/-- The cut at one place. -/
theorem cut_apply (z : Vec Ideal S32x256x3712 .f32) (b : Fin 32) (r : Fin 256) (n : Fin 256) :
    (extractStridedSlice S32x256x256 ![0, 0, 2816] z slices_S32x256x3712_S32x256x256_0_0_2816 (ix3 b r n) : EReal) = z (ix3 b r ⟨2816 + n.val, by omega⟩) := by
  pointwise

/-- The call's result at one place. -/
theorem res_apply (c : Dev nD) (b : Fin 32) (r : Fin 256) (n : Fin 256) :
    (res m c (ix3 b r n) : EReal)
      = ∑ k : Fin 1024, Norm.nrm (fun k => m ((c : Thread nD τ).loc main_arg0) (ix3 b r k)) (fun k => m ((c : Thread nD τ).loc main_arg2) (ix1 k))
          (fun k => m ((c : Thread nD τ).loc main_arg1) (ix3 0 1 k)) (fun k => m ((c : Thread nD τ).loc main_arg1) (ix3 0 0 k)) k
        * m ((c : Thread nD τ).loc main_arg3) (ix2 k ⟨1552 + n.val, by omega⟩) :=
  (cut_apply _ b r n).trans (arr_apply m c b r n)

/-- What the lines after the region leave in the result's buffer. -/
theorem tail_res (c : Dev nD) : Pipeline.afterTail₀ cfgs (dats m) 0 (V0 m) [hostOps1] c main_v13 = res m c := by
  unfold Pipeline.afterTail₀ res
  refine Eq.trans ?_ (congrArg (fun z : Vec Ideal S32x256x3712 .f32 => extractStridedSlice S32x256x256 ![0, 0, 2816] z slices_S32x256x3712_S32x256x256_0_0_2816)
    (Pipeline.withArrays_arr spec0 launch0.win.arr_inj c (V0 m c) (fun w => (dats m 0 c).arrAt w cfg0.N) 4))
  rfl

/-- The run with its result named, the arguments kept. -/
theorem run (ρ : Dev nD → PrngReg) : θ_run defs (onTc (τ := τ) (main (F := Ideal))) ⟨m, fun _ => 0, ρ⟩ (fun r => ∀ c : Dev nD,
      r.2.mem ((c.tc : Thread nD τ).loc main_v13) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.2 c).2 main_v13 (Pipeline.mem_restRefs_of main_v13 (by decide) (by decide))).trans (tail_res m c), h.1 c⟩)
    (θ_run_and (unchanged m ρ) (run_main m ρ))

end Cert.Kernel9Ideal.Val
-- ==== Proof.ValRef.lean ====
module

public import proofs.«01_k».proof.Proof.Norm
public import proofs.«01_k».proof.Proof.Gen.Reference9Ideal.Run
public import Idealize.ShloMosaic.Lib.IdealHost
public import Idealize.ShloMosaic.Lib.Pointwise
public import Idealize.ShloMosaic.Lib.Tactic

@[expose] public section

set_option maxRecDepth 16384
noncomputable section
open Idealize.ShloMosaic Idealize.ShloMosaic.TcCoe Idealize.SL.Sem
namespace Cert.Reference9Ideal.Read
open Cert.Reference9Ideal Cert.Reference9Ideal.Gen Cert.Reference9Ideal.Value

/-- The reference's modulated norm, as an array. -/
def hid (x : FVec Ideal S32x256x1024 .f32) (mo : FVec Ideal S1x6x1024 .f32) (g : FVec Ideal S1024 .f32) : FVec Ideal S32x256x1024 .f32 :=
  addf (mulf (mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 g))) (broadcastInDim S32x256x1024 ![0, 1, 2] bcast_S1x1x1024_S32x256x1024_0_1_2 (addf (broadcastInDim S1x1x1024 ![] bcast_S_S1x1x1024 (constant S_ .f32 0x3F800000#32)) (extractStridedSlice S1x1x1024 ![0, 1, 0] mo slices_S1x6x1024_S1x1x1024_0_1_0)))) (broadcastInDim S32x256x1024 ![0, 1, 2] bcast_S1x1x1024_S32x256x1024_0_1_2 (extractStridedSlice S1x1x1024 ![0, 0, 0] mo slices_S1x6x1024_S1x1x1024_0_0_0))

/-- The value columns of the reference's projection of it. -/
def proj (h : FVec Ideal S32x256x1024 .f32) (w : FVec Ideal S1024x3616 .f32) : FVec Ideal S32x256x256 .f32 :=
  extractStridedSlice S32x256x256 ![0, 0, 1552] (Host.dotGeneral dot_S32x256x1024_S1024x3616_S32x256x3616_2_0_01_1_n_n none h w) slices_S32x256x3616_S32x256x256_0_0_1552

/-- The modulated norm at one place is that of its row. -/
theorem hid_apply (x : FVec Ideal S32x256x1024 .f32) (mo : FVec Ideal S1x6x1024 .f32) (g : FVec Ideal S1024 .f32) (b : Fin 32) (r : Fin 256) (k : Fin 1024) :
    (hid x mo g (ix3 b r k) : EReal) = Norm.nrm (fun k => x (ix3 b r k)) (fun k => g (ix1 k)) (fun k => mo (ix3 0 1 k)) (fun k => mo (ix3 0 0 k)) k := by
  unfold Norm.nrm
  pointwise [hid]

/-- Those columns at one place are a sum over the model dimension. -/
theorem proj_apply (h : FVec Ideal S32x256x1024 .f32) (w : FVec Ideal S1024x3616 .f32) (b : Fin 32) (r : Fin 256) (n : Fin 256) :
    (proj h w (ix3 b r n) : EReal) = ∑ k : Fin 1024, (h (ix3 b r k) : EReal) * w (ix2 k ⟨1552 + n.val, by omega⟩) := by
  pointwise [proj]

end Cert.Reference9Ideal.Read
-- ==== Proof.ValTie.lean ====
module

public import proofs.«01_k».proof.Proof.ValKer
public import proofs.«01_k».proof.Proof.ValRef

@[expose] public section

set_option maxRecDepth 16384
noncomputable section
open Idealize.ShloMosaic Idealize.ShloMosaic.TcCoe Idealize.SL.Sem
namespace Cert.Kernel9Ideal.Val
open Cert.Kernel9Ideal Cert.Kernel9Ideal.Gen
variable (m : (ℓ : Loc nD τ sig) → Buf (Elt Ideal) ℓ)

/-- The kernel's result is the reference's. -/
theorem tie (c : Dev nD) : Cert.Reference9Ideal.Read.proj (Cert.Reference9Ideal.Read.hid (m ((c : Thread nD τ).loc main_arg0)) (m ((c : Thread nD τ).loc main_arg1)) (m ((c : Thread nD τ).loc main_arg2))) (m ((c : Thread nD τ).loc main_arg3))
    = res m c := by
  funext j
  have hj : j = ix3 (j 0) (j 1) (j 2) := by
    funext a
    match a with
    | ⟨0, _⟩ => rfl
    | ⟨1, _⟩ => rfl
    | ⟨2, _⟩ => rfl
  rw [hj]
  refine Eq.trans ?_ (res_apply m c (j 0) (j 1) (j 2)).symm
  refine (Cert.Reference9Ideal.Read.proj_apply _ _ (j 0) (j 1) (j 2)).trans (Finset.sum_congr rfl fun k _ => ?_)
  exact congrArg (fun z : EReal => z * m ((c : Thread nD τ).loc main_arg3) (ix2 k ⟨1552 + (j 2).val, by have := (j 2).isLt; change _ < 256 at this; omega⟩)) (Cert.Reference9Ideal.Read.hid_apply _ _ _ (j 0) (j 1) k)

end Cert.Kernel9Ideal.Val
-- ==== Proof.FfnCase.lean ====
module

public import proofs.«01_k».proof.Proof.Norm
public import proofs.«01_k».proof.Proof.Gen.Kernel2Ideal.Value
public import Idealize.ShloMosaic.Lib.Pointwise
public import Idealize.ShloMosaic.Lib.Tactic
public import Idealize.ShloMosaic.Lib.Pipeline.ReadBack
public import Idealize.ShloMosaic.Lib.Pipeline.ValueKit.Tiles

@[expose] public section

set_option maxRecDepth 16384
noncomputable section
open Idealize.ShloMosaic Idealize.ShloMosaic.TcCoe Idealize.SL.Sem
namespace Cert.Kernel2Ideal.Val
open Cert.Kernel2Ideal Cert.Kernel2Ideal.Gen Cert.Kernel2Ideal.Value
variable (c : Dev nD) (i : grid0.Coords) (arg3 : Memref sig .tc .vmem S1x1024x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S256x1024 .bf16) (harg8 : arg8.IsWhole) (arg9 : Memref sig .tc .vmem S1x1024x1024 .f32) (harg9 : arg9.IsWhole) (arg10 : Memref sig .tc .vmem S1024x1024 .bf16) (harg10 : arg10.IsWhole) (arg11 : Memref sig .tc .vmem S1024x1024 .f32) (harg11 : arg11.IsWhole)
  (x0 : Vec Ideal S1x1024x1024 .f32) (x1 : Vec Ideal S1x6x1024 .f32) (x2 : Vec Ideal S1x1024 .f32) (x3 : Vec Ideal S1024x256 .bf16) (x4 : Vec Ideal S1024x256 .bf16) (x5 : Vec Ideal S256x1024 .bf16) (xs0 : Vec Ideal S1024x1024 .bf16) (xs1 : Vec Ideal S1024x1024 .f32)

/-- The hidden row block of a tile, as the first block of hidden units stores it. -/
def hidK (x0 : Vec Ideal S1x1024x1024 .f32) (x1 : Vec Ideal S1x6x1024 .f32) (x2 : Vec Ideal S1x1024 .f32) : FVec Ideal S1024x1024 .bf16 :=
  k0_pay1 x0 x2 (View.ld x1 (Rect.unit (s := S1x6x1024) ![0, 3, 0] S1x1x1024.size inb_S1x6x1024_S1x1x1024_0_3_0)) (View.ld x1 (Rect.unit (s := S1x6x1024) ![0, 4, 0] S1x1x1024.size inb_S1x6x1024_S1x1x1024_0_4_0))

/-- The first block stores the hidden rows. -/
theorem sA0 (hc0 : cond0_0 i) (hc1 : ¬cond0_1 i) : sout0_A_0 c i arg3 harg3 arg4 harg4 arg5 harg5 arg6 harg6 arg7 harg7 arg8 harg8 arg9 harg9 arg10 harg10 arg11 harg11 hc0 hc1 x0 x1 x2 x3 x4 x5 = hidK x0 x1 x2 := by
  frame_open
  simp (disch := decide) only [↓View.readCov_skip, ↓View.readCov_fill]
  frame_out
  rfl

/-- The first block starts the accumulator. -/
theorem sA1 (hc0 : cond0_0 i) (hc1 : ¬cond0_1 i) : sout0_A_1 c i arg3 harg3 arg4 harg4 arg5 harg5 arg6 harg6 arg7 harg7 arg8 harg8 arg9 harg9 arg10 harg10 arg11 harg11 hc0 hc1 x0 x1 x2 x3 x4 x5
    = k0_pay3 (hidK x0 x1 x2) x3 x4 (k0_pay2 (F := Ideal)) x5 := by
  frame_open
  simp (disch := decide) only [↓View.readCov_skip, ↓View.readCov_fill]
  frame_out
  rfl

/-- A middle block adds its part to the accumulator. -/
theorem sB1 (hc0 : ¬cond0_0 i) (hc1 : ¬cond0_1 i) : sout0_B_1 c i arg3 harg3 arg4 harg4 arg5 harg5 arg6 harg6 arg7 harg7 arg8 harg8 arg9 harg9 arg10 harg10 arg11 harg11 hc0 hc1 x0 x1 x2 x3 x4 x5 xs0 xs1 = k0_pay3 xs0 x3 x4 xs1 x5 := by
  frame_open
  simp (disch := decide) only [↓View.readCov_skip, ↓View.readCov_fill]
  frame_out

/-- The last block adds its part and stores the stream's rows. -/
theorem oC (hc0 : ¬cond0_0 i) (hc1 : cond0_1 i) : out0_C_6 c i arg3 harg3 arg4 harg4 arg5 harg5 arg6 harg6 arg7 harg7 arg8 harg8 arg9 harg9 arg10 harg10 arg11 harg11 hc0 hc1 x0 x1 x2 x3 x4 x5 xs0 xs1
    = k0_pay4 x0 (View.ld x1 (Rect.unit (s := S1x6x1024) ![0, 5, 0] S1x1x1024.size inb_S1x6x1024_S1x1x1024_0_5_0)) (k0_pay3 xs0 x3 x4 xs1 x5) := by
  frame_open
  simp (disch := decide) only [↓View.readCov_skip, ↓View.readCov_fill]
  frame_out

end Cert.Kernel2Ideal.Val
-- ==== Proof.FfnBlocks.lean ====
module

public import proofs.«01_k».proof.Proof.Norm
public import proofs.«01_k».proof.Proof.FfnCase
public import Idealize.ShloMosaic.Lib.Pointwise
public import Idealize.ShloMosaic.Lib.Tactic
public import Idealize.ShloMosaic.Lib.Pipeline.ReadBack
public import Idealize.ShloMosaic.Lib.Pipeline.ValueKit.Tiles

@[expose] public section

set_option maxRecDepth 16384
noncomputable section
open Idealize.ShloMosaic Idealize.ShloMosaic.TcCoe Idealize.SL.Sem
namespace Cert.Kernel2Ideal.Val
open Cert.Kernel2Ideal Cert.Kernel2Ideal.Gen Cert.Kernel2Ideal.Value
variable (m : (ℓ : Loc nD τ sig) → Buf (Elt Ideal) ℓ)

/-- The block numbers of the stream's window. -/
theorem idx0 : ∀ t : Fin cfg0.N, win0_0.index t (0 : Fin 3) = t.val / 44 ∧ win0_0.index t (1 : Fin 3) = t.val / 11 % 4 ∧ win0_0.index t (2 : Fin 3) = 0 :=
  (by decide +kernel : ∀ t : Fin grid0.N, _)
/-- The block numbers of the modulation's window. -/
theorem idx1 : ∀ t : Fin cfg0.N, win0_1.index t (0 : Fin 3) = t.val / 44 ∧ win0_1.index t (1 : Fin 3) = 0 ∧ win0_1.index t (2 : Fin 3) = 0 :=
  (by decide +kernel : ∀ t : Fin grid0.N, _)
/-- The gain's window is the whole array. -/
theorem idx2 : ∀ t : Fin cfg0.N, win0_2.index t (0 : Fin 2) = 0 ∧ win0_2.index t (1 : Fin 2) = 0 :=
  (by decide +kernel : ∀ t : Fin grid0.N, _)
/-- The block numbers of the gate weights' window. -/
theorem idx3 : ∀ t : Fin cfg0.N, win0_3.index t (0 : Fin 2) = 0 ∧ win0_3.index t (1 : Fin 2) = t.val % 11 :=
  (by decide +kernel : ∀ t : Fin grid0.N, _)
/-- The block numbers of the up weights' window. -/
theorem idx4 : ∀ t : Fin cfg0.N, win0_4.index t (0 : Fin 2) = 0 ∧ win0_4.index t (1 : Fin 2) = t.val % 11 :=
  (by decide +kernel : ∀ t : Fin grid0.N, _)
/-- The block numbers of the down weights' window. -/
theorem idx5 : ∀ t : Fin cfg0.N, win0_5.index t (0 : Fin 2) = t.val % 11 ∧ win0_5.index t (1 : Fin 2) = 0 :=
  (by decide +kernel : ∀ t : Fin grid0.N, _)

/-- A block of the stream at one place. -/
theorem iblk0 (c : Dev nD) (t : Fin cfg0.N) (r k : Fin 1024) (b : Fin 8) (R : Fin 4096) (hb : b.val = t.val / 44) (hR : R.val = t.val / 11 % 4 * 1024 + r.val) :
    (iblk m c 0 t : Vec Ideal S1x1024x1024 .f32) (ix3 0 r k) = m ((c : Thread nD τ).loc main_arg0) (ix3 b R k) := by
  obtain ⟨e0, e1, e2⟩ := idx0 t
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t 0 * 1 + 1 * 0 = b.val; rw [e0]; omega
  | ⟨1, _⟩ => show win0_0.index t 1 * 1024 + 1 * r.val = R.val; rw [e1]; omega
  | ⟨2, _⟩ => show win0_0.index t 2 * 1024 + 1 * k.val = k.val; rw [e2]; omega

/-- A block of the modulation at one place. -/
theorem iblk1 (c : Dev nD) (t : Fin cfg0.N) (i : Fin 6) (k : Fin 1024) (b : Fin 8) (hb : b.val = t.val / 44) :
    (iblk m c 1 t : Vec Ideal S1x6x1024 .f32) (ix3 0 i k) = m ((c : Thread nD τ).loc main_arg1) (ix3 b i k) := by
  obtain ⟨e0, e1, e2⟩ := idx1 t
  unfold iblk
  rw [View.read_apply]
  show V m c main_arg1 _ = _
  rw [V_main_arg1]
  refine congrArg (m ((c : Thread nD τ).loc main_arg1)) ?_
  funext a; apply Fin.ext
  match a with
  | ⟨0, _⟩ => show win0_1.index t 0 * 1 + 1 * 0 = b.val; rw [e0]; omega
  | ⟨1, _⟩ => show win0_1.index t 1 * 6 + 1 * i.val = i.val; rw [e1]; omega
  | ⟨2, _⟩ => show win0_1.index t 2 * 1024 + 1 * k.val = k.val; rw [e2]; omega

/-- The gain, laid out as one row before the call. -/
theorem V_gain (c : Dev nD) : V m c main_v0 = shapeCast S1x1024 (m ((c : Thread nD τ).loc main_arg2)) shapeCasts_S1024_S1x1024 := rfl

/-- That row at one place. -/
theorem gain_row (g : Vec Ideal S1024 .f32) (k : Fin 1024) : (shapeCast S1x1024 g shapeCasts_S1024_S1x1024 (ix2 0 k) : EReal) = g (ix1 k) := by
  pointwise

/-- The gain's block at one place. -/
theorem iblk2 (c : Dev nD) (t : Fin cfg0.N) (k : Fin 1024) :
    (iblk m c 2 t : Vec Ideal S1x1024 .f32) (ix2 0 k) = m ((c : Thread nD τ).loc main_arg2) (ix1 k) := by
  obtain ⟨e0, e1⟩ := idx2 t
  unfold iblk
  rw [View.read_apply]
  show V m c main_v0 _ = _
  rw [V_gain]
  refine Eq.trans ?_ (gain_row (m ((c : Thread nD τ).loc main_arg2)) k)
  refine congrArg (shapeCast S1x1024 (m ((c : Thread nD τ).loc main_arg2)) shapeCasts_S1024_S1x1024) ?_
  funext a; apply Fin.ext
  match a with
  | ⟨0, _⟩ => show win0_2.index t 0 * 1 + 1 * 0 = 0; rw [e0]
  | ⟨1, _⟩ => show win0_2.index t 1 * 1024 + 1 * k.val = k.val; rw [e1]; omega

/-- A block of the gate weights at one place. -/
theorem iblk3 (c : Dev nD) (t : Fin cfg0.N) (k : Fin 1024) (f : Fin 256) (F : Fin 2816) (hF : F.val = t.val % 11 * 256 + f.val) :
    (iblk m c 3 t : Vec Ideal S1024x256 .bf16) (ix2 k f) = m ((c : Thread nD τ).loc main_arg3) (ix2 k F) := by
  obtain ⟨e0, e1⟩ := idx3 t
  unfold iblk
  rw [View.read_apply]
  show V m c main_arg3 _ = _
  rw [V_main_arg3]
  refine congrArg (m ((c : Thread nD τ).loc main_arg3)) ?_
  funext a; apply Fin.ext
  match a with
  | ⟨0, _⟩ => show win0_3.index t 0 * 1024 + 1 * k.val = k.val; rw [e0]; omega
  | ⟨1, _⟩ => show win0_3.index t 1 * 256 + 1 * f.val = F.val; rw [e1]; omega

/-- A block of the up weights at one place. -/
theorem iblk4 (c : Dev nD) (t : Fin cfg0.N) (k : Fin 1024) (f : Fin 256) (F : Fin 2816) (hF : F.val = t.val % 11 * 256 + f.val) :
    (iblk m c 4 t : Vec Ideal S1024x256 .bf16) (ix2 k f) = m ((c : Thread nD τ).loc main_arg4) (ix2 k F) := by
  obtain ⟨e0, e1⟩ := idx4 t
  unfold iblk
  rw [View.read_apply]
  show V m c main_arg4 _ = _
  rw [V_main_arg4]
  refine congrArg (m ((c : Thread nD τ).loc main_arg4)) ?_
  funext a; apply Fin.ext
  match a with
  | ⟨0, _⟩ => show win0_4.index t 0 * 1024 + 1 * k.val = k.val; rw [e0]; omega
  | ⟨1, _⟩ => show win0_4.index t 1 * 256 + 1 * f.val = F.val; rw [e1]; omega

/-- A block of the down weights at one place. -/
theorem iblk5 (c : Dev nD) (t : Fin cfg0.N) (f : Fin 256) (n : Fin 1024) (F : Fin 2816) (hF : F.val = t.val % 11 * 256 + f.val) :
    (iblk m c 5 t : Vec Ideal S256x1024 .bf16) (ix2 f n) = m ((c : Thread nD τ).loc main_arg5) (ix2 F n) := by
  obtain ⟨e0, e1⟩ := idx5 t
  unfold iblk
  rw [View.read_apply]
  show V m c main_arg5 _ = _
  rw [V_main_arg5]
  refine congrArg (m ((c : Thread nD τ).loc main_arg5)) ?_
  funext a; apply Fin.ext
  match a with
  | ⟨0, _⟩ => show win0_5.index t 0 * 256 + 1 * f.val = F.val; rw [e0]; omega
  | ⟨1, _⟩ => show win0_5.index t 1 * 1024 + 1 * n.val = n.val; rw [e1]; omega

/-- The shift's row of a modulation block, as the body loads it. -/
def shV (x : Vec Ideal S1x6x1024 .f32) : Vec Ideal S1x1x1024 .f32 := View.ld x (Rect.unit (s := S1x6x1024) ![0, 3, 0] S1x1x1024.size inb_S1x6x1024_S1x1x1024_0_3_0)
/-- The shift's row is row 3. -/
theorem shV_apply (x : Vec Ideal S1x6x1024 .f32) (k : Fin 1024) : shV x (ix3 0 0 k) = x (ix3 0 3 k) := by
  pointwise [shV]
/-- The scale's row of a modulation block, as the body loads it. -/
def scV (x : Vec Ideal S1x6x1024 .f32) : Vec Ideal S1x1x1024 .f32 := View.ld x (Rect.unit (s := S1x6x1024) ![0, 4, 0] S1x1x1024.size inb_S1x6x1024_S1x1x1024_0_4_0)
/-- The scale's row is row 4. -/
theorem scV_apply (x : Vec Ideal S1x6x1024 .f32) (k : Fin 1024) : scV x (ix3 0 0 k) = x (ix3 0 4 k) := by
  pointwise [scV]
/-- The gate's row of a modulation block, as the body loads it. -/
def gaV (x : Vec Ideal S1x6x1024 .f32) : Vec Ideal S1x1x1024 .f32 := View.ld x (Rect.unit (s := S1x6x1024) ![0, 5, 0] S1x1x1024.size inb_S1x6x1024_S1x1x1024_0_5_0)
/-- The gate's row is row 5. -/
theorem gaV_apply (x : Vec Ideal S1x6x1024 .f32) (k : Fin 1024) : gaV x (ix3 0 0 k) = x (ix3 0 5 k) := by
  pointwise [gaV]

/-- The stored hidden rows at one place. -/
theorem pay1_apply (x : Vec Ideal S1x1024x1024 .f32) (g : Vec Ideal S1x1024 .f32) (sh sc : Vec Ideal S1x1x1024 .f32) (r k : Fin 1024) :
    (k0_pay1 x g sh sc (ix2 r k) : EReal)
      = Norm.nrm (fun k => x (ix3 0 r k)) (fun k => g (ix2 0 k)) (fun k => sc (ix3 0 0 k)) (fun k => sh (ix3 0 0 k)) k := by
  unfold Norm.nrm
  pointwise [k0_pay1]

/-- The hidden rows of a tile at one place. -/
theorem hidK_apply (x0 : Vec Ideal S1x1024x1024 .f32) (x1 : Vec Ideal S1x6x1024 .f32) (x2 : Vec Ideal S1x1024 .f32) (r k : Fin 1024) :
    (hidK x0 x1 x2 (ix2 r k) : EReal)
      = Norm.nrm (fun k => x0 (ix3 0 r k)) (fun k => x2 (ix2 0 k)) (fun k => x1 (ix3 0 4 k)) (fun k => x1 (ix3 0 3 k)) k := by
  refine (pay1_apply x0 x2 (shV x1) (scV x1) r k).trans ?_
  simp only [shV_apply, scV_apply]

/-- One block's step of the accumulator at one place. -/
theorem pay3_apply (h : Vec Ideal S1024x1024 .bf16) (wg wu : Vec Ideal S1024x256 .bf16) (a : Vec Ideal S1024x1024 .f32) (wd : Vec Ideal S256x1024 .bf16) (r n : Fin 1024) :
    (k0_pay3 h wg wu a wd (ix2 r n) : EReal)
      = a (ix2 r n) + ∑ f : Fin 256, Norm.glu (fun k => h (ix2 r k)) (fun k => wg (ix2 k f)) (fun k => wu (ix2 k f)) * wd (ix2 f n) := by
  unfold Norm.glu
  simp only [← Norm.sig_zero_sub]
  pointwise [k0_pay3]

/-- The closing step at one place. -/
theorem pay4_apply (x : Vec Ideal S1x1024x1024 .f32) (g : Vec Ideal S1x1x1024 .f32) (a : Vec Ideal S1024x1024 .f32) (r n : Fin 1024) :
    (k0_pay4 x g a (ix3 0 r n) : EReal) = x (ix3 0 r n) + g (ix3 0 0 n) * a (ix2 r n) := by
  pointwise [k0_pay4]

/-- The accumulator starts at zero. -/
theorem pay2_apply (j : S1024x1024.Idx) : (k0_pay2 (F := Ideal) j : EReal) = 0 := by
  show (Ideal.ofBits .f32 0x00000000#32 : EReal) = 0
  exact Ideal.ofBits_zero_f32

end Cert.Kernel2Ideal.Val
-- ==== Proof.FfnKer.lean ====
module

public import proofs.«01_k».proof.Proof.FfnBlocks

@[expose] public section

set_option maxRecDepth 16384
noncomputable section
open Idealize.ShloMosaic Idealize.ShloMosaic.TcCoe Idealize.SL.Sem
namespace Cert.Kernel2Ideal.Val
open Cert.Kernel2Ideal Cert.Kernel2Ideal.Gen Cert.Kernel2Ideal.Value
variable (m : (ℓ : Loc nD τ sig) → Buf (Elt Ideal) ℓ)

/-- The first block of a run leaves the hidden rows. -/
theorem first_hid (c : Dev nD) (t : Fin cfg0.N) (h0 : t.val % 11 = 0) :
    (outsAt0 m c t.val t.isLt).2.1 = hidK (iblk m c 0 t) (iblk m c 1 t) (iblk m c 2 t) := by
  have h1 : ¬t.val % 11 = 10 := by omega
  have e := sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0) (fun h => h1 ((hcond0_1 t).mp h))
  rw [← e, outsAt0_A m c t h0 h1]

/-- The first block of a run starts the accumulator. -/
theorem first_acc (c : Dev nD) (t : Fin cfg0.N) (h0 : t.val % 11 = 0) :
    (outsAt0 m c t.val t.isLt).2.2 = k0_pay3 (hidK (iblk m c 0 t) (iblk m c 1 t) (iblk m c 2 t)) (iblk m c 3 t) (iblk m c 4 t) (k0_pay2 (F := Ideal)) (iblk m c 5 t) := by
  have h1 : ¬t.val % 11 = 10 := by omega
  have e := sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) ((hcond0_0 t).mpr h0) (fun h => h1 ((hcond0_1 t).mp h))
  rw [← e, outsAt0_A m c t h0 h1]

/-- A middle block leaves the hidden rows alone. -/
theorem mid_hid (c : Dev nD) (t : Fin cfg0.N) (h0 : ¬t.val % 11 = 0) (h1 : ¬t.val % 11 = 10) :
    (outsAt0 m c t.val t.isLt).2.1 = (outsAt0 m c (t.val - 1) (Nat.lt_of_le_of_lt (Nat.sub_le _ _) t.isLt)).2.1 := by
  rw [outsAt0_B m c t h0 h1]
  rfl

/-- A middle block adds its part. -/
theorem mid_acc (c : Dev nD) (t : Fin cfg0.N) (h0 : ¬t.val % 11 = 0) (h1 : ¬t.val % 11 = 10) :
    (outsAt0 m c t.val t.isLt).2.2 = k0_pay3 (outsAt0 m c (t.val - 1) (Nat.lt_of_le_of_lt (Nat.sub_le _ _) t.isLt)).2.1 (iblk m c 3 t) (iblk m c 4 t)
      (outsAt0 m c (t.val - 1) (Nat.lt_of_le_of_lt (Nat.sub_le _ _) t.isLt)).2.2 (iblk m c 5 t) := by
  have e := sB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h))
  rw [← e, outsAt0_B m c t h0 h1]

/-- The last block's output. -/
theorem last_out (c : Dev nD) (t : Fin cfg0.N) (h1 : t.val % 11 = 10) :
    (outsAt0 m c t.val t.isLt).1 = k0_pay4 (iblk m c 0 t) (gaV (iblk m c 1 t)) (k0_pay3 (outsAt0 m c (t.val - 1) (Nat.lt_of_le_of_lt (Nat.sub_le _ _) t.isLt)).2.1 (iblk m c 3 t) (iblk m c 4 t)
      (outsAt0 m c (t.val - 1) (Nat.lt_of_le_of_lt (Nat.sub_le _ _) t.isLt)).2.2 (iblk m c 5 t)) := by
  have h0 : ¬t.val % 11 = 0 := by omega
  have e := oC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1)
  refine Eq.trans ?_ e
  rw [outsAt0_C m c t h0 h1]

/-- The modulated norm of one row of the arguments. -/
def hidM (c : Dev nD) (b : Fin 8) (R : Fin 4096) (k : Fin 1024) : EReal :=
  Norm.nrm (fun k => m ((c : Thread nD τ).loc main_arg0) (ix3 b R k)) (fun k => m ((c : Thread nD τ).loc main_arg2) (ix1 k)) (fun k => m ((c : Thread nD τ).loc main_arg1) (ix3 b 4 k)) (fun k => m ((c : Thread nD τ).loc main_arg1) (ix3 b 3 k)) k

/-- One hidden unit's contribution to one place of the result, from the arguments. -/
def unitM (c : Dev nD) (b : Fin 8) (R : Fin 4096) (n : Fin 1024) (F : Fin 2816) : EReal :=
  Norm.glu (hidM m c b R) (fun k => m ((c : Thread nD τ).loc main_arg3) (ix2 k F)) (fun k => m ((c : Thread nD τ).loc main_arg4) (ix2 k F)) * m ((c : Thread nD τ).loc main_arg5) (ix2 F n)

/-- One block of 256 hidden units' contribution. -/
def blockM (c : Dev nD) (b : Fin 8) (R : Fin 4096) (n : Fin 1024) (i : ℕ) : EReal :=
  ∑ f : Fin 256, unitM m c b R n ⟨(i * 256 + f.val) % 2816, Nat.mod_lt _ (by omega)⟩

/-- One block's step, when the stored hidden rows are those of the arguments. -/
theorem step_apply (c : Dev nD) (t : Fin cfg0.N) (b : Fin 8) (R : Fin 4096) (r n : Fin 1024) (h : Vec Ideal S1024x1024 .bf16) (a : Vec Ideal S1024x1024 .f32)
    (hh : ∀ k, (h (ix2 r k) : EReal) = hidM m c b R k) :
    (k0_pay3 h (iblk m c 3 t) (iblk m c 4 t) a (iblk m c 5 t) (ix2 r n) : EReal) = a (ix2 r n) + blockM m c b R n (t.val % 11) := by
  refine (pay3_apply h _ _ a _ r n).trans ?_
  refine congrArg (fun z : EReal => a (ix2 r n) + z) (Finset.sum_congr rfl fun f _ => ?_)
  have hf := f.isLt
  have hF : ((⟨(t.val % 11 * 256 + f.val) % 2816, Nat.mod_lt _ (by omega)⟩ : Fin 2816)).val = t.val % 11 * 256 + f.val := by
    show (t.val % 11 * 256 + f.val) % 2816 = _
    omega
  unfold unitM
  rw [← iblk5 m c t f n _ hF]
  simp only [hh, iblk3 m c t _ f _ hF, iblk4 m c t _ f _ hF]

/-- The hidden rows stored at a run's first point are those of the arguments. -/
theorem hid_first (c : Dev nD) (t : Fin cfg0.N) (b : Fin 8) (R : Fin 4096) (r k : Fin 1024) (hb : b.val = t.val / 44) (hR : R.val = t.val / 11 % 4 * 1024 + r.val) :
    (hidK (iblk m c 0 t) (iblk m c 1 t) (iblk m c 2 t) (ix2 r k) : EReal) = hidM m c b R k := by
  refine (hidK_apply _ _ _ r k).trans ?_
  unfold hidM
  simp only [iblk0 m c t r _ b R hb hR, iblk1 m c t _ _ b hb, iblk2]

/-- After block `j` of a run short of its last, the carried arrays hold the hidden rows and the sum of the blocks so far. -/
theorem carried (c : Dev nD) (q : ℕ) (b : Fin 8) (R : Fin 4096) (r : Fin 1024) (hb : b.val = q / 4) (hR : R.val = q % 4 * 1024 + r.val) :
    ∀ j : ℕ, (hj : j < 10) → (h : 11 * q + j < cfg0.N) → (∀ k, ((outsAt0 m c (11 * q + j) h).2.1 (ix2 r k) : EReal) = hidM m c b R k)
      ∧ ∀ n, ((outsAt0 m c (11 * q + j) h).2.2 (ix2 r n) : EReal) = ∑ i ∈ Finset.range (j + 1), blockM m c b R n i
  | 0, hj, h => by
    have h0 : (⟨11 * q + 0, h⟩ : Fin cfg0.N).val % 11 = 0 := by show (11 * q + 0) % 11 = 0; omega
    have hb' : b.val = (⟨11 * q + 0, h⟩ : Fin cfg0.N).val / 44 := by show b.val = (11 * q + 0) / 44; omega
    have hR' : R.val = (⟨11 * q + 0, h⟩ : Fin cfg0.N).val / 11 % 4 * 1024 + r.val := by show R.val = (11 * q + 0) / 11 % 4 * 1024 + r.val; omega
    refine ⟨fun k => ?_, fun n => ?_⟩
    · exact (congrFun (first_hid m c ⟨11 * q + 0, h⟩ h0) (ix2 r k)).trans (hid_first m c ⟨11 * q + 0, h⟩ b R r k hb' hR')
    · refine (congrFun (first_acc m c ⟨11 * q + 0, h⟩ h0) (ix2 r n)).trans ?_
      refine (step_apply m c ⟨11 * q + 0, h⟩ b R r n _ _ fun k => hid_first m c ⟨11 * q + 0, h⟩ b R r k hb' hR').trans ?_
      rw [pay2_apply, zero_add, h0, Finset.sum_range_one]
  | j + 1, hj, h => by
    obtain ⟨ih1, ih2⟩ := carried c q b R r hb hR j (by omega) (by omega)
    have h0 : ¬(⟨11 * q + (j + 1), h⟩ : Fin cfg0.N).val % 11 = 0 := by show ¬(11 * q + (j + 1)) % 11 = 0; omega
    have h1 : ¬(⟨11 * q + (j + 1), h⟩ : Fin cfg0.N).val % 11 = 10 := by show ¬(11 * q + (j + 1)) % 11 = 10; omega
    have hm : (⟨11 * q + (j + 1), h⟩ : Fin cfg0.N).val % 11 = j + 1 := by show (11 * q + (j + 1)) % 11 = j + 1; omega
    refine ⟨fun k => ?_, fun n => ?_⟩
    · exact (congrFun (mid_hid m c ⟨11 * q + (j + 1), h⟩ h0 h1) (ix2 r k)).trans (ih1 k)
    · refine (congrFun (mid_acc m c ⟨11 * q + (j + 1), h⟩ h0 h1) (ix2 r n)).trans ?_
      refine (step_apply m c ⟨11 * q + (j + 1), h⟩ b R r n _ _ fun k => ih1 k).trans ?_
      rw [hm, Finset.sum_range_succ]
      exact congrArg (fun z : EReal => z + blockM m c b R n (j + 1)) (ih2 n)

/-- What a run's last block writes out, at one place. -/
theorem run_out (c : Dev nD) (q : ℕ) (b : Fin 8) (R : Fin 4096) (r n : Fin 1024) (hb : b.val = q / 4) (hR : R.val = q % 4 * 1024 + r.val) (h : 11 * q + 10 < cfg0.N) :
    ((outsAt0 m c (11 * q + 10) h).1 (ix3 0 r n) : EReal)
      = Norm.into (m ((c : Thread nD τ).loc main_arg0) (ix3 b R n)) (m ((c : Thread nD τ).loc main_arg1) (ix3 b 5 n)) (∑ F, unitM m c b R n F) := by
  obtain ⟨ih1, ih2⟩ := carried m c q b R r hb hR 9 (by omega) (by omega)
  have h1 : (⟨11 * q + 10, h⟩ : Fin cfg0.N).val % 11 = 10 := by show (11 * q + 10) % 11 = 10; omega
  have hb' : b.val = (⟨11 * q + 10, h⟩ : Fin cfg0.N).val / 44 := by show b.val = (11 * q + 10) / 44; omega
  have hR' : R.val = (⟨11 * q + 10, h⟩ : Fin cfg0.N).val / 11 % 4 * 1024 + r.val := by show R.val = (11 * q + 10) / 11 % 4 * 1024 + r.val; omega
  refine (congrFun (last_out m c ⟨11 * q + 10, h⟩ h1) (ix3 0 r n)).trans ?_
  refine (pay4_apply _ _ _ r n).trans ?_
  rw [gaV_apply, iblk0 m c _ r n b R hb' hR', iblk1 m c _ 5 n b hb', ← Norm.sum_blocks, Finset.sum_range_succ]
  refine congrArg (Norm.into (m ((c : Thread nD τ).loc main_arg0) (ix3 b R n)) (m ((c : Thread nD τ).loc main_arg1) (ix3 b 5 n))) ?_
  refine (step_apply m c ⟨11 * q + 10, h⟩ b R r n _ _ fun k => ih1 k).trans ?_
  rw [h1]
  exact congrArg (fun z : EReal => z + blockM m c b R n 10) (ih2 n)

/-- The kernel's result at one place. -/
theorem G6_apply (c : Dev nD) (b : Fin 8) (R : Fin 4096) (n : Fin 1024) :
    (G6 m c (ix3 b R n) : EReal) = Norm.into (m ((c : Thread nD τ).loc main_arg0) (ix3 b R n)) (m ((c : Thread nD τ).loc main_arg1) (ix3 b 5 n)) (∑ F, unitM m c b R n F) := by
  have hN : cfg0.N = 352 := N_0
  have hb := b.isLt
  have hR := R.isLt
  have hn := n.isLt
  have hq : run6Of (ix3 b R n) = 4 * b.val + R.val / 1024 := by
    show 4 * (b.val / 1 - 0) + 1 * (R.val / 1024 - 0) + 1 * (n.val / 1024 - 0) = _
    omega
  have hp : pt6Of (ix3 b R n) < cfg0.N := by
    show 11 * run6Of (ix3 b R n) + 10 < cfg0.N
    rw [hq]; omega
  have hl : loc6Of (ix3 b R n) = ix3 0 ⟨R.val % 1024, by omega⟩ n := by
    funext a; apply Fin.ext
    match a with
    | ⟨0, _⟩ => show b.val % 1 = 0; omega
    | ⟨1, _⟩ => rfl
    | ⟨2, _⟩ => show n.val % 1024 = n.val; omega
  unfold G6
  rw [dif_pos hp, ← outsAt0_sweep, hl]
  exact run_out m c (run6Of (ix3 b R n)) b R ⟨R.val % 1024, by omega⟩ n (by rw [hq]; omega) (by rw [hq]; show R.val = _ % 4 * 1024 + R.val % 1024; omega) hp

end Cert.Kernel2Ideal.Val
-- ==== Proof.FfnRef.lean ====
module

public import proofs.«01_k».proof.Proof.Norm
public import proofs.«01_k».proof.Proof.Gen.Reference2Ideal.Run
public import Idealize.ShloMosaic.Lib.IdealHost
public import Idealize.ShloMosaic.Lib.Pointwise
public import Idealize.ShloMosaic.Lib.Tactic

@[expose] public section

set_option maxRecDepth 16384
noncomputable section
open Idealize.ShloMosaic Idealize.ShloMosaic.TcCoe Idealize.SL.Sem
namespace Cert.Reference2Ideal.Read
open Cert.Reference2Ideal Cert.Reference2Ideal.Gen Cert.Reference2Ideal.Value

/-- The reference's modulated norm, as an array. -/
def hid (x : FVec Ideal S8x4096x1024 .f32) (mo : FVec Ideal S8x6x1024 .f32) (g : FVec Ideal S1024 .f32) : FVec Ideal S8x4096x1024 .f32 :=
  addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 4, 0] mo slices_S8x6x1024_S8x1x1024_0_4_0)))) (broadcastInDim S8x4096x1024 ![0, 1, 2] bcast_S8x1x1024_S8x4096x1024_0_1_2 (extractStridedSlice S8x1x1024 ![0, 3, 0] mo slices_S8x6x1024_S8x1x1024_0_3_0))

/-- The reference's projection of it to the hidden units. -/
def up (h : FVec Ideal S8x4096x1024 .f32) (w : FVec Ideal S1024x2816 .bf16) : FVec Ideal S8x4096x2816 .f32 :=
  Host.dotGeneral dot_S8x4096x1024_S1024x2816_S8x4096x2816_2_0_01_1_n_n none h (extf .f32 w bitsLt_bf16_f32)

/-- The reference's gated units. -/
def act (z u : FVec Ideal S8x4096x2816 .f32) : FVec Ideal S8x4096x2816 .f32 :=
  mulf (mulf z (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf z))))) u

/-- The reference's projection back to the stream, gated into it. -/
def back (a : FVec Ideal S8x4096x2816 .f32) (x : FVec Ideal S8x4096x1024 .f32) (mo : FVec Ideal S8x6x1024 .f32) (wd : FVec Ideal S2816x1024 .bf16) : FVec Ideal S8x4096x1024 .f32 :=
  addf x (mulf (broadcastInDim S8x4096x1024 ![0, 1, 2] bcast_S8x1x1024_S8x4096x1024_0_1_2 (extractStridedSlice S8x1x1024 ![0, 5, 0] mo slices_S8x6x1024_S8x1x1024_0_5_0)) (Host.dotGeneral dot_S8x4096x2816_S2816x1024_S8x4096x1024_2_0_01_1_n_n none a (extf .f32 wd bitsLt_bf16_f32)))

/-- The reference's result in these parts. -/
theorem res_eq (m : (ℓ : Loc nD τ sig) → Buf (Elt Ideal) ℓ) (c : Dev nD) :
    res_main_v32 m c = back (act (up (hid (m ((c.tc : Thread nD τ).loc main_arg0)) (m ((c.tc : Thread nD τ).loc main_arg1)) (m ((c.tc : Thread nD τ).loc main_arg2))) (m ((c.tc : Thread nD τ).loc main_arg3))) (up (hid (m ((c.tc : Thread nD τ).loc main_arg0)) (m ((c.tc : Thread nD τ).loc main_arg1)) (m ((c.tc : Thread nD τ).loc main_arg2))) (m ((c.tc : Thread nD τ).loc main_arg4)))) (m ((c.tc : Thread nD τ).loc main_arg0)) (m ((c.tc : Thread nD τ).loc main_arg1)) (m ((c.tc : Thread nD τ).loc main_arg5)) := rfl

/-- The modulated norm at one place is that of its row. -/
theorem hid_apply (x : FVec Ideal S8x4096x1024 .f32) (mo : FVec Ideal S8x6x1024 .f32) (g : FVec Ideal S1024 .f32) (b : Fin 8) (r : Fin 4096) (k : Fin 1024) :
    (hid x mo g (ix3 b r k) : EReal) = Norm.nrm (fun k => x (ix3 b r k)) (fun k => g (ix1 k)) (fun k => mo (ix3 b 4 k)) (fun k => mo (ix3 b 3 k)) k := by
  unfold Norm.nrm
  pointwise [hid]

/-- A hidden unit's projection is a sum over the model dimension. -/
theorem up_apply (h : FVec Ideal S8x4096x1024 .f32) (w : FVec Ideal S1024x2816 .bf16) (b : Fin 8) (r : Fin 4096) (n : Fin 2816) :
    (up h w (ix3 b r n) : EReal) = ∑ k : Fin 1024, (h (ix3 b r k) : EReal) * w (ix2 k n) := by
  pointwise [up]

/-- A gated unit at one place. -/
theorem act_apply (z u : FVec Ideal S8x4096x2816 .f32) (b : Fin 8) (r : Fin 4096) (n : Fin 2816) :
    (act z u (ix3 b r n) : EReal) = z (ix3 b r n) * Norm.sig (z (ix3 b r n)) * u (ix3 b r n) := by
  unfold Norm.sig
  pointwise [act]

/-- The result at one place. -/
theorem back_apply (a : FVec Ideal S8x4096x2816 .f32) (x : FVec Ideal S8x4096x1024 .f32) (mo : FVec Ideal S8x6x1024 .f32) (wd : FVec Ideal S2816x1024 .bf16)
    (b : Fin 8) (r : Fin 4096) (n : Fin 1024) :
    (back a x mo wd (ix3 b r n) : EReal) = x (ix3 b r n) + mo (ix3 b 5 n) * ∑ F : Fin 2816, (a (ix3 b r F) : EReal) * wd (ix2 F n) := by
  pointwise [back]

/-- The whole result at one place. -/
theorem all_apply (x : FVec Ideal S8x4096x1024 .f32) (mo : FVec Ideal S8x6x1024 .f32) (g : FVec Ideal S1024 .f32) (wg wu : FVec Ideal S1024x2816 .bf16) (wd : FVec Ideal S2816x1024 .bf16)
    (b : Fin 8) (r : Fin 4096) (n : Fin 1024) :
    (back (act (up (hid x mo g) wg) (up (hid x mo g) wu)) x mo wd (ix3 b r n) : EReal) = x (ix3 b r n) + mo (ix3 b 5 n) * ∑ F : Fin 2816,
      Norm.glu (fun k => Norm.nrm (fun k => x (ix3 b r k)) (fun k => g (ix1 k)) (fun k => mo (ix3 b 4 k)) (fun k => mo (ix3 b 3 k)) k)
        (fun k => wg (ix2 k F)) (fun k => wu (ix2 k F)) * wd (ix2 F n) := by
  rw [back_apply]
  simp only [act_apply, up_apply, hid_apply, Norm.glu]

end Cert.Reference2Ideal.Read
-- ==== Proof.FfnTie.lean ====
module

public import proofs.«01_k».proof.Proof.FfnKer
public import proofs.«01_k».proof.Proof.FfnRef

@[expose] public section

set_option maxRecDepth 16384
noncomputable section
open Idealize.ShloMosaic Idealize.ShloMosaic.TcCoe Idealize.SL.Sem
namespace Cert.Kernel2Ideal.Val
open Cert.Kernel2Ideal Cert.Kernel2Ideal.Gen Cert.Kernel2Ideal.Value
variable (m : (ℓ : Loc nD τ sig) → Buf (Elt Ideal) ℓ)

/-- The kernel's result is the reference's. -/
theorem tie (c : Dev nD) : Cert.Reference2Ideal.Read.back (Cert.Reference2Ideal.Read.act
      (Cert.Reference2Ideal.Read.up (Cert.Reference2Ideal.Read.hid (m ((c : Thread nD τ).loc main_arg0)) (m ((c : Thread nD τ).loc main_arg1)) (m ((c : Thread nD τ).loc main_arg2))) (m ((c : Thread nD τ).loc main_arg3)))
      (Cert.Reference2Ideal.Read.up (Cert.Reference2Ideal.Read.hid (m ((c : Thread nD τ).loc main_arg0)) (m ((c : Thread nD τ).loc main_arg1)) (m ((c : Thread nD τ).loc main_arg2))) (m ((c : Thread nD τ).loc main_arg4)))) (m ((c : Thread nD τ).loc main_arg0)) (m ((c : Thread nD τ).loc main_arg1)) (m ((c : Thread nD τ).loc main_arg5))
    = G6 m c := by
  funext j
  have hj : j = ix3 (j 0) (j 1) (j 2) := by
    funext a
    match a with
    | ⟨0, _⟩ => rfl
    | ⟨1, _⟩ => rfl
    | ⟨2, _⟩ => rfl
  rw [hj]
  refine Eq.trans ?_ (G6_apply m c (j 0) (j 1) (j 2)).symm
  exact Cert.Reference2Ideal.Read.all_apply _ _ _ _ _ _ (j 0) (j 1) (j 2)

end Cert.Kernel2Ideal.Val
-- ==== Proof.PinKer.lean ====
module

public import proofs.«01_k».proof.Proof.Norm
public import proofs.«01_k».proof.Proof.Gen.Kernel3Ideal.Value
public import Idealize.ShloMosaic.Lib.Pointwise
public import Idealize.ShloMosaic.Lib.Tactic
public import Idealize.ShloMosaic.Lib.Pipeline.ReadBack
public import Idealize.ShloMosaic.Lib.Pipeline.ValueKit.Tiles

@[expose] public section

set_option maxRecDepth 16384
noncomputable section
open Idealize.ShloMosaic Idealize.ShloMosaic.TcCoe Idealize.SL.Sem
namespace Cert.Kernel3Ideal.Val
open Cert.Kernel3Ideal Cert.Kernel3Ideal.Gen Cert.Kernel3Ideal.Value
variable (m : (ℓ : Loc nD τ sig) → Buf (Elt Ideal) ℓ)

/-- What one grid point stores, at one place. -/
theorem pay_apply (x : Vec Ideal S1x512x1024 .f32) (g : Vec Ideal S1x1024 .f32) (sh sc : Vec Ideal S1x1x1024 .f32) (w : Vec Ideal S1024x3712 .bf16)
    (r : Fin 512) (n : Fin 3712) :
    (k0_pay1 x g sh sc w (ix3 0 r n) : EReal)
      = ∑ k : Fin 1024, Norm.nrm (fun k => x (ix3 0 r k)) (fun k => g (ix2 0 k)) (fun k => sc (ix3 0 0 k)) (fun k => sh (ix3 0 0 k)) k * w (ix2 k n) := by
  unfold Norm.nrm
  pointwise [k0_pay1]

/-- The block numbers of the stream's window. -/
theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
/-- The block numbers of the modulation's window. -/
theorem idx1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
/-- The gain's window is the whole array. -/
theorem idx2 : ∀ t : Fin cfg0.N, win0_2.index t (0 : Fin 2) = 0 ∧ win0_2.index t (1 : Fin 2) = 0 :=
  (by decide +kernel : ∀ t : Fin grid0.N, _)
/-- The weights' window is the whole array. -/
theorem idx3 : ∀ t : Fin cfg0.N, win0_3.index t (0 : Fin 2) = 0 ∧ win0_3.index t (1 : Fin 2) = 0 :=
  (by decide +kernel : ∀ t : Fin grid0.N, _)
/-- The block numbers of the result's window. -/
theorem idx4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)

/-- Every point's block is written back. -/
theorem flush4 : ∀ t : Fin cfg0.N, (cfg0.win 4).flush t = true :=
  (by decide +kernel : ∀ t : Fin grid0.N, win0_4.flush t = true)

/-- A block of the stream at one place. -/
theorem iblk0 (c : Dev nD) (t : Fin cfg0.N) (r : Fin 512) (k : Fin 1024) (b : Fin 8) (R : Fin 4096) (hb : b.val = t.val / 8) (hR : R.val = t.val % 8 * 512 + r.val) :
    (iblk m c 0 t : Vec Ideal S1x512x1024 .f32) (ix3 0 r k) = m ((c : Thread nD τ).loc main_arg0) (ix3 b R k) := by
  obtain ⟨e0, e1, e2⟩ := idx0 t
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t 0 * 1 + 1 * 0 = b.val; rw [e0]; omega
  | ⟨1, _⟩ => show win0_0.index t 1 * 512 + 1 * r.val = R.val; rw [e1]; omega
  | ⟨2, _⟩ => show win0_0.index t 2 * 1024 + 1 * k.val = k.val; rw [e2]; omega

/-- A block of the modulation at one place. -/
theorem iblk1 (c : Dev nD) (t : Fin cfg0.N) (i : Fin 6) (k : Fin 1024) (b : Fin 8) (hb : b.val = t.val / 8) :
    (iblk m c 1 t : Vec Ideal S1x6x1024 .f32) (ix3 0 i k) = m ((c : Thread nD τ).loc main_arg1) (ix3 b i k) := by
  obtain ⟨e0, e1, e2⟩ := idx1 t
  unfold iblk
  rw [View.read_apply]
  show V m c main_arg1 _ = _
  rw [V_main_arg1]
  refine congrArg (m ((c : Thread nD τ).loc main_arg1)) ?_
  funext a; apply Fin.ext
  match a with
  | ⟨0, _⟩ => show win0_1.index t 0 * 1 + 1 * 0 = b.val; rw [e0]; omega
  | ⟨1, _⟩ => show win0_1.index t 1 * 6 + 1 * i.val = i.val; rw [e1]; omega
  | ⟨2, _⟩ => show win0_1.index t 2 * 1024 + 1 * k.val = k.val; rw [e2]; omega

/-- The gain, laid out as one row before the call. -/
theorem V_gain (c : Dev nD) : V m c main_v0 = shapeCast S1x1024 (m ((c : Thread nD τ).loc main_arg2)) shapeCasts_S1024_S1x1024 := rfl

/-- That row at one place. -/
theorem gain_row (g : Vec Ideal S1024 .f32) (k : Fin 1024) : (shapeCast S1x1024 g shapeCasts_S1024_S1x1024 (ix2 0 k) : EReal) = g (ix1 k) := by
  pointwise

/-- The gain's block at one place. -/
theorem iblk2 (c : Dev nD) (t : Fin cfg0.N) (k : Fin 1024) :
    (iblk m c 2 t : Vec Ideal S1x1024 .f32) (ix2 0 k) = m ((c : Thread nD τ).loc main_arg2) (ix1 k) := by
  obtain ⟨e0, e1⟩ := idx2 t
  unfold iblk
  rw [View.read_apply]
  show V m c main_v0 _ = _
  rw [V_gain]
  refine Eq.trans ?_ (gain_row (m ((c : Thread nD τ).loc main_arg2)) k)
  refine congrArg (shapeCast S1x1024 (m ((c : Thread nD τ).loc main_arg2)) shapeCasts_S1024_S1x1024) ?_
  funext a; apply Fin.ext
  match a with
  | ⟨0, _⟩ => show win0_2.index t 0 * 1 + 1 * 0 = 0; rw [e0]
  | ⟨1, _⟩ => show win0_2.index t 1 * 1024 + 1 * k.val = k.val; rw [e1]; omega

/-- The weights' block at one place. -/
theorem iblk3 (c : Dev nD) (t : Fin cfg0.N) (k : Fin 1024) (n : Fin 3712) :
    (iblk m c 3 t : Vec Ideal S1024x3712 .bf16) (ix2 k n) = m ((c : Thread nD τ).loc main_arg3) (ix2 k n) := by
  obtain ⟨e0, e1⟩ := idx3 t
  unfold iblk
  rw [View.read_apply]
  show V m c main_arg3 _ = _
  rw [V_main_arg3]
  refine congrArg (m ((c : Thread nD τ).loc main_arg3)) ?_
  funext a; apply Fin.ext
  match a with
  | ⟨0, _⟩ => show win0_3.index t 0 * 1024 + 1 * k.val = k.val; rw [e0]; omega
  | ⟨1, _⟩ => show win0_3.index t 1 * 3712 + 1 * n.val = n.val; rw [e1]; omega

/-- The shift's row of a modulation block, as the body loads it. -/
def shV (x : Vec Ideal S1x6x1024 .f32) : Vec Ideal S1x1x1024 .f32 := View.ld x r0_2
/-- The scale's row of a modulation block, as the body loads it. -/
def scV (x : Vec Ideal S1x6x1024 .f32) : Vec Ideal S1x1x1024 .f32 := View.ld x r0_3
/-- The shift's row is row zero. -/
theorem shV_apply (x : Vec Ideal S1x6x1024 .f32) (k : Fin 1024) : shV x (ix3 0 0 k) = x (ix3 0 0 k) := by
  pointwise [shV]
/-- The scale's row is row one. -/
theorem scV_apply (x : Vec Ideal S1x6x1024 .f32) (k : Fin 1024) : scV x (ix3 0 0 k) = x (ix3 0 1 k) := by
  pointwise [scV]

/-- What the body leaves in the result's block is its one store. -/
theorem out_pay (x0 : Vec Ideal S1x512x1024 .f32) (x1 : Vec Ideal S1x6x1024 .f32) (x2 : Vec Ideal S1x1024 .f32) (x3 : Vec Ideal S1024x3712 .bf16) :
    out0_4 x0 x1 x2 x3 = k0_pay1 x0 x2 (shV x1) (scV x1) x3 := by
  unfold out0_4
  frame_out
  rfl

/-- That store at one place. -/
theorem out_eq (x0 : Vec Ideal S1x512x1024 .f32) (x1 : Vec Ideal S1x6x1024 .f32) (x2 : Vec Ideal S1x1024 .f32) (x3 : Vec Ideal S1024x3712 .bf16) (r : Fin 512) (n : Fin 3712) :
    (out0_4 x0 x1 x2 x3 (ix3 0 r n) : EReal)
      = ∑ k : Fin 1024, Norm.nrm (fun k => x0 (ix3 0 r k)) (fun k => x2 (ix2 0 k)) (fun k => x1 (ix3 0 1 k)) (fun k => x1 (ix3 0 0 k)) k * x3 (ix2 k n) := by
  rw [out_pay, pay_apply]
  simp only [shV_apply, scV_apply]

/-- The kernel's result at one place. -/
theorem res_apply (c : Dev nD) (b : Fin 8) (R : Fin 4096) (n : Fin 3712) :
    ((dats m 0 c).arrAt 4 cfg0.N (ix3 b R n) : EReal)
      = ∑ k : Fin 1024, Norm.nrm (fun k => m ((c : Thread nD τ).loc main_arg0) (ix3 b R k)) (fun k => m ((c : Thread nD τ).loc main_arg2) (ix1 k))
          (fun k => m ((c : Thread nD τ).loc main_arg1) (ix3 b 1 k)) (fun k => m ((c : Thread nD τ).loc main_arg1) (ix3 b 0 k)) k
        * m ((c : Thread nD τ).loc main_arg3) (ix2 k n) := by
  have hN : cfg0.N = 64 := N_0
  have hb := b.isLt
  have hR := R.isLt
  let t : Fin cfg0.N := ⟨b.val * 8 + R.val / 512, by omega⟩
  let r : Fin 512 := ⟨R.val % 512, by omega⟩
  have ht0 : b.val = t.val / 8 := by show b.val = (b.val * 8 + R.val / 512) / 8; omega
  have ht1 : R.val = t.val % 8 * 512 + r.val := by show R.val = (b.val * 8 + R.val / 512) % 8 * 512 + R.val % 512; omega
  obtain ⟨e0, e1, e2⟩ := idx4 t
  have hx := congrFun (blocks4 m c t (flush4 t)) (ix3 0 r n)
  rw [flushed4, View.read_apply] at hx
  have hi : ((cfg0.win 4).blk t).view.emb (ix3 0 r n) = ix3 b R n := by
    funext a; apply Fin.ext
    match a with
    | ⟨0, _⟩ => show win0_4.index t 0 * 1 + 1 * 0 = b.val; rw [e0]; omega
    | ⟨1, _⟩ => show win0_4.index t 1 * 512 + 1 * r.val = R.val; rw [e1]; omega
    | ⟨2, _⟩ => show win0_4.index t 2 * 3712 + 1 * n.val = n.val; rw [e2]; omega
  refine (congrArg ((dats m 0 c).arrAt 4 cfg0.N) hi).symm.trans (hx.trans ?_)
  refine (out_eq _ _ _ _ r n).trans ?_
  simp only [iblk0 m c t _ _ b R ht0 ht1, iblk1 m c t _ _ b ht0, iblk2, iblk3]

end Cert.Kernel3Ideal.Val
-- ==== Proof.PinRef.lean ====
module

public import proofs.«01_k».proof.Proof.Norm
public import proofs.«01_k».proof.Proof.Gen.Reference3Ideal.Run
public import Idealize.ShloMosaic.Lib.IdealHost
public import Idealize.ShloMosaic.Lib.Pointwise
public import Idealize.ShloMosaic.Lib.Tactic

@[expose] public section

set_option maxRecDepth 16384
noncomputable section
open Idealize.ShloMosaic Idealize.ShloMosaic.TcCoe Idealize.SL.Sem
namespace Cert.Reference3Ideal.Read
open Cert.Reference3Ideal Cert.Reference3Ideal.Gen Cert.Reference3Ideal.Value

/-- The reference's modulated norm, as an array. -/
def hid (x : FVec Ideal S8x4096x1024 .f32) (mo : FVec Ideal S8x6x1024 .f32) (g : FVec Ideal S1024 .f32) : FVec Ideal S8x4096x1024 .f32 :=
  addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 1, 0] mo slices_S8x6x1024_S8x1x1024_0_1_0)))) (broadcastInDim S8x4096x1024 ![0, 1, 2] bcast_S8x1x1024_S8x4096x1024_0_1_2 (extractStridedSlice S8x1x1024 ![0, 0, 0] mo slices_S8x6x1024_S8x1x1024_0_0_0))

/-- The reference's projection of it. -/
def proj (h : FVec Ideal S8x4096x1024 .f32) (w : FVec Ideal S1024x3712 .bf16) : FVec Ideal S8x4096x3712 .f32 :=
  Host.dotGeneral dot_S8x4096x1024_S1024x3712_S8x4096x3712_2_0_01_1_n_n none h (extf .f32 w bitsLt_bf16_f32)

/-- The modulated norm at one place is that of its row. -/
theorem hid_apply (x : FVec Ideal S8x4096x1024 .f32) (mo : FVec Ideal S8x6x1024 .f32) (g : FVec Ideal S1024 .f32) (b : Fin 8) (r : Fin 4096) (k : Fin 1024) :
    (hid x mo g (ix3 b r k) : EReal) = Norm.nrm (fun k => x (ix3 b r k)) (fun k => g (ix1 k)) (fun k => mo (ix3 b 1 k)) (fun k => mo (ix3 b 0 k)) k := by
  unfold Norm.nrm
  pointwise [hid]

/-- The projection at one place is a sum over the model dimension. -/
theorem proj_apply (h : FVec Ideal S8x4096x1024 .f32) (w : FVec Ideal S1024x3712 .bf16) (b : Fin 8) (r : Fin 4096) (n : Fin 3712) :
    (proj h w (ix3 b r n) : EReal) = ∑ k : Fin 1024, (h (ix3 b r k) : EReal) * w (ix2 k n) := by
  pointwise [proj]

end Cert.Reference3Ideal.Read
-- ==== Proof.PinTie.lean ====
module

public import proofs.«01_k».proof.Proof.PinKer
public import proofs.«01_k».proof.Proof.PinRef

@[expose] public section

set_option maxRecDepth 16384
noncomputable section
open Idealize.ShloMosaic Idealize.ShloMosaic.TcCoe Idealize.SL.Sem
namespace Cert.Kernel3Ideal.Val
open Cert.Kernel3Ideal Cert.Kernel3Ideal.Gen Cert.Kernel3Ideal.Value
variable (m : (ℓ : Loc nD τ sig) → Buf (Elt Ideal) ℓ)

/-- The kernel's result is the reference's. -/
theorem tie (c : Dev nD) : Cert.Reference3Ideal.Read.proj (Cert.Reference3Ideal.Read.hid (m ((c : Thread nD τ).loc main_arg0)) (m ((c : Thread nD τ).loc main_arg1)) (m ((c : Thread nD τ).loc main_arg2))) (m ((c : Thread nD τ).loc main_arg3))
    = (dats m 0 c).arrAt 4 cfg0.N := by
  funext j
  have hj : j = ix3 (j 0) (j 1) (j 2) := by
    funext a
    match a with
    | ⟨0, _⟩ => rfl
    | ⟨1, _⟩ => rfl
    | ⟨2, _⟩ => rfl
  rw [hj]
  refine Eq.trans ?_ (res_apply m c (j 0) (j 1) (j 2)).symm
  refine (Cert.Reference3Ideal.Read.proj_apply _ _ (j 0) (j 1) (j 2)).trans (Finset.sum_congr rfl fun k _ => ?_)
  exact congrArg (fun z : EReal => z * m ((c : Thread nD τ).loc main_arg3) (ix2 k (j 2))) (Cert.Reference3Ideal.Read.hid_apply _ _ _ (j 0) (j 1) k)

end Cert.Kernel3Ideal.Val
-- ==== Proof.Blocks.lean ====
module

public import proofs.«01_k».proof.Proof.Gen.KernelIdeal.Value
public import Idealize.ShloMosaic.Lib.Pointwise
public import Idealize.ShloMosaic.Lib.Tactic

@[expose] public section

set_option maxRecDepth 16384
noncomputable section
open Idealize.ShloMosaic Idealize.ShloMosaic.TcCoe Idealize.SL.Sem
namespace Cert.KernelIdeal.Val
open Cert.KernelIdeal Cert.KernelIdeal.Gen
variable (m : (ℓ : Loc nD τ sig) → Buf (Elt Ideal) ℓ)

/-- The query window's block numbers at a grid point. -/
theorem idx0 : ∀ t : Fin cfg0.N, win0_0.index t (0 : Fin 5) = t.val / 32 ∧ win0_0.index t (1 : Fin 5) = t.val / 16 % 2 ∧ win0_0.index t (2 : Fin 5) = 0
    ∧ win0_0.index t (3 : Fin 5) = t.val / 2 % 8 ∧ win0_0.index t (4 : Fin 5) = 0 :=
  (by decide +kernel : ∀ t : Fin grid0.N, _)
/-- The key window's block numbers at a grid point. -/
theorem idx1 : ∀ t : Fin cfg0.N, win0_1.index t (0 : Fin 4) = t.val / 32 ∧ win0_1.index t (1 : Fin 4) = t.val / 16 % 2 ∧ win0_1.index t (2 : Fin 4) = 0
    ∧ win0_1.index t (3 : Fin 4) = t.val % 2 :=
  (by decide +kernel : ∀ t : Fin grid0.N, _)
/-- The value window's block numbers at a grid point. -/
theorem idx2 : ∀ t : Fin cfg0.N, win0_2.index t (0 : Fin 4) = t.val / 32 ∧ win0_2.index t (1 : Fin 4) = t.val / 16 % 2 ∧ win0_2.index t (2 : Fin 4) = t.val % 2
    ∧ win0_2.index t (3 : Fin 4) = 0 :=
  (by decide +kernel : ∀ t : Fin grid0.N, _)
/-- The lambda parameters' window is the whole array. -/
theorem idx3 : ∀ t : Fin cfg0.N, win0_3.index t (0 : Fin 2) = 0 ∧ win0_3.index t (1 : Fin 2) = 0 :=
  (by decide +kernel : ∀ t : Fin grid0.N, _)
/-- The gain's window is the whole array. -/
theorem idx4 : ∀ t : Fin cfg0.N, win0_4.index t (0 : Fin 2) = 0 ∧ win0_4.index t (1 : Fin 2) = 0 :=
  (by decide +kernel : ∀ t : Fin grid0.N, _)

/-- A query block read at one place. -/
theorem iblk0 (c : Dev nD) (t : Fin cfg0.N) (h w : Fin 2) (r : Fin 512) (d : Fin 64) (b : Fin 8) (H : Fin 4) (R : Fin 4096)
    (hb : b.val = t.val / 32) (hH : H.val = t.val / 16 % 2 * 2 + h.val) (hR : R.val = t.val / 2 % 8 * 512 + r.val) :
    (iblk m c 0 t : Vec Ideal S1x2x2x512x64 .bf16) (ix5 0 h w r d) = m ((c : Thread nD τ).loc main_arg0) (ix5 b H w R d) := by
  obtain ⟨e0, e1, e2, e3, e4⟩ := idx0 t
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t 0 * 1 + 1 * 0 = b.val; rw [e0]; omega
  | ⟨1, _⟩ => show win0_0.index t 1 * 2 + 1 * h.val = H.val; rw [e1]; omega
  | ⟨2, _⟩ => show win0_0.index t 2 * 2 + 1 * w.val = w.val; rw [e2]; omega
  | ⟨3, _⟩ => show win0_0.index t 3 * 512 + 1 * r.val = R.val; rw [e3]; omega
  | ⟨4, _⟩ => show win0_0.index t 4 * 64 + 1 * d.val = d.val; rw [e4]; omega

/-- A key block read at one place. -/
theorem iblk1 (c : Dev nD) (t : Fin cfg0.N) (h : Fin 2) (d : Fin 64) (k : Fin 2304) (b : Fin 8) (H : Fin 4) (K : Fin 4608)
    (hb : b.val = t.val / 32) (hH : H.val = t.val / 16 % 2 * 2 + h.val) (hK : K.val = t.val % 2 * 2304 + k.val) :
    (iblk m c 1 t : Vec Ideal S1x2x64x2304 .bf16) (ix4 0 h d k) = m ((c : Thread nD τ).loc main_arg1) (ix4 b H d K) := by
  obtain ⟨e0, e1, e2, e3⟩ := idx1 t
  unfold iblk
  rw [View.read_apply]
  show V m c main_arg1 _ = _
  rw [V_main_arg1]
  refine congrArg (m ((c : Thread nD τ).loc main_arg1)) ?_
  funext a; apply Fin.ext
  match a with
  | ⟨0, _⟩ => show win0_1.index t 0 * 1 + 1 * 0 = b.val; rw [e0]; omega
  | ⟨1, _⟩ => show win0_1.index t 1 * 2 + 1 * h.val = H.val; rw [e1]; omega
  | ⟨2, _⟩ => show win0_1.index t 2 * 64 + 1 * d.val = d.val; rw [e2]; omega
  | ⟨3, _⟩ => show win0_1.index t 3 * 2304 + 1 * k.val = K.val; rw [e3]; omega

/-- A value block read at one place. -/
theorem iblk2 (c : Dev nD) (t : Fin cfg0.N) (h : Fin 2) (k : Fin 2304) (l : Fin 128) (b : Fin 8) (H : Fin 4) (K : Fin 4608)
    (hb : b.val = t.val / 32) (hH : H.val = t.val / 16 % 2 * 2 + h.val) (hK : K.val = t.val % 2 * 2304 + k.val) :
    (iblk m c 2 t : Vec Ideal S1x2x2304x128 .bf16) (ix4 0 h k l) = m ((c : Thread nD τ).loc main_arg2) (ix4 b H K l) := by
  obtain ⟨e0, e1, e2, e3⟩ := idx2 t
  unfold iblk
  rw [View.read_apply]
  show V m c main_arg2 _ = _
  rw [V_main_arg2]
  refine congrArg (m ((c : Thread nD τ).loc main_arg2)) ?_
  funext a; apply Fin.ext
  match a with
  | ⟨0, _⟩ => show win0_2.index t 0 * 1 + 1 * 0 = b.val; rw [e0]; omega
  | ⟨1, _⟩ => show win0_2.index t 1 * 2 + 1 * h.val = H.val; rw [e1]; omega
  | ⟨2, _⟩ => show win0_2.index t 2 * 2304 + 1 * k.val = K.val; rw [e2]; omega
  | ⟨3, _⟩ => show win0_2.index t 3 * 128 + 1 * l.val = l.val; rw [e3]; omega

/-- The lambda parameters read at one place. -/
theorem iblk3 (c : Dev nD) (t : Fin cfg0.N) (i : Fin 4) (x : Fin 32) :
    (iblk m c 3 t : Vec Ideal S4x32 .f32) (ix2 i x) = m ((c : Thread nD τ).loc main_arg3) (ix2 i x) := by
  obtain ⟨e0, e1⟩ := idx3 t
  unfold iblk
  rw [View.read_apply]
  show V m c main_arg3 _ = _
  rw [V_main_arg3]
  refine congrArg (m ((c : Thread nD τ).loc main_arg3)) ?_
  funext a; apply Fin.ext
  match a with
  | ⟨0, _⟩ => show win0_3.index t 0 * 4 + 1 * i.val = i.val; rw [e0]; omega
  | ⟨1, _⟩ => show win0_3.index t 1 * 32 + 1 * x.val = x.val; rw [e1]; omega

/-- The gain as the region finds it: the argument, reshaped by the host. -/
theorem V_gain (c : Dev nD) : V m c main_v0 = shapeCast S1x64 (m ((c : Thread nD τ).loc main_arg4)) shapeCasts_S64_S1x64 := rfl

/-- The gain read at one place. -/
theorem iblk4 (c : Dev nD) (t : Fin cfg0.N) (e : Fin 64) :
    (iblk m c 4 t : Vec Ideal S1x64 .f32) (ix2 0 e) = m ((c : Thread nD τ).loc main_arg4) (ix1 e) := by
  obtain ⟨e0, e1⟩ := idx4 t
  unfold iblk
  rw [View.read_apply]
  show V m c main_v0 _ = _
  rw [V_gain]
  have hj : ∀ j : S1x64.Idx, j = ix2 0 e → shapeCast S1x64 (m ((c : Thread nD τ).loc main_arg4)) shapeCasts_S64_S1x64 j = m ((c : Thread nD τ).loc main_arg4) (ix1 e) := by
    rintro j rfl
    generalize m ((c : Thread nD τ).loc main_arg4) = g
    change Vec Ideal S64 .f32 at g
    pointwise
  apply hj
  funext a; apply Fin.ext
  match a with
  | ⟨0, _⟩ => show win0_4.index t 0 * 1 + 1 * 0 = 0; rw [e0]
  | ⟨1, _⟩ => show win0_4.index t 1 * 64 + 1 * e.val = e.val; rw [e1]; omega

end Cert.KernelIdeal.Val
-- ==== Proof.Slot.lean ====
module

public import proofs.«01_k».proof.Proof.Gen.KernelIdeal.Value
public import Idealize.ShloMosaic.Lib.Pointwise
public import Idealize.ShloMosaic.Lib.Tactic

@[expose] public section

set_option maxRecDepth 16384
noncomputable section
open Idealize.ShloMosaic Idealize.ShloMosaic.TcCoe Idealize.SL.Sem
namespace Cert.KernelIdeal.Val
open Cert.KernelIdeal Cert.KernelIdeal.Gen

/-- The new running maximum of one head and softmax, as the kernel stores it. -/
def mS (s : Vec Ideal S512x2304 .f32) (mo : Vec Ideal S1x1x512x128 .f32) : Vec Ideal S1x1x512x128 .f32 :=
  k0_pay30 (k0_pay19 s mo)

/-- The new accumulator of one head and softmax, as the kernel stores it. -/
def aS (s : Vec Ideal S512x2304 .f32) (mo : Vec Ideal S1x1x512x128 .f32) (v : Vec Ideal S1x1x2304x128 .bf16)
    (ao : Vec Ideal S1x1x512x128 .f32) : Vec Ideal S1x1x512x128 .f32 :=
  k0_pay29 (k0_pay28 (k0_pay15 mo) (k0_pay19 s mo) (k0_pay23 s mo) v ao)

/-- The four heads' and softmaxes' stores compute the same functions. -/
theorem mS01 (s : Vec Ideal S512x2304 .f32) (mo : Vec Ideal S1x1x512x128 .f32) : k0_pay32 (k0_pay20 s mo) = mS s mo := rfl
/-- The third running maximum is the same function. -/
theorem mS10 (s : Vec Ideal S512x2304 .f32) (mo : Vec Ideal S1x1x512x128 .f32) : k0_pay1 (k0_pay21 s mo) = mS s mo := rfl
/-- The fourth running maximum is the same function. -/
theorem mS11 (q : Vec Ideal S1x1x1x512x64 .bf16) (kt : Vec Ideal S1x1x64x2304 .bf16) (mo : Vec Ideal S1x1x512x128 .f32) :
    k0_pay3 (k0_pay22 q kt mo) = mS (k0_pay11 q kt) mo := rfl
/-- The second accumulator is the same function. -/
theorem aS01 (s : Vec Ideal S512x2304 .f32) (mo : Vec Ideal S1x1x512x128 .f32) (v : Vec Ideal S1x1x2304x128 .bf16)
    (ao : Vec Ideal S1x1x512x128 .f32) : k0_pay31 (k0_pay16 mo) (k0_pay20 s mo) (k0_pay25 s (k0_pay24 s mo) v) ao = aS s mo v ao := rfl
/-- The third accumulator is the same function. -/
theorem aS10 (s : Vec Ideal S512x2304 .f32) (mo : Vec Ideal S1x1x512x128 .f32) (v : Vec Ideal S1x1x2304x128 .bf16)
    (ao : Vec Ideal S1x1x512x128 .f32) : k0_pay33 (k0_pay17 mo) (k0_pay21 s mo) (k0_pay26 s (k0_pay21 s mo) v) ao = aS s mo v ao := rfl
/-- The fourth accumulator is the same function. -/
theorem aS11 (q : Vec Ideal S1x1x1x512x64 .bf16) (kt : Vec Ideal S1x1x64x2304 .bf16) (mo : Vec Ideal S1x1x512x128 .f32)
    (v : Vec Ideal S1x1x2304x128 .bf16) (ao : Vec Ideal S1x1x512x128 .f32) :
    k0_pay2 (k0_pay18 mo) (k0_pay22 q kt mo) (k0_pay27 (k0_pay14 q kt) (k0_pay22 q kt mo) v) ao = aS (k0_pay11 q kt) mo v ao := rfl

/-- A score of a block is the sum over the head dimension of query times key. -/
theorem s_apply (q : Vec Ideal S1x1x1x512x64 .bf16) (kt : Vec Ideal S1x1x64x2304 .bf16) (r : Fin 512) (k : Fin 2304) :
    (k0_pay11 q kt (ix2 r k) : EReal) = ∑ d : Fin 64, (q (ix5 0 0 0 r d) : EReal) * kt (ix4 0 0 d k) := by
  pointwise [k0_pay11]

/-- The new running maximum before its shape cast. -/
theorem m_apply (s : Vec Ideal S512x2304 .f32) (mo : Vec Ideal S1x1x512x128 .f32) (r : Fin 512) (l : Fin 128) :
    (k0_pay19 s mo (ix2 r l) : EReal) = max (mo (ix4 0 0 r l)) (Finset.fold max (Ideal.ofBits FTy.f32 4286578688#32) (fun x => (s (ix2 r x) : EReal)) Finset.univ) := by
  pointwise [k0_pay19, k0_pay15]

/-- The new running maximum at one index. -/
theorem mS_apply (s : Vec Ideal S512x2304 .f32) (mo : Vec Ideal S1x1x512x128 .f32) (r : Fin 512) (l : Fin 128) :
    (mS s mo (ix4 0 0 r l) : EReal) = max (mo (ix4 0 0 r l)) (Finset.fold max (Ideal.ofBits FTy.f32 4286578688#32) (fun x => (s (ix2 r x) : EReal)) Finset.univ) := by
  rw [← m_apply]
  unfold mS
  generalize k0_pay19 s mo = M
  pointwise [k0_pay30]

/-- The new accumulator at one index, over the new running maximum. -/
theorem aS_apply (s : Vec Ideal S512x2304 .f32) (mo : Vec Ideal S1x1x512x128 .f32) (v : Vec Ideal S1x1x2304x128 .bf16)
    (ao : Vec Ideal S1x1x512x128 .f32) (r : Fin 512) (l : Fin 128) :
    (aS s mo v ao (ix4 0 0 r l) : EReal) = Ideal.exp (mo (ix4 0 0 r l) - mS s mo (ix4 0 0 r l)) * ao (ix4 0 0 r l)
      + ∑ x : Fin 2304, Ideal.exp (s (ix2 r x) - mS s mo (ix4 0 0 r 0)) * v (ix4 0 0 x l) := by
  rw [mS_apply, mS_apply, ← m_apply, ← m_apply]
  unfold aS k0_pay23
  generalize k0_pay19 s mo = M
  pointwise [k0_pay29, k0_pay28, k0_pay15]

end Cert.KernelIdeal.Val
-- ==== Proof.Step.lean ====
module

public import proofs.«01_k».proof.Proof.Slot
public import Idealize.ShloMosaic.Lib.Pipeline.ReadBack
public import Idealize.ShloMosaic.Lib.Pipeline.ValueKit.Tiles

@[expose] public section

set_option maxRecDepth 16384
noncomputable section
open Idealize.ShloMosaic Idealize.ShloMosaic.TcCoe Idealize.SL.Sem
namespace Cert.KernelIdeal.Val
open Cert.KernelIdeal Cert.KernelIdeal.Gen

/-- A score of a block: head `h`, softmax `w`, query row `r`, key `k`. -/
def sB (x0 : Vec Ideal S1x2x2x512x64 .bf16) (x1 : Vec Ideal S1x2x64x2304 .bf16) (h w : Fin 2) (r : Fin 512) (k : Fin 2304) : EReal :=
  ∑ d : Fin 64, (x0 (ix5 0 h w r d) : EReal) * x1 (ix4 0 h d k)

/-- The running maximum after a block, over the one before it. -/
def mF (x0 : Vec Ideal S1x2x2x512x64 .bf16) (x1 : Vec Ideal S1x2x64x2304 .bf16) (m0 : Vec Ideal S2x2x512x128 .f32)
    (h w : Fin 2) (r : Fin 512) (l : Fin 128) : EReal :=
  max (m0 (ix4 h w r l)) (Finset.fold max (Ideal.ofBits FTy.f32 4286578688#32) (fun k => sB x0 x1 h w r k) Finset.univ)

/-- The accumulator after a block, over the maximum and the accumulator before it. -/
def aF (x0 : Vec Ideal S1x2x2x512x64 .bf16) (x1 : Vec Ideal S1x2x64x2304 .bf16) (x2 : Vec Ideal S1x2x2304x128 .bf16)
    (m0 a0 : Vec Ideal S2x2x512x128 .f32) (h w : Fin 2) (r : Fin 512) (l : Fin 128) : EReal :=
  Ideal.exp (m0 (ix4 h w r l) - mF x0 x1 m0 h w r l) * a0 (ix4 h w r l)
    + ∑ k : Fin 2304, Ideal.exp (sB x0 x1 h w r k - mF x0 x1 m0 h w r 0) * x2 (ix4 0 h k l)

/-- The running maximum as a whole scratch array. -/
def mG (x0 : Vec Ideal S1x2x2x512x64 .bf16) (x1 : Vec Ideal S1x2x64x2304 .bf16) (m0 : Vec Ideal S2x2x512x128 .f32) :
    Vec Ideal S2x2x512x128 .f32 := fun j => mF x0 x1 m0 (j 0) (j 1) (j 2) (j 3)

/-- The accumulator as a whole scratch array. -/
def aG (x0 : Vec Ideal S1x2x2x512x64 .bf16) (x1 : Vec Ideal S1x2x64x2304 .bf16) (x2 : Vec Ideal S1x2x2304x128 .bf16)
    (m0 a0 : Vec Ideal S2x2x512x128 .f32) : Vec Ideal S2x2x512x128 .f32 := fun j => aF x0 x1 x2 m0 a0 (j 0) (j 1) (j 2) (j 3)

/-- A place of a scratch slot in the scratch array. -/
theorem slot_emb (h w : Fin 2) (inb : ∀ a, (![h.val, w.val, 0, 0] : Fin 4 → ℕ) a + (![1, 1, 512, 128] : Fin 4 → ℕ) a ≤ S2x2x512x128.size a)
    (r : Fin 512) (l : Fin 128) :
    (Rect.unit (s := S2x2x512x128) ![h.val, w.val, 0, 0] ![1, 1, 512, 128] inb).idx (ix4 0 0 r l) = ix4 h w r l := by
  funext a; apply Fin.ext
  match a with
  | ⟨0, _⟩ => show h.val + 1 * 0 = h.val; omega
  | ⟨1, _⟩ => show w.val + 1 * 0 = w.val; omega
  | ⟨2, _⟩ => show 0 + 1 * r.val = r.val; omega
  | ⟨3, _⟩ => show 0 + 1 * l.val = l.val; omega

/-- A slot of the scratch array, read. -/
theorem slot_ld (X : Vec Ideal S2x2x512x128 .f32) (h w : Fin 2) (inb : ∀ a, (![h.val, w.val, 0, 0] : Fin 4 → ℕ) a + (![1, 1, 512, 128] : Fin 4 → ℕ) a ≤ S2x2x512x128.size a)
    (r : Fin 512) (l : Fin 128) :
    View.ld X (Rect.unit (s := S2x2x512x128) ![h.val, w.val, 0, 0] ![1, 1, 512, 128] inb) (ix4 0 0 r l) = X (ix4 h w r l) :=
  congrArg X (slot_emb h w inb r l)

/-- The queries of one head and softmax, read from the block. -/
theorem q_ld (X : Vec Ideal S1x2x2x512x64 .bf16) (h w : Fin 2) (inb : ∀ a, (![0, h.val, w.val, 0, 0] : Fin 5 → ℕ) a + (![1, 1, 1, 512, 64] : Fin 5 → ℕ) a ≤ S1x2x2x512x64.size a)
    (r : Fin 512) (d : Fin 64) :
    View.ld X (Rect.unit (s := S1x2x2x512x64) ![0, h.val, w.val, 0, 0] ![1, 1, 1, 512, 64] inb) (ix5 0 0 0 r d) = X (ix5 0 h w r d) := by
  refine congrArg X ?_
  funext a; apply Fin.ext
  match a with
  | ⟨0, _⟩ => rfl
  | ⟨1, _⟩ => show h.val + 1 * 0 = h.val; omega
  | ⟨2, _⟩ => show w.val + 1 * 0 = w.val; omega
  | ⟨3, _⟩ => show 0 + 1 * r.val = r.val; omega
  | ⟨4, _⟩ => show 0 + 1 * d.val = d.val; omega

/-- The keys of one head, read from the block. -/
theorem k_ld (X : Vec Ideal S1x2x64x2304 .bf16) (h : Fin 2) (inb : ∀ a, (![0, h.val, 0, 0] : Fin 4 → ℕ) a + (![1, 1, 64, 2304] : Fin 4 → ℕ) a ≤ S1x2x64x2304.size a)
    (d : Fin 64) (k : Fin 2304) :
    View.ld X (Rect.unit (s := S1x2x64x2304) ![0, h.val, 0, 0] ![1, 1, 64, 2304] inb) (ix4 0 0 d k) = X (ix4 0 h d k) := by
  refine congrArg X ?_
  funext a; apply Fin.ext
  match a with
  | ⟨0, _⟩ => rfl
  | ⟨1, _⟩ => show h.val + 1 * 0 = h.val; omega
  | ⟨2, _⟩ => show 0 + 1 * d.val = d.val; omega
  | ⟨3, _⟩ => show 0 + 1 * k.val = k.val; omega

/-- The values of one head, read from the block. -/
theorem v_ld (X : Vec Ideal S1x2x2304x128 .bf16) (h : Fin 2) (inb : ∀ a, (![0, h.val, 0, 0] : Fin 4 → ℕ) a + (![1, 1, 2304, 128] : Fin 4 → ℕ) a ≤ S1x2x2304x128.size a)
    (k : Fin 2304) (l : Fin 128) :
    View.ld X (Rect.unit (s := S1x2x2304x128) ![0, h.val, 0, 0] ![1, 1, 2304, 128] inb) (ix4 0 0 k l) = X (ix4 0 h k l) := by
  refine congrArg X ?_
  funext a; apply Fin.ext
  match a with
  | ⟨0, _⟩ => rfl
  | ⟨1, _⟩ => show h.val + 1 * 0 = h.val; omega
  | ⟨2, _⟩ => show 0 + 1 * k.val = k.val; omega
  | ⟨3, _⟩ => show 0 + 1 * l.val = l.val; omega

/-- The scores a slot's store works on are the block's scores. -/
theorem s_ld (x0 : Vec Ideal S1x2x2x512x64 .bf16) (x1 : Vec Ideal S1x2x64x2304 .bf16) (h w : Fin 2)
    (iq : ∀ a, (![0, h.val, w.val, 0, 0] : Fin 5 → ℕ) a + (![1, 1, 1, 512, 64] : Fin 5 → ℕ) a ≤ S1x2x2x512x64.size a)
    (ik : ∀ a, (![0, h.val, 0, 0] : Fin 4 → ℕ) a + (![1, 1, 64, 2304] : Fin 4 → ℕ) a ≤ S1x2x64x2304.size a) (r : Fin 512) (k : Fin 2304) :
    (k0_pay11 (View.ld x0 (Rect.unit (s := S1x2x2x512x64) ![0, h.val, w.val, 0, 0] ![1, 1, 1, 512, 64] iq))
      (View.ld x1 (Rect.unit (s := S1x2x64x2304) ![0, h.val, 0, 0] ![1, 1, 64, 2304] ik)) (ix2 r k) : EReal) = sB x0 x1 h w r k := by
  rw [s_apply]
  exact Finset.sum_congr rfl fun d _ => congrArg₂ (fun a b : EReal => a * b) (q_ld x0 h w iq r d) (k_ld x1 h ik d k)

/-- A slot's new maximum at one place. -/
theorem m_slot (x0 : Vec Ideal S1x2x2x512x64 .bf16) (x1 : Vec Ideal S1x2x64x2304 .bf16) (m0 : Vec Ideal S2x2x512x128 .f32) (h w : Fin 2)
    (iq : ∀ a, (![0, h.val, w.val, 0, 0] : Fin 5 → ℕ) a + (![1, 1, 1, 512, 64] : Fin 5 → ℕ) a ≤ S1x2x2x512x64.size a)
    (ik : ∀ a, (![0, h.val, 0, 0] : Fin 4 → ℕ) a + (![1, 1, 64, 2304] : Fin 4 → ℕ) a ≤ S1x2x64x2304.size a)
    (im : ∀ a, (![h.val, w.val, 0, 0] : Fin 4 → ℕ) a + (![1, 1, 512, 128] : Fin 4 → ℕ) a ≤ S2x2x512x128.size a) (r : Fin 512) (l : Fin 128) :
    (mS (k0_pay11 (View.ld x0 (Rect.unit (s := S1x2x2x512x64) ![0, h.val, w.val, 0, 0] ![1, 1, 1, 512, 64] iq))
      (View.ld x1 (Rect.unit (s := S1x2x64x2304) ![0, h.val, 0, 0] ![1, 1, 64, 2304] ik)))
      (View.ld m0 (Rect.unit (s := S2x2x512x128) ![h.val, w.val, 0, 0] ![1, 1, 512, 128] im)) (ix4 0 0 r l) : EReal) = mF x0 x1 m0 h w r l := by
  rw [mS_apply]
  unfold mF
  exact congrArg₂ max (slot_ld m0 h w im r l) (congrArg (fun f => Finset.fold max (Ideal.ofBits FTy.f32 4286578688#32) f Finset.univ) (funext fun k => s_ld x0 x1 h w iq ik r k))

/-- A slot's new accumulator at one place. -/
theorem a_slot (x0 : Vec Ideal S1x2x2x512x64 .bf16) (x1 : Vec Ideal S1x2x64x2304 .bf16) (x2 : Vec Ideal S1x2x2304x128 .bf16) (m0 a0 : Vec Ideal S2x2x512x128 .f32) (h w : Fin 2)
    (iq : ∀ a, (![0, h.val, w.val, 0, 0] : Fin 5 → ℕ) a + (![1, 1, 1, 512, 64] : Fin 5 → ℕ) a ≤ S1x2x2x512x64.size a)
    (ik : ∀ a, (![0, h.val, 0, 0] : Fin 4 → ℕ) a + (![1, 1, 64, 2304] : Fin 4 → ℕ) a ≤ S1x2x64x2304.size a)
    (iv : ∀ a, (![0, h.val, 0, 0] : Fin 4 → ℕ) a + (![1, 1, 2304, 128] : Fin 4 → ℕ) a ≤ S1x2x2304x128.size a)
    (im : ∀ a, (![h.val, w.val, 0, 0] : Fin 4 → ℕ) a + (![1, 1, 512, 128] : Fin 4 → ℕ) a ≤ S2x2x512x128.size a) (r : Fin 512) (l : Fin 128) :
    (aS (k0_pay11 (View.ld x0 (Rect.unit (s := S1x2x2x512x64) ![0, h.val, w.val, 0, 0] ![1, 1, 1, 512, 64] iq))
      (View.ld x1 (Rect.unit (s := S1x2x64x2304) ![0, h.val, 0, 0] ![1, 1, 64, 2304] ik)))
      (View.ld m0 (Rect.unit (s := S2x2x512x128) ![h.val, w.val, 0, 0] ![1, 1, 512, 128] im))
      (View.ld x2 (Rect.unit (s := S1x2x2304x128) ![0, h.val, 0, 0] ![1, 1, 2304, 128] iv))
      (View.ld a0 (Rect.unit (s := S2x2x512x128) ![h.val, w.val, 0, 0] ![1, 1, 512, 128] im)) (ix4 0 0 r l) : EReal) = aF x0 x1 x2 m0 a0 h w r l := by
  rw [aS_apply, m_slot, m_slot]
  unfold aF
  refine congrArg₂ (fun a b : EReal => a + b) (congrArg₂ (fun a b : EReal => Ideal.exp (a - mF x0 x1 m0 h w r l) * b) (slot_ld m0 h w im r l) (slot_ld a0 h w im r l)) ?_
  exact Finset.sum_congr rfl fun k _ => congrArg₂ (fun a b : EReal => Ideal.exp (a - mF x0 x1 m0 h w r 0) * b) (s_ld x0 x1 h w iq ik r k) (v_ld x2 h iv k l)

/-- Every place of a slot is a row and a lane. -/
theorem slot_eta (x : S1x1x512x128.Idx) : x = ix4 0 0 (x 2) (x 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- A slot's new maximum is its block of the new maximum array. -/
theorem m_piece (x0 : Vec Ideal S1x2x2x512x64 .bf16) (x1 : Vec Ideal S1x2x64x2304 .bf16) (m0 : Vec Ideal S2x2x512x128 .f32) (h w : Fin 2)
    (iq : ∀ a, (![0, h.val, w.val, 0, 0] : Fin 5 → ℕ) a + (![1, 1, 1, 512, 64] : Fin 5 → ℕ) a ≤ S1x2x2x512x64.size a)
    (ik : ∀ a, (![0, h.val, 0, 0] : Fin 4 → ℕ) a + (![1, 1, 64, 2304] : Fin 4 → ℕ) a ≤ S1x2x64x2304.size a)
    (im : ∀ a, (![h.val, w.val, 0, 0] : Fin 4 → ℕ) a + (![1, 1, 512, 128] : Fin 4 → ℕ) a ≤ S2x2x512x128.size a) (x : S1x1x512x128.Idx) :
    mS (k0_pay11 (View.ld x0 (Rect.unit (s := S1x2x2x512x64) ![0, h.val, w.val, 0, 0] ![1, 1, 1, 512, 64] iq))
      (View.ld x1 (Rect.unit (s := S1x2x64x2304) ![0, h.val, 0, 0] ![1, 1, 64, 2304] ik)))
      (View.ld m0 (Rect.unit (s := S2x2x512x128) ![h.val, w.val, 0, 0] ![1, 1, 512, 128] im)) x
      = mG x0 x1 m0 ((Rect.unit (s := S2x2x512x128) ![h.val, w.val, 0, 0] ![1, 1, 512, 128] im).emb x) := by
  rw [slot_eta x]
  refine (m_slot x0 x1 m0 h w iq ik im (x 2) (x 3)).trans ?_
  exact congrArg (mG x0 x1 m0) (slot_emb h w im (x 2) (x 3)).symm

/-- A slot's new accumulator is its block of the new accumulator array. -/
theorem a_piece (x0 : Vec Ideal S1x2x2x512x64 .bf16) (x1 : Vec Ideal S1x2x64x2304 .bf16) (x2 : Vec Ideal S1x2x2304x128 .bf16) (m0 a0 : Vec Ideal S2x2x512x128 .f32) (h w : Fin 2)
    (iq : ∀ a, (![0, h.val, w.val, 0, 0] : Fin 5 → ℕ) a + (![1, 1, 1, 512, 64] : Fin 5 → ℕ) a ≤ S1x2x2x512x64.size a)
    (ik : ∀ a, (![0, h.val, 0, 0] : Fin 4 → ℕ) a + (![1, 1, 64, 2304] : Fin 4 → ℕ) a ≤ S1x2x64x2304.size a)
    (iv : ∀ a, (![0, h.val, 0, 0] : Fin 4 → ℕ) a + (![1, 1, 2304, 128] : Fin 4 → ℕ) a ≤ S1x2x2304x128.size a)
    (im : ∀ a, (![h.val, w.val, 0, 0] : Fin 4 → ℕ) a + (![1, 1, 512, 128] : Fin 4 → ℕ) a ≤ S2x2x512x128.size a) (x : S1x1x512x128.Idx) :
    aS (k0_pay11 (View.ld x0 (Rect.unit (s := S1x2x2x512x64) ![0, h.val, w.val, 0, 0] ![1, 1, 1, 512, 64] iq))
      (View.ld x1 (Rect.unit (s := S1x2x64x2304) ![0, h.val, 0, 0] ![1, 1, 64, 2304] ik)))
      (View.ld m0 (Rect.unit (s := S2x2x512x128) ![h.val, w.val, 0, 0] ![1, 1, 512, 128] im))
      (View.ld x2 (Rect.unit (s := S1x2x2304x128) ![0, h.val, 0, 0] ![1, 1, 2304, 128] iv))
      (View.ld a0 (Rect.unit (s := S2x2x512x128) ![h.val, w.val, 0, 0] ![1, 1, 512, 128] im)) x
      = aG x0 x1 x2 m0 a0 ((Rect.unit (s := S2x2x512x128) ![h.val, w.val, 0, 0] ![1, 1, 512, 128] im).emb x) := by
  rw [slot_eta x]
  refine (a_slot x0 x1 x2 m0 a0 h w iq ik iv im (x 2) (x 3)).trans ?_
  exact congrArg (aG x0 x1 x2 m0 a0) (slot_emb h w im (x 2) (x 3)).symm

/-- Every place of the scratch array lies in one of its four slots. -/
theorem slot_cover (y : S2x2x512x128.Idx) (im : ∀ a, (![(y 0).val, (y 1).val, 0, 0] : Fin 4 → ℕ) a + (![1, 1, 512, 128] : Fin 4 → ℕ) a ≤ S2x2x512x128.size a) :
    y ∈ (Rect.unit (s := S2x2x512x128) ![(y 0).val, (y 1).val, 0, 0] ![1, 1, 512, 128] im).set := by
  rw [Rect.mem_set_unit]
  have h2 : (y 2).val < 512 := (y 2).isLt
  have h3 : (y 3).val < 128 := (y 3).isLt
  intro a
  match a with
  | ⟨0, _⟩ => show (y 0).val ≤ (y 0).val ∧ (y 0).val < (y 0).val + 1; omega
  | ⟨1, _⟩ => show (y 1).val ≤ (y 1).val ∧ (y 1).val < (y 1).val + 1; omega
  | ⟨2, _⟩ => show 0 ≤ (y 2).val ∧ (y 2).val < 0 + 512; omega
  | ⟨3, _⟩ => show 0 ≤ (y 3).val ∧ (y 3).val < 0 + 128; omega

end Cert.KernelIdeal.Val
-- ==== Proof.CaseA.lean ====
module

public import proofs.«01_k».proof.Proof.Step

@[expose] public section

set_option maxRecDepth 16384
noncomputable section
open Idealize.ShloMosaic Idealize.ShloMosaic.TcCoe Idealize.SL.Sem
namespace Cert.KernelIdeal.Val
open Cert.KernelIdeal Cert.KernelIdeal.Gen

variable (c : Dev nD) (i : grid0.Coords) (arg4 : Memref sig .tc .vmem S1x2x2x512x64 .bf16) (harg4 : arg4.IsWhole) (arg5 : Memref sig .tc .vmem S1x2x64x2304 .bf16) (harg5 : arg5.IsWhole) (arg6 : Memref sig .tc .vmem S1x2x2304x128 .bf16) (harg6 : arg6.IsWhole) (arg7 : Memref sig .tc .vmem S4x32 .f32) (harg7 : arg7.IsWhole) (arg8 : Memref sig .tc .vmem S1x64 .f32) (harg8 : arg8.IsWhole) (arg9 : Memref sig .tc .vmem S1x2x512x64 .f32) (harg9 : arg9.IsWhole) (arg10 : Memref sig .tc .vmem S2x2x512x128 .f32) (harg10 : arg10.IsWhole) (arg11 : Memref sig .tc .vmem S2x2x512x128 .f32) (harg11 : arg11.IsWhole)
  (x0 : Vec Ideal S1x2x2x512x64 .bf16) (x1 : Vec Ideal S1x2x64x2304 .bf16) (x2 : Vec Ideal S1x2x2304x128 .bf16) (x3 : Vec Ideal S4x32 .f32) (x4 : Vec Ideal S1x64 .f32) (xs0 : Vec Ideal S2x2x512x128 .f32) (xs1 : Vec Ideal S2x2x512x128 .f32)

/-- Every place of the scratch array lies in one of the four slots. -/
theorem cover4 (y : S2x2x512x128.Idx)  :
    y ∈ (Rect.unit (s := S2x2x512x128) ![1, 1, 0, 0] ![1, 1, 512, 128] inb_S2x2x512x128_S1x1x512x128_1_1_0_0).set
    ∨ y ∈ (Rect.unit (s := S2x2x512x128) ![1, 0, 0, 0] ![1, 1, 512, 128] inb_S2x2x512x128_S1x1x512x128_1_0_0_0).set
    ∨ y ∈ (Rect.unit (s := S2x2x512x128) ![0, 1, 0, 0] ![1, 1, 512, 128] inb_S2x2x512x128_S1x1x512x128_0_1_0_0).set
    ∨ y ∈ (Rect.unit (s := S2x2x512x128) ![0, 0, 0, 0] ![1, 1, 512, 128] inb_S2x2x512x128_S1x1x512x128_0_0_0_0).set := by
  have h0 : (y 0).val < 2 := (y 0).isLt
  have h1 : (y 1).val < 2 := (y 1).isLt
  have h := slot_cover y
  generalize (y 0).val = p0 at *
  generalize (y 1).val = p1 at *
  interval_cases p0 <;> interval_cases p1
  · exact .inr (.inr (.inr (h _)))
  · exact .inr (.inr (.inl (h _)))
  · exact .inr (.inl (h _))
  · exact .inl (h _)

/-- The first block's running maximum, over the start value. -/
theorem sA0 (hc0 : cond0_0 i) (hc1 : ¬cond0_1 i) : sout0_A_0 c i arg4 harg4 arg5 harg5 arg6 harg6 arg7 harg7 arg8 harg8 arg9 harg9 arg10 harg10 arg11 harg11 hc0 hc1 x0 x1 x2 x3 x4 = mG x0 x1 (k0_pay9 (F := Ideal)) := by
  frame_open
  simp (disch := decide) only [↓View.readCov_skip, ↓View.readCov_fill]
  frame_out
  funext y
  refine View.canon_append_of_piecesOf (mG x0 x1 (k0_pay9 (F := Ideal))) [_] [_, _, _, _] ⟨?_, ?_, ?_, ?_, trivial⟩ y ?_
  · exact m_piece x0 x1 (k0_pay9 (F := Ideal)) 1 1 _ _ _
  · exact m_piece x0 x1 (k0_pay9 (F := Ideal)) 1 0 _ _ _
  · exact m_piece x0 x1 (k0_pay9 (F := Ideal)) 0 1 _ _ _
  · exact m_piece x0 x1 (k0_pay9 (F := Ideal)) 0 0 _ _ _
  · simpa using cover4 y

/-- The first block's accumulator, over the start values. -/
theorem sA1 (hc0 : cond0_0 i) (hc1 : ¬cond0_1 i) : sout0_A_1 c i arg4 harg4 arg5 harg5 arg6 harg6 arg7 harg7 arg8 harg8 arg9 harg9 arg10 harg10 arg11 harg11 hc0 hc1 x0 x1 x2 x3 x4 = aG x0 x1 x2 (k0_pay9 (F := Ideal)) (k0_pay10 (F := Ideal)) := by
  frame_open
  simp (disch := decide) only [↓View.readCov_skip, ↓View.readCov_fill]
  frame_out
  funext y
  refine View.canon_append_of_piecesOf (aG x0 x1 x2 (k0_pay9 (F := Ideal)) (k0_pay10 (F := Ideal))) [_] [_, _, _, _] ⟨?_, ?_, ?_, ?_, trivial⟩ y ?_
  · exact a_piece x0 x1 x2 (k0_pay9 (F := Ideal)) (k0_pay10 (F := Ideal)) 1 1 _ _ _ _
  · exact a_piece x0 x1 x2 (k0_pay9 (F := Ideal)) (k0_pay10 (F := Ideal)) 1 0 _ _ _ _
  · exact a_piece x0 x1 x2 (k0_pay9 (F := Ideal)) (k0_pay10 (F := Ideal)) 0 1 _ _ _ _
  · exact a_piece x0 x1 x2 (k0_pay9 (F := Ideal)) (k0_pay10 (F := Ideal)) 0 0 _ _ _ _
  · simpa using cover4 y
end Cert.KernelIdeal.Val
-- ==== Proof.OutApply.lean ====
module

public import proofs.«01_k».proof.Proof.Step

@[expose] public section

set_option maxRecDepth 16384
noncomputable section
open Idealize.ShloMosaic Idealize.ShloMosaic.TcCoe Idealize.SL.Sem
namespace Cert.KernelIdeal.Val
open Cert.KernelIdeal Cert.KernelIdeal.Gen

/-- The closing norm, gain and scale of one row. -/
def tailF (o : Fin 64 → EReal) (g : Fin 64 → EReal) (e : Fin 64) : EReal :=
  o e * Ideal.rsqrt (Ideal.div (∑ x, o x * o x) (Ideal.ofBits FTy.f32 1115684864#32) + Ideal.ofBits FTy.f32 897988541#32)
    * g e * Ideal.ofBits FTy.f32 1059388764#32

/-- The lambda of the layer from its four parameter rows. -/
def lamF (p : Fin 4 → Fin 32 → EReal) : EReal :=
  Ideal.exp (∑ x, p 0 x * p 1 x) - Ideal.exp (∑ x, p 2 x * p 3 x) + Ideal.ofBits FTy.f32 1052116297#32

/-- The difference of the two normalised accumulators of one row. -/
def difF (l : EReal) (a0 a1 : Fin 128 → EReal) (e : Fin 64) : EReal :=
  Ideal.div (a0 ⟨e.val, by omega⟩) (a0 64) - l * Ideal.div (a1 ⟨e.val, by omega⟩) (a1 64)

/-- The kernel's lambda. -/
theorem p_apply (p : Vec Ideal S4x32 .f32) : (k0_pay5 p (ix2 0 0) : EReal) = lamF fun i x => p (ix2 i x) := by
  unfold lamF
  pointwise [k0_pay5]

/-- The kernel's closing step at one index. -/
theorem o_apply (p : Vec Ideal S4x32 .f32) (a0 a1 : Vec Ideal S1x1x512x128 .f32) (g : Vec Ideal S1x64 .f32) (r : Fin 512) (e : Fin 64) :
    (k0_pay7 (k0_pay6 p a0 a1) g (ix4 0 0 r e) : EReal)
      = tailF (difF (lamF fun i x => p (ix2 i x)) (fun l => a0 (ix4 0 0 r l)) (fun l => a1 (ix4 0 0 r l))) (fun e => g (ix2 0 e)) e := by
  rw [← p_apply]
  unfold k0_pay7 k0_pay6 tailF difF
  generalize k0_pay5 p = P
  pointwise

/-- The second head's closing step is the same function. -/
theorem o_head1 (p : Vec Ideal S4x32 .f32) (a0 a1 : Vec Ideal S1x1x512x128 .f32) (g : Vec Ideal S1x64 .f32) :
    k0_pay4 (k0_pay8 (k0_pay5 p) a0 a1 g) = k0_pay7 (k0_pay6 p a0 a1) g := rfl

/-- The kernel's output at head `h`, row `r`, from the scratch array of accumulators. -/
def oF (p : Vec Ideal S4x32 .f32) (g : Vec Ideal S1x64 .f32) (a : Fin 2 → Fin 2 → Fin 512 → Fin 128 → EReal) (h : Fin 2) (r : Fin 512) (e : Fin 64) : EReal :=
  tailF (difF (lamF fun i x => p (ix2 i x)) (a h 0 r) (a h 1 r)) (fun e => g (ix2 0 e)) e

/-- The kernel's output block. -/
def oG (p : Vec Ideal S4x32 .f32) (g : Vec Ideal S1x64 .f32) (a : Fin 2 → Fin 2 → Fin 512 → Fin 128 → EReal) : Vec Ideal S1x2x512x64 .f32 :=
  fun j => oF p g a (j 1) (j 2) (j 3)

/-- Every place of one head's output is a row and a lane. -/
theorem out_eta (x : S1x1x512x64.Idx) : x = ix4 0 0 (x 2) (x 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- One head's output is its block of the output array. -/
theorem o_piece (p : Vec Ideal S4x32 .f32) (g : Vec Ideal S1x64 .f32) (a : Fin 2 → Fin 2 → Fin 512 → Fin 128 → EReal) (h : Fin 2)
    (a0 a1 : Vec Ideal S1x1x512x128 .f32) (h0 : ∀ r l, (a0 (ix4 0 0 r l) : EReal) = a h 0 r l) (h1 : ∀ r l, (a1 (ix4 0 0 r l) : EReal) = a h 1 r l)
    (inb : ∀ k, (![0, h.val, 0, 0] : Fin 4 → ℕ) k + (![1, 1, 512, 64] : Fin 4 → ℕ) k ≤ S1x2x512x64.size k) (x : S1x1x512x64.Idx) :
    k0_pay7 (k0_pay6 p a0 a1) g x = oG p g a ((Rect.unit (s := S1x2x512x64) ![0, h.val, 0, 0] ![1, 1, 512, 64] inb).emb x) := by
  have e : (Rect.unit (s := S1x2x512x64) ![0, h.val, 0, 0] ![1, 1, 512, 64] inb).emb (ix4 0 0 (x 2) (x 3)) = ix4 0 h (x 2) (x 3) := by
    funext a; apply Fin.ext
    match a with
    | ⟨0, _⟩ => rfl
    | ⟨1, _⟩ => show h.val + 1 * 0 = h.val; omega
    | ⟨2, _⟩ => show 0 + 1 * (x 2).val = (x 2).val; omega
    | ⟨3, _⟩ => show 0 + 1 * (x 3).val = (x 3).val; omega
  rw [out_eta x]
  refine (o_apply p a0 a1 g (x 2) (x 3)).trans (Eq.trans ?_ (congrArg (oG p g a) e).symm)
  show _ = oF p g a h (x 2) (x 3)
  unfold oF
  exact congrArg₂ (fun u v => tailF (difF (lamF fun i x => p (ix2 i x)) u v) (fun e => g (ix2 0 e)) (x 3)) (funext fun l => h0 _ l) (funext fun l => h1 _ l)

end Cert.KernelIdeal.Val
-- ==== Proof.CaseB.lean ====
module

public import proofs.«01_k».proof.Proof.OutApply

@[expose] public section

set_option maxRecDepth 16384
noncomputable section
open Idealize.ShloMosaic Idealize.ShloMosaic.TcCoe Idealize.SL.Sem
namespace Cert.KernelIdeal.Val
open Cert.KernelIdeal Cert.KernelIdeal.Gen

variable (c : Dev nD) (i : grid0.Coords) (arg4 : Memref sig .tc .vmem S1x2x2x512x64 .bf16) (harg4 : arg4.IsWhole) (arg5 : Memref sig .tc .vmem S1x2x64x2304 .bf16) (harg5 : arg5.IsWhole) (arg6 : Memref sig .tc .vmem S1x2x2304x128 .bf16) (harg6 : arg6.IsWhole) (arg7 : Memref sig .tc .vmem S4x32 .f32) (harg7 : arg7.IsWhole) (arg8 : Memref sig .tc .vmem S1x64 .f32) (harg8 : arg8.IsWhole) (arg9 : Memref sig .tc .vmem S1x2x512x64 .f32) (harg9 : arg9.IsWhole) (arg10 : Memref sig .tc .vmem S2x2x512x128 .f32) (harg10 : arg10.IsWhole) (arg11 : Memref sig .tc .vmem S2x2x512x128 .f32) (harg11 : arg11.IsWhole)
  (x0 : Vec Ideal S1x2x2x512x64 .bf16) (x1 : Vec Ideal S1x2x64x2304 .bf16) (x2 : Vec Ideal S1x2x2304x128 .bf16) (x3 : Vec Ideal S4x32 .f32) (x4 : Vec Ideal S1x64 .f32) (xs0 : Vec Ideal S2x2x512x128 .f32) (xs1 : Vec Ideal S2x2x512x128 .f32)

/-- The output block lies in the two heads' stores. -/
theorem cover2 (y : S1x2x512x64.Idx) :
    y ∈ (Rect.unit (s := S1x2x512x64) ![0, 1, 0, 0] ![1, 1, 512, 64] inb_S1x2x512x64_S1x1x512x64_0_1_0_0).set
    ∨ y ∈ (Rect.unit (s := S1x2x512x64) ![0, 0, 0, 0] ![1, 1, 512, 64] inb_S1x2x512x64_S1x1x512x64_0_0_0_0).set := by
  rw [Rect.mem_set_unit, Rect.mem_set_unit]
  have h0 : (y 0).val < 1 := (y 0).isLt
  have h1 : (y 1).val < 2 := (y 1).isLt
  have h2 : (y 2).val < 512 := (y 2).isLt
  have h3 : (y 3).val < 64 := (y 3).isLt
  by_cases h : (y 1).val = 0
  · right; intro a
    match a with
    | ⟨0, _⟩ => show 0 ≤ (y 0).val ∧ (y 0).val < 0 + 1; omega
    | ⟨1, _⟩ => show 0 ≤ (y 1).val ∧ (y 1).val < 0 + 1; omega
    | ⟨2, _⟩ => show 0 ≤ (y 2).val ∧ (y 2).val < 0 + 512; omega
    | ⟨3, _⟩ => show 0 ≤ (y 3).val ∧ (y 3).val < 0 + 64; omega
  · left; intro a
    match a with
    | ⟨0, _⟩ => show 0 ≤ (y 0).val ∧ (y 0).val < 0 + 1; omega
    | ⟨1, _⟩ => show 1 ≤ (y 1).val ∧ (y 1).val < 1 + 1; omega
    | ⟨2, _⟩ => show 0 ≤ (y 2).val ∧ (y 2).val < 0 + 512; omega
    | ⟨3, _⟩ => show 0 ≤ (y 3).val ∧ (y 3).val < 0 + 64; omega

/-- The second block's output, over the maximum and the accumulator the first block left. -/
theorem oB (hc0 : ¬cond0_0 i) (hc1 : cond0_1 i) : out0_B_5 c i arg4 harg4 arg5 harg5 arg6 harg6 arg7 harg7 arg8 harg8 arg9 harg9 arg10 harg10 arg11 harg11 hc0 hc1 x0 x1 x2 x3 x4 xs0 xs1
    = oG x3 x4 (aF x0 x1 x2 xs0 xs1) := by
  frame_open
  simp (disch := decide) only [↓View.readCov_skip, ↓View.readCov_fill]
  frame_out
  funext y
  simp (disch := decide) only [View.readCov_cons_toLoadRect, View.readCov_skip]
  refine View.canon_append_of_piecesOf (oG x3 x4 (aF x0 x1 x2 xs0 xs1)) [] [_, _] ⟨?_, ?_, trivial⟩ y ?_
  · exact o_piece x3 x4 (aF x0 x1 x2 xs0 xs1) 1 _ _ (a_slot x0 x1 x2 xs0 xs1 1 0 _ _ _ _) (a_slot x0 x1 x2 xs0 xs1 1 1 _ _ _ _) inb_S1x2x512x64_S1x1x512x64_0_1_0_0
  · exact o_piece x3 x4 (aF x0 x1 x2 xs0 xs1) 0 _ _ (a_slot x0 x1 x2 xs0 xs1 0 0 _ _ _ _) (a_slot x0 x1 x2 xs0 xs1 0 1 _ _ _ _) inb_S1x2x512x64_S1x1x512x64_0_0_0_0
  · simpa using cover2 y
end Cert.KernelIdeal.Val
-- ==== Proof.KVal.lean ====
module

public import proofs.«01_k».proof.Proof.Blocks
public import proofs.«01_k».proof.Proof.CaseA
public import proofs.«01_k».proof.Proof.CaseB

@[expose] public section

set_option maxRecDepth 16384
noncomputable section
open Idealize.ShloMosaic Idealize.ShloMosaic.TcCoe Idealize.SL.Sem
namespace Cert.KernelIdeal.Val
open Cert.KernelIdeal Cert.KernelIdeal.Gen Cert.KernelIdeal.Value
variable (m : (ℓ : Loc nD τ sig) → Buf (Elt Ideal) ℓ)

/-- What the first key half leaves in the running maximum. -/
theorem first_max (c : Dev nD) (t : Fin cfg0.N) (h0 : t.val % 2 = 0) :
    (outsAt0 m c t.val t.isLt).2.1 = mG (iblk m c 0 t) (iblk m c 1 t) (k0_pay9 (F := Ideal)) := by
  have h1 : ¬t.val % 2 = 1 := by omega
  have e := sA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h))
  rw [← e, outsAt0_A m c t h0 h1]

/-- What the first key half leaves in the accumulator. -/
theorem first_acc (c : Dev nD) (t : Fin cfg0.N) (h0 : t.val % 2 = 0) :
    (outsAt0 m c t.val t.isLt).2.2 = aG (iblk m c 0 t) (iblk m c 1 t) (iblk m c 2 t) (k0_pay9 (F := Ideal)) (k0_pay10 (F := Ideal)) := by
  have h1 : ¬t.val % 2 = 1 := by omega
  have e := sA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) ((hcond0_0 t).mpr h0) (fun h => h1 ((hcond0_1 t).mp h))
  rw [← e, outsAt0_A m c t h0 h1]

/-- What the second key half writes out, over what the point before left in the two carried arrays. -/
theorem second_out (c : Dev nD) (t : Fin cfg0.N) (h1 : t.val % 2 = 1) :
    (outsAt0 m c t.val t.isLt).1 = oG (iblk m c 3 t) (iblk m c 4 t) (aF (iblk m c 0 t) (iblk m c 1 t) (iblk m c 2 t)
      (outsAt0 m c (t.val - 1) (by omega)).2.1 (outsAt0 m c (t.val - 1) (by omega)).2.2) := by
  have h0 : ¬t.val % 2 = 0 := by omega
  have e := oB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (outsAt0 m c (t.val - 1) (by omega)).2.1 (outsAt0 m c (t.val - 1) (by omega)).2.2 (fun h => h0 ((hcond0_0 t).mp h)) ((hcond0_1 t).mpr h1)
  rw [← e, outsAt0_B m c t h0 h1]

/-- What the second key half writes out, over the blocks of its own point and of the point before. -/
theorem pair_out (c : Dev nD) (n : ℕ) (hn : 2 * n + 1 < cfg0.N) :
    (outsAt0 m c (2 * n + 1) hn).1 = oG (iblk m c 3 ⟨2 * n + 1, hn⟩) (iblk m c 4 ⟨2 * n + 1, hn⟩)
      (aF (iblk m c 0 ⟨2 * n + 1, hn⟩) (iblk m c 1 ⟨2 * n + 1, hn⟩) (iblk m c 2 ⟨2 * n + 1, hn⟩)
        (mG (iblk m c 0 ⟨2 * n, by omega⟩) (iblk m c 1 ⟨2 * n, by omega⟩) (k0_pay9 (F := Ideal)))
        (aG (iblk m c 0 ⟨2 * n, by omega⟩) (iblk m c 1 ⟨2 * n, by omega⟩) (iblk m c 2 ⟨2 * n, by omega⟩) (k0_pay9 (F := Ideal)) (k0_pay10 (F := Ideal)))) := by
  have e := second_out m c ⟨2 * n + 1, hn⟩ (by show (2 * n + 1) % 2 = 1; omega)
  have e1 := first_max m c ⟨2 * n, by omega⟩ (by show (2 * n) % 2 = 0; omega)
  have e2 := first_acc m c ⟨2 * n, by omega⟩ (by show (2 * n) % 2 = 0; omega)
  rw [← e1, ← e2]
  exact e

/-- The result array at one place: the second half's output block of the place's run. -/
theorem G5_pair (c : Dev nD) (i : S8x4x4096x64.Idx) (hn : 2 * run5Of i + 1 < cfg0.N) :
    G5 m c i = (outsAt0 m c (2 * run5Of i + 1) hn).1 (loc5Of i) := by
  unfold G5
  rw [dif_pos hn, ← outsAt0_sweep]

end Cert.KernelIdeal.Val
-- ==== Proof.Rows.lean ====
module

public import proofs.«01_k».proof.Proof.KVal
public import proofs.«01_k».proof.Proof.Softmax

@[expose] public section

set_option maxRecDepth 16384
noncomputable section
open Idealize.ShloMosaic Idealize.ShloMosaic.TcCoe Idealize.SL.Sem
namespace Cert.KernelIdeal.Val
open Cert.KernelIdeal Cert.KernelIdeal.Gen Cert.KernelIdeal.Value Cert.Soft

/-- The running maximum a block starts from, at one place. -/
theorem start_max (j : S2x2x512x128.Idx) : (k0_pay9 (F := Ideal) j : EReal) = Ideal.ofBits .f32 0xF149F2CA#32 := rfl
/-- The accumulator a block starts from, at one place. -/
theorem start_acc (j : S2x2x512x128.Idx) : (k0_pay10 (F := Ideal) j : EReal) = 0 := by
  show (Ideal.ofBits .f32 0x00000000#32 : EReal) = 0
  exact Ideal.ofBits_zero_f32

/-- A block's maximum is the row's running maximum. -/
theorem mF_mx (x0 : Vec Ideal S1x2x2x512x64 .bf16) (x1 : Vec Ideal S1x2x64x2304 .bf16) (m0 : Vec Ideal S2x2x512x128 .f32) (M : EReal)
    (h w : Fin 2) (r : Fin 512) (l : Fin 128) (hM : (m0 (ix4 h w r l) : EReal) = M) :
    mF x0 x1 m0 h w r l = mx M (fun k => sB x0 x1 h w r k) := by
  unfold mF mx
  rw [hM]

/-- A block's accumulator is the row's accumulator, when the carried maximum is the same on every lane. -/
theorem aF_ac (x0 : Vec Ideal S1x2x2x512x64 .bf16) (x1 : Vec Ideal S1x2x64x2304 .bf16) (x2 : Vec Ideal S1x2x2304x128 .bf16)
    (m0 a0 : Vec Ideal S2x2x512x128 .f32) (M A : EReal) (h w : Fin 2) (r : Fin 512) (l : Fin 128)
    (hM : ∀ l, (m0 (ix4 h w r l) : EReal) = M) (hA : (a0 (ix4 h w r l) : EReal) = A) :
    aF x0 x1 x2 m0 a0 h w r l = ac M A (fun k => sB x0 x1 h w r k) (fun k => x2 (ix4 0 h k l)) := by
  unfold aF ac
  rw [hM l, hA, mF_mx x0 x1 m0 M h w r l (hM l), mF_mx x0 x1 m0 M h w r 0 (hM 0)]

/-- The accumulator after both key halves. -/
theorem aF_two (x0 y0 : Vec Ideal S1x2x2x512x64 .bf16) (x1 y1 : Vec Ideal S1x2x64x2304 .bf16) (x2 y2 : Vec Ideal S1x2x2304x128 .bf16)
    (h w : Fin 2) (r : Fin 512) (l : Fin 128) :
    aF x0 x1 x2 (mG y0 y1 (k0_pay9 (F := Ideal))) (aG y0 y1 y2 (k0_pay9 (F := Ideal)) (k0_pay10 (F := Ideal))) h w r l
      = ac (mx (Ideal.ofBits .f32 0xF149F2CA#32) fun k => sB y0 y1 h w r k)
          (ac (Ideal.ofBits .f32 0xF149F2CA#32) 0 (fun k => sB y0 y1 h w r k) fun k => y2 (ix4 0 h k l))
          (fun k => sB x0 x1 h w r k) (fun k => x2 (ix4 0 h k l)) := by
  refine aF_ac x0 x1 x2 _ _ _ _ h w r l (fun l => ?_) ?_
  · exact mF_mx y0 y1 _ _ h w r l (start_max _)
  · exact aF_ac y0 y1 y2 _ _ _ _ h w r l (fun l => start_max _) (start_acc _)

/-- Two heads' lanes over the whole row: the normalised accumulator is the softmax's weighted sum of the values. -/
theorem soft_row (s v : Fin 4608 → ℝ) :
    Ideal.div (ac (mx (Ideal.ofBits .f32 0xF149F2CA#32) fun k => (s (lo k) : EReal))
      (ac (Ideal.ofBits .f32 0xF149F2CA#32) 0 (fun k => (s (lo k) : EReal)) fun k => (v (lo k) : EReal))
      (fun k => (s (hi k) : EReal)) (fun k => (v (hi k) : EReal)))
      (ac (mx (Ideal.ofBits .f32 0xF149F2CA#32) fun k => (s (lo k) : EReal))
      (ac (Ideal.ofBits .f32 0xF149F2CA#32) 0 (fun k => (s (lo k) : EReal)) fun _ => ((1 : ℝ) : EReal))
      (fun k => (s (hi k) : EReal)) (fun _ => ((1 : ℝ) : EReal)))
      = ((∑ k, Real.exp (s k) / (∑ y, Real.exp (s y)) * v k : ℝ) : EReal) := by
  obtain ⟨M, hM⟩ := online s
  have h1 := hM v
  have h2 := hM fun _ => 1
  rw [h1, h2]
  exact quot s v M

end Cert.KernelIdeal.Val
-- ==== Proof.RefRead.lean ====
module

public import proofs.«01_k».proof.Proof.Gen.ReferenceIdeal.Run
public import Idealize.ShloMosaic.Lib.Pointwise
public import Idealize.ShloMosaic.Lib.Tactic

@[expose] public section

set_option maxRecDepth 16384
noncomputable section
open Idealize.ShloMosaic Idealize.ShloMosaic.TcCoe Idealize.SL.Sem
namespace Cert.ReferenceIdeal.Read
open Cert.ReferenceIdeal Cert.ReferenceIdeal.Gen Cert.ReferenceIdeal.Value

/-- The reference's scores: the queries times the transposed keys. -/
def scores (q : FVec Ideal S8x4x2x4096x64 .bf16) (kt : FVec Ideal S8x4x64x4608 .bf16) : FVec Ideal S8x4x2x4096x4608 .f32 :=
  Host.dotGeneral dot_S8x4x2x4096x64_S8x4x64x4608_S8x4x2x4096x4608_4_2_23_3_01_01 none (extf .f32 q bitsLt_bf16_f32) (extf .f32 kt bitsLt_bf16_f32)

/-- The maximum of each row of scores. -/
def rowmax (s : FVec Ideal S8x4x2x4096x4608 .f32) : FVec Ideal S8x4x2x4096 .f32 :=
  Host.reduce FloatOps.maximumf s (constant S_ .f32 0xFF800000#32) reducesTo_S8x4x2x4096x4608_S8x4x2x4096_d4 h_S_

/-- The shift of each row of scores: its maximum, from minus infinity on. -/
def shift (s : FVec Ideal S8x4x2x4096x4608 .f32) : FVec Ideal S8x4x2x4096 .f32 :=
  maximumf (broadcastInDim S8x4x2x4096 ![] bcast_S_S8x4x2x4096 (constant S_ .f32 0xFF800000#32)) (rowmax s)

/-- The exponentials of the scores less their row's maximum. -/
def expo (s : FVec Ideal S8x4x2x4096x4608 .f32) : FVec Ideal S8x4x2x4096x4608 .f32 :=
  Host.exp (subf s (broadcastInDim S8x4x2x4096x4608 ![0, 1, 2, 3, 4] bcast_S8x4x2x4096x1_S8x4x2x4096x4608_0_1_2_3_4 (broadcastInDim S8x4x2x4096x1 ![0, 1, 2, 3] bcast_S8x4x2x4096_S8x4x2x4096x1_0_1_2_3 (shift s))))

/-- The softmax of the scores: the exponentials over their row's sum. -/
def soft (x : FVec Ideal S8x4x2x4096x4608 .f32) : FVec Ideal S8x4x2x4096x4608 .f32 :=
  Host.divf x (broadcastInDim S8x4x2x4096x4608 ![0, 1, 2, 3, 4] bcast_S8x4x2x4096x1_S8x4x2x4096x4608_0_1_2_3_4 (broadcastInDim S8x4x2x4096x1 ![0, 1, 2, 3] bcast_S8x4x2x4096_S8x4x2x4096x1_0_1_2_3 (Host.reduceAdd x (constant S_ .f32 0x00000000#32) reducesTo_S8x4x2x4096x4608_S8x4x2x4096_d4 h_S_)))

/-- The lambda of the layer from its four parameter rows. -/
def lamb (p : FVec Ideal S4x32 .f32) : FVec Ideal S_ .f32 :=
  addf (subf (Host.exp (Host.reduceAdd (mulf (shapeCast _ (extractStridedSlice S1x32 ![0, 0] p slices_S4x32_S1x32_0_0) shapeCasts_S1x32_S32) (shapeCast _ (extractStridedSlice S1x32 ![1, 0] p slices_S4x32_S1x32_1_0) shapeCasts_S1x32_S32)) (constant S_ .f32 0x00000000#32) reducesTo_S32_S_d0 h_S_)) (Host.exp (Host.reduceAdd (mulf (shapeCast _ (extractStridedSlice S1x32 ![2, 0] p slices_S4x32_S1x32_2_0) shapeCasts_S1x32_S32) (shapeCast _ (extractStridedSlice S1x32 ![3, 0] p slices_S4x32_S1x32_3_0) shapeCasts_S1x32_S32)) (constant S_ .f32 0x00000000#32) reducesTo_S32_S_d0 h_S_))) (constant S_ .f32 0x3EB60549#32)

/-- The difference of the two softmaxes times the values. -/
def mixed (p : FVec Ideal S8x4x2x4096x4608 .f32) (l : FVec Ideal S_ .f32) (v : FVec Ideal S8x4x4608x128 .bf16) : FVec Ideal S8x4x4096x64 .f32 :=
  Host.dotGeneral dot_S8x4x4096x4608_S8x4x4608x64_S8x4x4096x64_3_2_2_3_01_01 none (subf (shapeCast _ (extractStridedSlice S8x4x1x4096x4608 ![0, 0, 0, 0, 0] p slices_S8x4x2x4096x4608_S8x4x1x4096x4608_0_0_0_0_0) shapeCasts_S8x4x1x4096x4608_S8x4x4096x4608) (mulf (broadcastInDim S8x4x4096x4608 ![] bcast_S_S8x4x4096x4608 l) (shapeCast _ (extractStridedSlice S8x4x1x4096x4608 ![0, 0, 1, 0, 0] p slices_S8x4x2x4096x4608_S8x4x1x4096x4608_0_0_1_0_0) shapeCasts_S8x4x1x4096x4608_S8x4x4096x4608))) (extractStridedSlice S8x4x4608x64 ![0, 0, 0, 0] (extf .f32 v bitsLt_bf16_f32) slices_S8x4x4608x128_S8x4x4608x64_0_0_0_0)

/-- The root-mean-square norm of the rows, the gain and the closing scale. -/
def tail (o : FVec Ideal S8x4x4096x64 .f32) (g : FVec Ideal S64 .f32) : FVec Ideal S8x4x4096x64 .f32 :=
  mulf (mulf (mulf o (broadcastInDim S8x4x4096x64 ![0, 1, 2, 3] bcast_S8x4x4096x1_S8x4x4096x64_0_1_2_3 (Host.rsqrt (addf (Host.divf (broadcastInDim S8x4x4096x1 ![0, 1, 2] bcast_S8x4x4096_S8x4x4096x1_0_1_2 (Host.reduceAdd (mulf o o) (constant S_ .f32 0x00000000#32) reducesTo_S8x4x4096x64_S8x4x4096_d3 h_S_)) (broadcastInDim S8x4x4096x1 ![] bcast_S_S8x4x4096x1 (constant S_ .f32 0x42800000#32))) (broadcastInDim S8x4x4096x1 ![] bcast_S_S8x4x4096x1 (constant S_ .f32 0x358637BD#32)))))) (broadcastInDim S8x4x4096x64 ![0, 1, 2, 3] bcast_S1x1x1x64_S8x4x4096x64_0_1_2_3 (broadcastInDim S1x1x1x64 ![3] bcast_S64_S1x1x1x64_3 g))) (broadcastInDim S8x4x4096x64 ![] bcast_S_S8x4x4096x64 (constant S_ .f32 0x3F24FD5C#32))

/-- The reference's result is the named chain. -/
theorem res_eq (m : (ℓ : Loc nD τ sig) → Buf (Elt Ideal) ℓ) (c : Dev nD) : res_main_v54 m c
    = tail (mixed (soft (expo (scores (m ((c.tc : Thread nD τ).loc main_arg0)) (m ((c.tc : Thread nD τ).loc main_arg1)))))
        (lamb (m ((c.tc : Thread nD τ).loc main_arg3))) (m ((c.tc : Thread nD τ).loc main_arg2)))
      (m ((c.tc : Thread nD τ).loc main_arg4)) := rfl

end Cert.ReferenceIdeal.Read
-- ==== Proof.RefApply.lean ====
module

public import proofs.«01_k».proof.Proof.RefRead
public import Idealize.ShloMosaic.Lib.IdealHost
public import Idealize.ShloMosaic.Lib.Pointwise
public import Idealize.ShloMosaic.Lib.Tactic

@[expose] public section

set_option maxRecDepth 16384
noncomputable section
open Idealize.ShloMosaic Idealize.ShloMosaic.TcCoe Idealize.SL.Sem
namespace Cert.ReferenceIdeal.Read
open Cert.ReferenceIdeal Cert.ReferenceIdeal.Gen Cert.ReferenceIdeal.Value

/-- A score is the sum over the head dimension of query times key. -/
theorem scores_apply (q : FVec Ideal S8x4x2x4096x64 .bf16) (kt : FVec Ideal S8x4x64x4608 .bf16) (b : Fin 8) (h : Fin 4) (w : Fin 2)
    (r : Fin 4096) (k : Fin 4608) :
    (scores q kt (ix5 b h w r k) : EReal) = ∑ d : Fin 64, (q (ix5 b h w r d) : EReal) * kt (ix4 b h d k) := by
  pointwise [scores]

/-- A softmax weight is the exponential over the sum of its row. -/
theorem soft_apply (x : FVec Ideal S8x4x2x4096x4608 .f32) (b : Fin 8) (h : Fin 4) (w : Fin 2) (r : Fin 4096) (k : Fin 4608) :
    (soft x (ix5 b h w r k) : EReal) = Ideal.div (x (ix5 b h w r k)) (∑ y : Fin 4608, (x (ix5 b h w r y) : EReal)) := by
  pointwise [soft]

/-- The lambda of the layer as a sum of exponentials of dot products. -/
theorem lamb_apply (p : FVec Ideal S4x32 .f32) (j : S_.Idx) :
    (lamb p j : EReal) = Ideal.exp (∑ x : Fin 32, (p (ix2 0 x) : EReal) * p (ix2 1 x)) - Ideal.exp (∑ x : Fin 32, (p (ix2 2 x) : EReal) * p (ix2 3 x))
      + Ideal.ofBits .f32 0x3EB60549#32 := by
  pointwise [lamb]

/-- A mixed value is the sum over the keys of the difference of the two weights times the value. -/
theorem mixed_apply (p : FVec Ideal S8x4x2x4096x4608 .f32) (l : FVec Ideal S_ .f32) (v : FVec Ideal S8x4x4608x128 .bf16)
    (b : Fin 8) (h : Fin 4) (r : Fin 4096) (e : Fin 64) :
    (mixed p l v (ix4 b h r e) : EReal) = ∑ k : Fin 4608, ((p (ix5 b h 0 r k) : EReal) - l ix0 * p (ix5 b h 1 r k)) * v (ix4 b h k ⟨e.val, by omega⟩) := by
  pointwise [mixed]

/-- The closing norm, gain and scale at one index. -/
theorem tail_apply (o : FVec Ideal S8x4x4096x64 .f32) (g : FVec Ideal S64 .f32) (b : Fin 8) (h : Fin 4) (r : Fin 4096) (e : Fin 64) :
    (tail o g (ix4 b h r e) : EReal) = o (ix4 b h r e) * Ideal.rsqrt (Ideal.div (∑ x : Fin 64, (o (ix4 b h r x) : EReal) * o (ix4 b h r x)) (Ideal.ofBits .f32 0x42800000#32)
      + Ideal.ofBits .f32 0x358637BD#32) * g (ix1 e) * Ideal.ofBits .f32 0x3F24FD5C#32 := by
  pointwise [tail]

/-- The key axis reduces away. -/
theorem red4 : Shape.Reduces S8x4x2x4096x4608 [4] S8x4x2x4096 := by decide

/-- The lifted index puts the key back in the last place. -/
theorem lift4 (b : Fin 8) (h : Fin 4) (w : Fin 2) (r : Fin 4096) (x : Fin 4608) :
    red4.lift (ix4 b h w r) x = ix5 b h w r x := by
  funext a
  match a with
  | ⟨0, _⟩ => rfl
  | ⟨1, _⟩ => rfl
  | ⟨2, _⟩ => rfl
  | ⟨3, _⟩ => rfl
  | ⟨4, _⟩ => rfl

/-- The row maximum of the reference. -/
theorem rowmax_apply (s : FVec Ideal S8x4x2x4096x4608 .f32) (b : Fin 8) (h : Fin 4) (w : Fin 2) (r : Fin 4096) :
    (rowmax s (ix4 b h w r) : EReal)
      = Finset.univ.fold max (Ideal.ofBits .f32 0xFF800000#32) fun x : Fin 4608 => (s (ix5 b h w r x) : EReal) := by
  unfold rowmax
  rw [Host.reduce_eq_fold_single _ s _ _ red4]
  exact congrArg (fun f => Finset.univ.fold max (Ideal.ofBits .f32 0xFF800000#32) f) (funext fun x => congrArg s (lift4 b h w r x))

/-- The elementwise maximum of two row vectors. -/
theorem maxi_apply (A M : FVec Ideal S8x4x2x4096 .f32) (j : S8x4x2x4096.Idx) :
    (maximumf A M j : EReal) = max (A j : EReal) (M j) := rfl

/-- The reference's shift of a row: the larger of minus infinity and the row maximum. -/
theorem shift_apply (s : FVec Ideal S8x4x2x4096x4608 .f32) (j : S8x4x2x4096.Idx) :
    (shift s j : EReal) = max (Ideal.ofBits .f32 0xFF800000#32) (rowmax s j) := by
  unfold shift
  rw [maxi_apply]
  exact congrArg (fun x : EReal => max x (rowmax s j)) (ValueIdx.broadcastInDim_scalar_apply bcast_S_S8x4x2x4096 _ j)

/-- The reference's exponential of a score less its row's shift. -/
theorem expo_apply (s : FVec Ideal S8x4x2x4096x4608 .f32) (b : Fin 8) (h : Fin 4) (w : Fin 2) (r : Fin 4096) (k : Fin 4608) :
    (expo s (ix5 b h w r k) : EReal) = Ideal.exp (s (ix5 b h w r k) - shift s (ix4 b h w r)) := by
  unfold expo
  generalize shift s = M
  pointwise

end Cert.ReferenceIdeal.Read
-- ==== Proof.RefVal.lean ====
module

public import proofs.«01_k».proof.Proof.RefApply
public import proofs.«01_k».proof.Proof.Softmax

@[expose] public section

set_option maxRecDepth 16384
noncomputable section
open Idealize.ShloMosaic Idealize.ShloMosaic.TcCoe Idealize.SL.Sem
namespace Cert.ReferenceIdeal.Read
open Cert.ReferenceIdeal Cert.ReferenceIdeal.Gen Cert.ReferenceIdeal.Value Cert.Soft

/-- On real queries and keys a score is the real sum of products. -/
theorem scores_real (q : FVec Ideal S8x4x2x4096x64 .bf16) (kt : FVec Ideal S8x4x64x4608 .bf16)
    (Q : S8x4x2x4096x64.Idx → ℝ) (K : S8x4x64x4608.Idx → ℝ) (hQ : ∀ j, (q j : EReal) = (Q j : EReal)) (hK : ∀ j, (kt j : EReal) = (K j : EReal))
    (b : Fin 8) (h : Fin 4) (w : Fin 2) (r : Fin 4096) (k : Fin 4608) :
    (scores q kt (ix5 b h w r k) : EReal) = ((∑ d : Fin 64, Q (ix5 b h w r d) * K (ix4 b h d k) : ℝ) : EReal) := by
  rw [scores_apply, ← sum_real]
  refine Finset.sum_congr rfl fun d _ => ?_
  rw [hQ, hK, EReal.coe_mul]

/-- On real scores the softmax weight of a key is the exponential over the sum of the exponentials. -/
theorem weight_real (s : FVec Ideal S8x4x2x4096x4608 .f32) (b : Fin 8) (h : Fin 4) (w : Fin 2) (r : Fin 4096) (t : Fin 4608 → ℝ)
    (ht : ∀ k, (s (ix5 b h w r k) : EReal) = (t k : EReal)) (k : Fin 4608) :
    (soft (expo s) (ix5 b h w r k) : EReal) = ((Real.exp (t k) / ∑ y, Real.exp (t y) : ℝ) : EReal) := by
  rw [soft_apply]
  simp only [expo_apply, shift_apply, ht]
  refine weight t _ ?_ k
  rw [rowmax_apply]
  simp only [ht]

/-- On real parameters the lambda is real. -/
theorem lamb_real (p : FVec Ideal S4x32 .f32) (P : S4x32.Idx → ℝ) (hP : ∀ j, (p j : EReal) = (P j : EReal)) :
    ∃ L : ℝ, (lamb p ix0 : EReal) = (L : EReal) := by
  obtain ⟨l, hl⟩ := lam_real
  rw [lamb_apply, hl]
  simp only [hP, ← EReal.coe_mul, sum_real, Ideal.exp_coe, ← EReal.coe_sub, ← EReal.coe_add]
  exact ⟨_, rfl⟩

/-- On real weights, lambda and values the mixed row is the difference of the two weighted sums. -/
theorem mixed_real (p : FVec Ideal S8x4x2x4096x4608 .f32) (l : FVec Ideal S_ .f32) (v : FVec Ideal S8x4x4608x128 .bf16)
    (b : Fin 8) (h : Fin 4) (r : Fin 4096) (e : Fin 64) (W0 W1 V : Fin 4608 → ℝ) (L : ℝ)
    (h0 : ∀ k, (p (ix5 b h 0 r k) : EReal) = (W0 k : EReal)) (h1 : ∀ k, (p (ix5 b h 1 r k) : EReal) = (W1 k : EReal))
    (hl : (l ix0 : EReal) = (L : EReal)) (hv : ∀ k, (v (ix4 b h k ⟨e.val, by omega⟩) : EReal) = (V k : EReal)) :
    (mixed p l v (ix4 b h r e) : EReal) = ((∑ k, W0 k * V k : ℝ) : EReal) - (L : EReal) * ((∑ k, W1 k * V k : ℝ) : EReal) := by
  rw [mixed_apply]
  simp only [h0, h1, hl, hv, ← EReal.coe_mul, ← EReal.coe_sub, sum_real]
  refine congrArg (fun x : ℝ => (x : EReal)) ?_
  rw [Finset.mul_sum, ← Finset.sum_sub_distrib]
  exact Finset.sum_congr rfl fun k _ => by ring

end Cert.ReferenceIdeal.Read
-- ==== Proof.Final.lean ====
module

public import proofs.«01_k».proof.Proof.Rows
public import proofs.«01_k».proof.Proof.RefVal

@[expose] public section

set_option maxRecDepth 16384
noncomputable section
open Idealize.ShloMosaic Idealize.ShloMosaic.TcCoe Idealize.SL.Sem
namespace Cert.KernelIdeal.Val
open Cert.KernelIdeal Cert.KernelIdeal.Gen Cert.KernelIdeal.Value Cert.Soft
variable (m : (ℓ : Loc nD τ sig) → Buf (Elt Ideal) ℓ)

/-- A block's score on real queries and keys is the real sum of products. -/
theorem sB_real (c : Dev nD) (t : Fin cfg0.N) (Q : S8x4x2x4096x64.Idx → ℝ) (K : S8x4x64x4608.Idx → ℝ)
    (hQ : ∀ j, (m ((c : Thread nD τ).loc main_arg0) j : EReal) = (Q j : EReal)) (hK : ∀ j, (m ((c : Thread nD τ).loc main_arg1) j : EReal) = (K j : EReal))
    (h w : Fin 2) (r : Fin 512) (k : Fin 2304) (b : Fin 8) (H : Fin 4) (R : Fin 4096) (k' : Fin 4608)
    (hb : b.val = t.val / 32) (hH : H.val = t.val / 16 % 2 * 2 + h.val) (hR : R.val = t.val / 2 % 8 * 512 + r.val) (hk : k'.val = t.val % 2 * 2304 + k.val) :
    sB (iblk m c 0 t) (iblk m c 1 t) h w r k = ((∑ d : Fin 64, Q (ix5 b H w R d) * K (ix4 b H d k') : ℝ) : EReal) := by
  unfold sB
  rw [← sum_real]
  refine Finset.sum_congr rfl fun d _ => ?_
  rw [iblk0 m c t h w r d b H R hb hH hR, iblk1 m c t h d k b H k' hb hH hk, hQ, hK, EReal.coe_mul]

/-- The accumulator after two blocks depends on the two blocks' values only through their entries. -/
theorem ac_congr {M N A : EReal} {s0 s1 a a' b b' : Fin 2304 → EReal} (ha : a = a') (hb : b = b') :
    ac M (ac N A s0 a) s1 b = ac M (ac N A s0 a') s1 b' := by
  rw [ha, hb]

/-- The accumulator of one row, softmax and lane after both key halves, over the real arrays. -/
theorem acc_real (c : Dev nD) (n : ℕ) (hn : 2 * n + 1 < cfg0.N) (Q : S8x4x2x4096x64.Idx → ℝ) (K : S8x4x64x4608.Idx → ℝ) (v : Fin 4608 → ℝ)
    (hQ : ∀ j, (m ((c : Thread nD τ).loc main_arg0) j : EReal) = (Q j : EReal)) (hK : ∀ j, (m ((c : Thread nD τ).loc main_arg1) j : EReal) = (K j : EReal))
    (h w : Fin 2) (r : Fin 512) (l : Fin 128) (b : Fin 8) (H : Fin 4) (R : Fin 4096)
    (hv : ∀ k, (m ((c : Thread nD τ).loc main_arg2) (ix4 b H k l) : EReal) = (v k : EReal))
    (hb : b.val = n / 16) (hH : H.val = n / 8 % 2 * 2 + h.val) (hR : R.val = n % 8 * 512 + r.val) :
    aF (iblk m c 0 ⟨2 * n + 1, hn⟩) (iblk m c 1 ⟨2 * n + 1, hn⟩) (iblk m c 2 ⟨2 * n + 1, hn⟩)
        (mG (iblk m c 0 ⟨2 * n, by omega⟩) (iblk m c 1 ⟨2 * n, by omega⟩) (k0_pay9 (F := Ideal)))
        (aG (iblk m c 0 ⟨2 * n, by omega⟩) (iblk m c 1 ⟨2 * n, by omega⟩) (iblk m c 2 ⟨2 * n, by omega⟩) (k0_pay9 (F := Ideal)) (k0_pay10 (F := Ideal))) h w r l
      = ac (mx (Ideal.ofBits .f32 0xF149F2CA#32) fun k => ((∑ d : Fin 64, Q (ix5 b H w R d) * K (ix4 b H d (lo k)) : ℝ) : EReal))
          (ac (Ideal.ofBits .f32 0xF149F2CA#32) 0 (fun k => ((∑ d : Fin 64, Q (ix5 b H w R d) * K (ix4 b H d (lo k)) : ℝ) : EReal)) fun k => (v (lo k) : EReal))
          (fun k => ((∑ d : Fin 64, Q (ix5 b H w R d) * K (ix4 b H d (hi k)) : ℝ) : EReal)) (fun k => (v (hi k) : EReal)) := by
  rw [aF_two]
  have e0 : (fun k => sB (iblk m c 0 ⟨2 * n, by omega⟩) (iblk m c 1 ⟨2 * n, by omega⟩) h w r k)
      = fun k => ((∑ d : Fin 64, Q (ix5 b H w R d) * K (ix4 b H d (lo k)) : ℝ) : EReal) := funext fun k =>
    sB_real m c ⟨2 * n, by omega⟩ Q K hQ hK h w r k b H R (lo k) (by show b.val = 2 * n / 32; omega) (by show H.val = 2 * n / 16 % 2 * 2 + h.val; omega)
      (by show R.val = 2 * n / 2 % 8 * 512 + r.val; omega) (by show k.val = 2 * n % 2 * 2304 + k.val; omega)
  have e1 : (fun k => sB (iblk m c 0 ⟨2 * n + 1, hn⟩) (iblk m c 1 ⟨2 * n + 1, hn⟩) h w r k)
      = fun k => ((∑ d : Fin 64, Q (ix5 b H w R d) * K (ix4 b H d (hi k)) : ℝ) : EReal) := funext fun k =>
    sB_real m c ⟨2 * n + 1, hn⟩ Q K hQ hK h w r k b H R (hi k) (by show b.val = (2 * n + 1) / 32; omega) (by show H.val = (2 * n + 1) / 16 % 2 * 2 + h.val; omega)
      (by show R.val = (2 * n + 1) / 2 % 8 * 512 + r.val; omega) (by show 2304 + k.val = (2 * n + 1) % 2 * 2304 + k.val; omega)
  have v0 : (fun k => ((iblk m c 2 ⟨2 * n, by omega⟩ : Vec Ideal S1x2x2304x128 .bf16) (ix4 0 h k l) : EReal)) = fun k => (v (lo k) : EReal) := funext fun k =>
    (iblk2 m c ⟨2 * n, by omega⟩ h k l b H (lo k) (by show b.val = 2 * n / 32; omega) (by show H.val = 2 * n / 16 % 2 * 2 + h.val; omega)
      (by show k.val = 2 * n % 2 * 2304 + k.val; omega)).trans (hv _)
  have v1 : (fun k => ((iblk m c 2 ⟨2 * n + 1, hn⟩ : Vec Ideal S1x2x2304x128 .bf16) (ix4 0 h k l) : EReal)) = fun k => (v (hi k) : EReal) := funext fun k =>
    (iblk2 m c ⟨2 * n + 1, hn⟩ h k l b H (hi k) (by show b.val = (2 * n + 1) / 32; omega) (by show H.val = (2 * n + 1) / 16 % 2 * 2 + h.val; omega)
      (by show 2304 + k.val = (2 * n + 1) % 2 * 2304 + k.val; omega)).trans (hv _)
  rw [e0, e1]
  exact ac_congr v0 v1

/-- The normalised accumulator is the softmax's weighted sum of the values, when the lane of the denominator holds ones. -/
theorem norm_real (c : Dev nD) (n : ℕ) (hn : 2 * n + 1 < cfg0.N) (Q : S8x4x2x4096x64.Idx → ℝ) (K : S8x4x64x4608.Idx → ℝ) (v : Fin 4608 → ℝ)
    (hQ : ∀ j, (m ((c : Thread nD τ).loc main_arg0) j : EReal) = (Q j : EReal)) (hK : ∀ j, (m ((c : Thread nD τ).loc main_arg1) j : EReal) = (K j : EReal))
    (h w : Fin 2) (r : Fin 512) (l : Fin 128) (b : Fin 8) (H : Fin 4) (R : Fin 4096)
    (hv : ∀ k, (m ((c : Thread nD τ).loc main_arg2) (ix4 b H k l) : EReal) = (v k : EReal))
    (h1 : ∀ k, (m ((c : Thread nD τ).loc main_arg2) (ix4 b H k 64) : EReal) = ((1 : ℝ) : EReal))
    (hb : b.val = n / 16) (hH : H.val = n / 8 % 2 * 2 + h.val) (hR : R.val = n % 8 * 512 + r.val) (a : Fin 128 → EReal)
    (ha : ∀ l, a l = aF (iblk m c 0 ⟨2 * n + 1, hn⟩) (iblk m c 1 ⟨2 * n + 1, hn⟩) (iblk m c 2 ⟨2 * n + 1, hn⟩)
        (mG (iblk m c 0 ⟨2 * n, by omega⟩) (iblk m c 1 ⟨2 * n, by omega⟩) (k0_pay9 (F := Ideal)))
        (aG (iblk m c 0 ⟨2 * n, by omega⟩) (iblk m c 1 ⟨2 * n, by omega⟩) (iblk m c 2 ⟨2 * n, by omega⟩) (k0_pay9 (F := Ideal)) (k0_pay10 (F := Ideal))) h w r l) :
    Ideal.div (a l) (a 64) = ((∑ k, Real.exp (∑ d : Fin 64, Q (ix5 b H w R d) * K (ix4 b H d k))
      / (∑ y, Real.exp (∑ d : Fin 64, Q (ix5 b H w R d) * K (ix4 b H d y))) * v k : ℝ) : EReal) := by
  rw [ha, ha, acc_real m c n hn Q K v hQ hK h w r l b H R hv hb hH hR, acc_real m c n hn Q K (fun _ => 1) hQ hK h w r 64 b H R h1 hb hH hR]
  exact soft_row (fun k => ∑ d : Fin 64, Q (ix5 b H w R d) * K (ix4 b H d k)) v

end Cert.KernelIdeal.Val
-- ==== Proof.Tie.lean ====
module

public import proofs.«01_k».proof.Proof.Final

@[expose] public section

set_option maxRecDepth 16384
noncomputable section
open Idealize.ShloMosaic Idealize.ShloMosaic.TcCoe Idealize.SL.Sem
namespace Cert.KernelIdeal.Val
open Cert.KernelIdeal Cert.KernelIdeal.Gen Cert.KernelIdeal.Value Cert.Soft
variable (m : (ℓ : Loc nD τ sig) → Buf (Elt Ideal) ℓ)

/-- The kernel's and the reference's lambda are the same expression of the four rows. -/
theorem lam_same (p : FVec Ideal S4x32 .f32) : lamF (fun i x => p (ix2 i x)) = Cert.ReferenceIdeal.Read.lamb p ix0 := by
  rw [Cert.ReferenceIdeal.Read.lamb_apply]
  rfl

/-- The kernel's and the reference's closing norm are the same function of the row. -/
theorem tail_same (o : FVec Ideal S8x4x4096x64 .f32) (g : FVec Ideal S64 .f32) (b : Fin 8) (h : Fin 4) (r : Fin 4096) (e : Fin 64) (f : Fin 64 → EReal)
    (hf : ∀ x, f x = o (ix4 b h r x)) : tailF f (fun e => g (ix1 e)) e = Cert.ReferenceIdeal.Read.tail o g (ix4 b h r e) := by
  rw [Cert.ReferenceIdeal.Read.tail_apply]
  unfold tailF
  simp only [hf]

/-- The kernel's result at one place is the reference's, on real arrays whose value lane 64 holds ones. -/
theorem tie_at (c : Dev nD) (Q : S8x4x2x4096x64.Idx → ℝ) (K : S8x4x64x4608.Idx → ℝ) (V : S8x4x4608x128.Idx → ℝ) (P : S4x32.Idx → ℝ)
    (hQ : ∀ j, (m ((c : Thread nD τ).loc main_arg0) j : EReal) = (Q j : EReal)) (hK : ∀ j, (m ((c : Thread nD τ).loc main_arg1) j : EReal) = (K j : EReal))
    (hV : ∀ j, (m ((c : Thread nD τ).loc main_arg2) j : EReal) = (V j : EReal)) (hP : ∀ j, (m ((c : Thread nD τ).loc main_arg3) j : EReal) = (P j : EReal))
    (h1 : ∀ (a : Fin 8) (b : Fin 4) (k : Fin 4608), (m ((c : Thread nD τ).loc main_arg2) (ix4 a b k 64) : EReal) = ((1 : ℝ) : EReal))
    (b : Fin 8) (h : Fin 4) (r : Fin 4096) (e : Fin 64) :
    (Cert.ReferenceIdeal.Read.tail (Cert.ReferenceIdeal.Read.mixed (Cert.ReferenceIdeal.Read.soft (Cert.ReferenceIdeal.Read.expo
        (Cert.ReferenceIdeal.Read.scores (m ((c : Thread nD τ).loc main_arg0)) (m ((c : Thread nD τ).loc main_arg1)))))
        (Cert.ReferenceIdeal.Read.lamb (m ((c : Thread nD τ).loc main_arg3))) (m ((c : Thread nD τ).loc main_arg2)))
      (m ((c : Thread nD τ).loc main_arg4)) (ix4 b h r e) : EReal) = G5 m c (ix4 b h r e) := by
  have hrun : run5Of (ix4 b h r e) = 16 * b.val + 8 * (h.val / 2) + r.val / 512 := by
    show 16 * (b.val / 1 - 0) + 8 * (h.val / 2 - 0) + 1 * (r.val / 512 - 0) + 1 * (e.val / 64 - 0) = _
    omega
  have hlt : 2 * run5Of (ix4 b h r e) + 1 < cfg0.N := by
    have hN : cfg0.N = 256 := N_0
    rw [hrun, hN]; omega
  rw [G5_pair m c _ hlt, pair_out]
  generalize run5Of (ix4 b h r e) = n at *
  obtain ⟨L, hL⟩ := Cert.ReferenceIdeal.Read.lamb_real (m ((c : Thread nD τ).loc main_arg3)) P hP
  have hp3 : (fun (i : Fin 4) (x : Fin 32) => ((iblk m c 3 ⟨2 * n + 1, hlt⟩ : Vec Ideal S4x32 .f32) (ix2 i x) : EReal))
      = fun i x => m ((c : Thread nD τ).loc main_arg3) (ix2 i x) := funext fun i => funext fun x => iblk3 m c _ i x
  have hp4 : (fun (e : Fin 64) => ((iblk m c 4 ⟨2 * n + 1, hlt⟩ : Vec Ideal S1x64 .f32) (ix2 0 e) : EReal))
      = fun e => m ((c : Thread nD τ).loc main_arg4) (ix1 e) := funext fun e => iblk4 m c _ e
  symm
  show oF _ _ _ (⟨h.val % 2, by omega⟩ : Fin 2) (⟨r.val % 512, by omega⟩ : Fin 512) (⟨e.val % 64, by omega⟩ : Fin 64) = _
  have he : (⟨e.val % 64, by omega⟩ : Fin 64) = e := Fin.ext (by show e.val % 64 = e.val; omega)
  rw [he]
  unfold oF
  rw [hp3, hp4, lam_same]
  refine tail_same _ _ b h r e _ fun x => ?_
  rw [Cert.ReferenceIdeal.Read.mixed_real _ _ _ b h r x _ _ (fun k => V (ix4 b h k ⟨x.val, by omega⟩)) L
    (fun k => Cert.ReferenceIdeal.Read.weight_real _ b h 0 r _ (fun k => Cert.ReferenceIdeal.Read.scores_real _ _ Q K hQ hK b h 0 r k) k)
    (fun k => Cert.ReferenceIdeal.Read.weight_real _ b h 1 r _ (fun k => Cert.ReferenceIdeal.Read.scores_real _ _ Q K hQ hK b h 1 r k) k)
    hL (fun k => hV _)]
  unfold difF
  have hb : b.val = n / 16 := by omega
  have hH : h.val = n / 8 % 2 * 2 + h.val % 2 := by omega
  have hR : r.val = n % 8 * 512 + r.val % 512 := by omega
  rw [norm_real m c n hlt Q K _ hQ hK ⟨h.val % 2, by omega⟩ 0 ⟨r.val % 512, by omega⟩ ⟨x.val, by omega⟩ b h r (fun k => hV _) (fun k => h1 b h k) hb hH hR _ (fun l => rfl),
    norm_real m c n hlt Q K _ hQ hK ⟨h.val % 2, by omega⟩ 1 ⟨r.val % 512, by omega⟩ ⟨x.val, by omega⟩ b h r (fun k => hV _) (fun k => h1 b h k) hb hH hR _ (fun l => rfl), hL]

/-- The kernel's result array is the reference's, on real arrays whose value lane 64 holds ones. -/
theorem tie (c : Dev nD)
    (hQ : ∀ j, ∃ x : ℝ, (m ((c : Thread nD τ).loc main_arg0) j : EReal) = (x : EReal)) (hK : ∀ j, ∃ x : ℝ, (m ((c : Thread nD τ).loc main_arg1) j : EReal) = (x : EReal))
    (hV : ∀ j, ∃ x : ℝ, (m ((c : Thread nD τ).loc main_arg2) j : EReal) = (x : EReal)) (hP : ∀ j, ∃ x : ℝ, (m ((c : Thread nD τ).loc main_arg3) j : EReal) = (x : EReal))
    (h1 : ∀ (a : Fin 8) (b : Fin 4) (k : Fin 4608), (m ((c : Thread nD τ).loc main_arg2) (ix4 a b k 64) : EReal) = (1 : EReal)) :
    Cert.ReferenceIdeal.Read.tail (Cert.ReferenceIdeal.Read.mixed (Cert.ReferenceIdeal.Read.soft (Cert.ReferenceIdeal.Read.expo
        (Cert.ReferenceIdeal.Read.scores (m ((c : Thread nD τ).loc main_arg0)) (m ((c : Thread nD τ).loc main_arg1)))))
        (Cert.ReferenceIdeal.Read.lamb (m ((c : Thread nD τ).loc main_arg3))) (m ((c : Thread nD τ).loc main_arg2)))
      (m ((c : Thread nD τ).loc main_arg4)) = G5 m c := by
  choose Q hQ using hQ
  choose K hK using hK
  choose V hV using hV
  choose P hP using hP
  funext j
  have hj : j = ix4 (n0 := 8) (n1 := 4) (n2 := 4096) (n3 := 64) (j 0) (j 1) (j 2) (j 3) := by
    funext a
    match a with
    | ⟨0, _⟩ => rfl
    | ⟨1, _⟩ => rfl
    | ⟨2, _⟩ => rfl
    | ⟨3, _⟩ => rfl
  rw [hj]
  exact tie_at m c Q K V P hQ hK hV hP (fun a b k => (h1 a b k).trans EReal.coe_one.symm) (j 0) (j 1) (j 2) (j 3)

end Cert.KernelIdeal.Val
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_finite_and_ones
public import proofs.«01_k».proof.Proof.Gen.ReferenceIdeal.Run
public import proofs.«01_k».proof.Proof.PreRead
public import proofs.«01_k».proof.Proof.Gen.Kernel2.Frame
public import proofs.«01_k».proof.Proof.Gen.Kernel3.Frame
public import proofs.«01_k».proof.Proof.MoeOk
public import proofs.«01_k».proof.Proof.MoeTie
public import proofs.«01_k».proof.Proof.Gen.Reference4Ideal.Run
public import proofs.«01_k».proof.Proof.Gen.Pre_experts_in_range
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Pre_finite_heads
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Pre_finite_keys
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.PoutPre
public import proofs.«01_k».proof.Proof.PrepPre
public import proofs.«01_k».proof.Proof.PrepTie
public import proofs.«01_k».proof.Proof.PoutTie
public import proofs.«01_k».proof.Proof.ModTie
public import proofs.«01_k».proof.Proof.ConvTie
public import proofs.«01_k».proof.Proof.ValTie
public import proofs.«01_k».proof.Proof.FfnTie
public import proofs.«01_k».proof.Proof.PinTie
public import proofs.«01_k».proof.Proof.Tie
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference runs, nothing faulting, and leaves its arguments and every counter as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference does so on the arguments of the precondition too. -/
theorem quiescent_ReferenceIdeal_pre : quiescent_ReferenceIdeal_pre_finite_and_ones := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention kernel's result is the reference's. -/
theorem algebraic_attention : algebraic_KernelIdeal_ReferenceIdeal_pre_finite_and_ones := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4⟩ := hagree c
  obtain ⟨hQ, hK, hV, hP, h1⟩ := Cert.PreRead.read _ _ _ _ _ (congrFun (hpre c) ix0)
  rw [(h c).1, Cert.ReferenceIdeal.Read.res_eq, a0, a1, a2, a3, a4]
  exact Cert.KernelIdeal.Val.tie m c hQ hK hV hP h1

/-- The feed-forward reference runs, nothing faulting, and leaves its arguments and every counter as they were. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The input projection reference runs, nothing faulting, and leaves its arguments and every counter as they were. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The experts' reference runs, nothing faulting, and leaves its arguments and every counter as they were. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Read.run_all m ρ)

/-- It does so on the arguments of the precondition too. -/
theorem quiescent_Reference4Ideal_pre : quiescent_Reference4Ideal_pre_experts_in_range := fun m ρ _ =>
  (θ_run Cert.Reference4Ideal.defs _ _).mono (fun r h => ⟨fun c => (h c).2, sem_eq_zero_of_no_sems (by decide) r.2⟩)
    (Cert.Reference4Ideal.Read.run_all m ρ)

/-- The feed-forward kernel's result is the reference's. -/
theorem algebraic_ffn : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  obtain ⟨a0, a1, a2, a3, a4, a5⟩ := hagree c
  rw [(h c).1, Cert.Reference2Ideal.Read.res_eq, a0, a1, a2, a3, a4, a5]
  exact Cert.Kernel2Ideal.Val.tie m c

/-- The input projection kernel's result is the reference's. -/
theorem algebraic_pin : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  obtain ⟨a0, a1, a2, a3⟩ := hagree c
  rw [(h c).1, a0, a1, a2, a3]
  exact Cert.Kernel3Ideal.Val.tie m c

/-- The experts' kernel's result is the reference's, when every tile's expert is one of the eight. -/
theorem algebraic_moe : algebraic_Kernel4Ideal_Reference4Ideal := by
  intro m ρ m' ρ' hpre hagree
  have hO : Cert.Kernel4Ideal.Moe.Ok m := Cert.Kernel4Ideal.Moe.ok_range m hpre
  refine ⟨_, (θ_run Cert.Kernel4Ideal.defs _ _).mono (fun _ h => h.1) (Cert.Kernel4Ideal.Moe.run m ρ hO), ?_⟩
  refine (θ_run Cert.Reference4Ideal.defs _ _).mono (fun _ h c => ⟨?_, (h c).2⟩) (Cert.Reference4Ideal.Read.run_all m' ρ')
  obtain ⟨a0, a1, a2, a3, a4, a5⟩ := hagree c
  rw [(h c).1, a0, a1, a2, a3, a4, a5]
  exact Cert.Kernel4Ideal.Val.tie m (fun t => Cert.Kernel4Ideal.Moe.range m 0 (hpre 0) t) hO c

/-- The output projection reference runs, nothing faulting, and leaves its arguments and every counter as they were. -/
theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- It does so on the arguments of the precondition too. -/
theorem quiescent_Reference5Ideal_pre : quiescent_Reference5Ideal_pre_finite_heads := fun m ρ _ =>
  (θ_run Cert.Reference5Ideal.defs _ _).mono (fun r h => ⟨fun c => (h c).2, sem_eq_zero_of_no_sems (by decide) r.2⟩)
    (Cert.Reference5Ideal.Value.run (F := Ideal) m ρ)

/-- The output projection kernel's result is the reference's, when the recurrences' outputs are finite. -/
theorem algebraic_pout : algebraic_Kernel5Ideal_Reference5Ideal_pre_finite_heads := by
  intro m ρ m' ρ' hpre hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  obtain ⟨a0, a1, a2, a3, a4, a5, a6, a7, a8, a9, a10, a11⟩ := hagree c
  obtain ⟨f0, f1, f5, f6⟩ := Cert.Pout.pre_read _ _ _ _ _ _ _ _ _ _ _ _ (congrFun (hpre c) ix0)
  rw [(h c).1, Cert.Reference5Ideal.Read.res_eq, a0, a1, a2, a3, a4, a5, a6, a7, a8, a9, a10, a11]
  exact Cert.Kernel5Ideal.Val.tie m c f0 f1 f5 f6

/-- The keys' reference runs, nothing faulting, and leaves its arguments and every counter as they were. -/
theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- It does so on the arguments of the precondition too. -/
theorem quiescent_Reference6Ideal_pre : quiescent_Reference6Ideal_pre_finite_keys := fun m ρ _ =>
  (θ_run Cert.Reference6Ideal.defs _ _).mono (fun r h => ⟨fun c => (h c).2, sem_eq_zero_of_no_sems (by decide) r.2⟩)
    (Cert.Reference6Ideal.Value.run (F := Ideal) m ρ)

/-- The normed keys of the preparation kernel are the reference's, when the projection's keys are finite. -/
theorem algebraic_prep : algebraic_Kernel6Ideal_Reference6Ideal_pre_finite_keys := by
  intro m ρ m' ρ' hpre hagree
  refine ⟨_, (θ_run Cert.Kernel6Ideal.defs _ _).mono (fun _ h c => (h c).2.2.2) (Cert.Kernel6Ideal.Value.run_blocks (F := Ideal) m ρ), ?_⟩
  refine (θ_run Cert.Reference6Ideal.defs _ _).mono (fun _ h c => ⟨?_, (h c).2⟩) (Cert.Reference6Ideal.Value.run (F := Ideal) m' ρ')
  obtain ⟨a0, a1, a2⟩ := hagree c
  have hz := Cert.Prep.pre_read _ _ _ (congrFun (hpre c) ix0)
  rw [(h c).1, a0, a2]
  exact Cert.Kernel6Ideal.Val.tie m c hz

/-- The modulation's reference runs, nothing faulting, and leaves its arguments and every counter as they were. -/
theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The modulation kernel's result is the reference's. -/
theorem algebraic_mod : algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  obtain ⟨a0, a1, a2⟩ := hagree c
  rw [(h c).1, a0, a1, a2]
  exact Cert.Kernel7Ideal.Val.tie m c

/-- The short convolution's reference runs, nothing faulting, and leaves its arguments and every counter as they were. -/
theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The short convolution kernel's first result is the reference's. -/
theorem algebraic_conv : algebraic_Kernel8Ideal_Reference8Ideal := by
  intro m ρ m' ρ' _ hagree
  refine ⟨_, (θ_run Cert.Kernel8Ideal.defs _ _).mono (fun _ h c => ⟨(h c).1, (h c).2.2⟩) (Cert.Kernel8Ideal.Value.run_blocks (F := Ideal) m ρ), ?_⟩
  refine (θ_run Cert.Reference8Ideal.defs _ _).mono (fun _ h c => ⟨?_, (h c).2⟩) (Cert.Reference8Ideal.Value.run (F := Ideal) m' ρ')
  obtain ⟨a0, a1⟩ := hagree c
  rw [(h c).1, a0, a1]
  exact Cert.Kernel8Ideal.Val.tie m c

/-- Everything the certificate claims. -/
theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic_val : algebraic_Kernel9Ideal_Reference9Ideal := by
  intro m ρ m' ρ' _ hagree
  refine ⟨_, Cert.Kernel9Ideal.Val.run m ρ, ?_⟩
  refine (θ_run Cert.Reference9Ideal.defs _ _).mono (fun _ h c => ⟨?_, (h c).2⟩) (Cert.Reference9Ideal.Value.run (F := Ideal) m' ρ')
  obtain ⟨a0, a1, a2, a3⟩ := hagree c
  rw [(h c).1, a0, a1, a2, a3]
  exact Cert.Kernel9Ideal.Val.tie m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite_and_ones.Gen.facts, Cert.Pre_experts_in_range.Gen.facts, Cert.Pre_finite_heads.Gen.facts, Cert.Pre_finite_keys.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ h => Cert.Kernel4.Moe.frame m ρ (Cert.Kernel4.Moe.ok_range m h), fun m ρ h => Cert.Kernel4Ideal.Moe.frame m ρ (Cert.Kernel4Ideal.Moe.ok_range m h),
  quiescent_Reference4Ideal, quiescent_Reference4Ideal_pre,
  fun m ρ _ => Cert.Kernel5.Gen.frame m ρ, fun m ρ _ => Cert.Kernel5Ideal.Gen.frame m ρ, fun m ρ _ => Cert.Kernel5Ideal.Gen.frame m ρ,
  quiescent_Reference5Ideal, quiescent_Reference5Ideal_pre,
  fun m ρ _ => Cert.Kernel6.Gen.frame m ρ, fun m ρ _ => Cert.Kernel6Ideal.Gen.frame m ρ, fun m ρ _ => Cert.Kernel6Ideal.Gen.frame m ρ,
  quiescent_Reference6Ideal, quiescent_Reference6Ideal_pre,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  fun m ρ _ => Cert.Kernel9.Gen.frame m ρ, fun m ρ _ => Cert.Kernel9Ideal.Gen.frame m ρ, quiescent_Reference9Ideal,
  (trivial : preserves_Kernel_KernelIdeal), algebraic_attention,
  (trivial : preserves_Kernel2_Kernel2Ideal), algebraic_ffn,
  (trivial : preserves_Kernel3_Kernel3Ideal), algebraic_pin,
  (trivial : preserves_Kernel4_Kernel4Ideal), algebraic_moe,
  (trivial : preserves_Kernel5_Kernel5Ideal), algebraic_pout,
  (trivial : preserves_Kernel6_Kernel6Ideal), algebraic_prep,
  (trivial : preserves_Kernel7_Kernel7Ideal), algebraic_mod,
  (trivial : preserves_Kernel8_Kernel8Ideal), algebraic_conv,
  (trivial : preserves_Kernel9_Kernel9Ideal), algebraic_val⟩

end Cert.Proof

end
